-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_rows [hPre_ids_in_rows : Cert.Pre_ids_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Candidates (m : (ℓ : Loc Cert.Candidates.nD Cert.Candidates.τ Cert.Candidates.sig) → Buf (Elt Bits) ℓ) : Prop :=
  True

def Pre_CandidatesIdeal (m : (ℓ : Loc Cert.CandidatesIdeal.nD Cert.CandidatesIdeal.τ Cert.CandidatesIdeal.sig) → Buf (Elt Ideal) ℓ) : Prop :=
  True

def Pre_CandidatesIdeal_finite [hPre_finite : Cert.Pre_finite.Facts] (m : (ℓ : Loc Cert.CandidatesIdeal.nD Cert.CandidatesIdeal.τ Cert.CandidatesIdeal.sig) → Buf (Elt Ideal) ℓ) : Prop :=
  ∀ c : Dev Cert.CandidatesIdeal.nD,
    (Cert.Pre_finite.fn (F := Ideal) (m ((c.tc : Thread Cert.CandidatesIdeal.nD Cert.CandidatesIdeal.τ).loc Cert.CandidatesIdeal.main_arg0)) (m ((c.tc : Thread Cert.CandidatesIdeal.nD Cert.CandidatesIdeal.τ).loc Cert.CandidatesIdeal.main_arg1))) = (fun _ => 1#1)

def Pre_CandidatesReferenceIdeal (m : (ℓ : Loc Cert.CandidatesReferenceIdeal.nD Cert.CandidatesReferenceIdeal.τ Cert.CandidatesReferenceIdeal.sig) → Buf (Elt Ideal) ℓ) : Prop :=
  True

def Pre_CandidatesReferenceIdeal_finite [hPre_finite : Cert.Pre_finite.Facts] (m : (ℓ : Loc Cert.CandidatesReferenceIdeal.nD Cert.CandidatesReferenceIdeal.τ Cert.CandidatesReferenceIdeal.sig) → Buf (Elt Ideal) ℓ) : Prop :=
  ∀ c : Dev Cert.CandidatesReferenceIdeal.nD,
    (Cert.Pre_finite.fn (F := Ideal) (m ((c.tc : Thread Cert.CandidatesReferenceIdeal.nD Cert.CandidatesReferenceIdeal.τ).loc Cert.CandidatesReferenceIdeal.main_arg0)) (m ((c.tc : Thread Cert.CandidatesReferenceIdeal.nD Cert.CandidatesReferenceIdeal.τ).loc Cert.CandidatesReferenceIdeal.main_arg1))) = (fun _ => 1#1)

def Pre_Threshold (m : (ℓ : Loc Cert.Threshold.nD Cert.Threshold.τ Cert.Threshold.sig) → Buf (Elt Bits) ℓ) : Prop :=
  True

def Pre_ThresholdIdeal (m : (ℓ : Loc Cert.ThresholdIdeal.nD Cert.ThresholdIdeal.τ Cert.ThresholdIdeal.sig) → Buf (Elt Ideal) ℓ) : Prop :=
  True

def Pre_ThresholdIdeal_distinct [hPre_distinct : Cert.Pre_distinct.Facts] (m : (ℓ : Loc Cert.ThresholdIdeal.nD Cert.ThresholdIdeal.τ Cert.ThresholdIdeal.sig) → Buf (Elt Ideal) ℓ) : Prop :=
  ∀ c : Dev Cert.ThresholdIdeal.nD,
    (Cert.Pre_distinct.fn (F := Ideal) (m ((c.tc : Thread Cert.ThresholdIdeal.nD Cert.ThresholdIdeal.τ).loc Cert.ThresholdIdeal.main_arg0)) (m ((c.tc : Thread Cert.ThresholdIdeal.nD Cert.ThresholdIdeal.τ).loc Cert.ThresholdIdeal.main_arg1))) = (fun _ => 1#1)

def Pre_ThresholdReferenceIdeal (m : (ℓ : Loc Cert.ThresholdReferenceIdeal.nD Cert.ThresholdReferenceIdeal.τ Cert.ThresholdReferenceIdeal.sig) → Buf (Elt Ideal) ℓ) : Prop :=
  True

def Pre_ThresholdReferenceIdeal_distinct [hPre_distinct : Cert.Pre_distinct.Facts] (m : (ℓ : Loc Cert.ThresholdReferenceIdeal.nD Cert.ThresholdReferenceIdeal.τ Cert.ThresholdReferenceIdeal.sig) → Buf (Elt Ideal) ℓ) : Prop :=
  ∀ c : Dev Cert.ThresholdReferenceIdeal.nD,
    (Cert.Pre_distinct.fn (F := Ideal) (m ((c.tc : Thread Cert.ThresholdReferenceIdeal.nD Cert.ThresholdReferenceIdeal.τ).loc Cert.ThresholdReferenceIdeal.main_arg0)) (m ((c.tc : Thread Cert.ThresholdReferenceIdeal.nD Cert.ThresholdReferenceIdeal.τ).loc Cert.ThresholdReferenceIdeal.main_arg1))) = (fun _ => 1#1)

def Pre_Aggregate (m : (ℓ : Loc Cert.Aggregate.nD Cert.Aggregate.τ Cert.Aggregate.sig) → Buf (Elt Bits) ℓ) : Prop :=
  True

def Pre_AggregateIdeal (m : (ℓ : Loc Cert.AggregateIdeal.nD Cert.AggregateIdeal.τ Cert.AggregateIdeal.sig) → Buf (Elt Ideal) ℓ) : Prop :=
  True

def Pre_AggregateReferenceIdeal (m : (ℓ : Loc Cert.AggregateReferenceIdeal.nD Cert.AggregateReferenceIdeal.τ Cert.AggregateReferenceIdeal.sig) → Buf (Elt Ideal) ℓ) : Prop :=
  True

def Pre_Ranking (m : (ℓ : Loc Cert.Ranking.nD Cert.Ranking.τ Cert.Ranking.sig) → Buf (Elt Bits) ℓ) : Prop :=
  True

def Pre_RankingIdeal (m : (ℓ : Loc Cert.RankingIdeal.nD Cert.RankingIdeal.τ Cert.RankingIdeal.sig) → Buf (Elt Ideal) ℓ) : Prop :=
  True

def Pre_RankingReferenceIdeal (m : (ℓ : Loc Cert.RankingReferenceIdeal.nD Cert.RankingReferenceIdeal.τ Cert.RankingReferenceIdeal.sig) → Buf (Elt Ideal) ℓ) : Prop :=
  True

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_rows [hReferenceIdeal : Cert.ReferenceIdeal.Facts] [hPre_ids_in_rows : Cert.Pre_ids_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Candidates [hCandidates : Cert.Candidates.Facts] : Prop :=
  ∀ (m : (ℓ : Loc Cert.Candidates.nD Cert.Candidates.τ Cert.Candidates.sig) → Buf (Elt Bits) ℓ) (g : Dev Cert.Candidates.nD → PrngReg), Pre_Candidates m →
    θ_run (Cert.Candidates.defs (F := Bits)) (onTc (τ := Cert.Candidates.τ) (Cert.Candidates.main (F := Bits))) ⟨m, fun _ => 0, g⟩ (fun r => (∀ c : Dev Cert.Candidates.nD,
      r.2.mem ((c.tc : Thread Cert.Candidates.nD Cert.Candidates.τ).loc Cert.Candidates.main_arg0) = m ((c.tc : Thread Cert.Candidates.nD Cert.Candidates.τ).loc Cert.Candidates.main_arg0)
      ∧ r.2.mem ((c.tc : Thread Cert.Candidates.nD Cert.Candidates.τ).loc Cert.Candidates.main_arg1) = m ((c.tc : Thread Cert.Candidates.nD Cert.Candidates.τ).loc Cert.Candidates.main_arg1))
      ∧ r.2.sem = fun _ => 0)

def quiescent_CandidatesIdeal [hCandidatesIdeal : Cert.CandidatesIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ r.2.sem = fun _ => 0)

def quiescent_CandidatesIdeal_pre_finite [hCandidatesIdeal : Cert.CandidatesIdeal.Facts] [hPre_finite : Cert.Pre_finite.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal_finite m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ r.2.sem = fun _ => 0)

def quiescent_CandidatesReferenceIdeal [hCandidatesReferenceIdeal : Cert.CandidatesReferenceIdeal.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0)
      ∧ r.2.mem ((c.tc : Thread Cert.CandidatesReferenceIdeal.nD Cert.CandidatesReferenceIdeal.τ).loc Cert.CandidatesReferenceIdeal.main_arg1) = m ((c.tc : Thread Cert.CandidatesReferenceIdeal.nD Cert.CandidatesReferenceIdeal.τ).loc Cert.CandidatesReferenceIdeal.main_arg1))
      ∧ r.2.sem = fun _ => 0)

def quiescent_CandidatesReferenceIdeal_pre_finite [hCandidatesReferenceIdeal : Cert.CandidatesReferenceIdeal.Facts] [hPre_finite : Cert.Pre_finite.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal_finite m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0)
      ∧ r.2.mem ((c.tc : Thread Cert.CandidatesReferenceIdeal.nD Cert.CandidatesReferenceIdeal.τ).loc Cert.CandidatesReferenceIdeal.main_arg1) = m ((c.tc : Thread Cert.CandidatesReferenceIdeal.nD Cert.CandidatesReferenceIdeal.τ).loc Cert.CandidatesReferenceIdeal.main_arg1))
      ∧ r.2.sem = fun _ => 0)

def quiescent_Threshold [hThreshold : Cert.Threshold.Facts] : Prop :=
  ∀ (m : (ℓ : Loc Cert.Threshold.nD Cert.Threshold.τ Cert.Threshold.sig) → Buf (Elt Bits) ℓ) (g : Dev Cert.Threshold.nD → PrngReg), Pre_Threshold m →
    θ_run (Cert.Threshold.defs (F := Bits)) (onTc (τ := Cert.Threshold.τ) (Cert.Threshold.main (F := Bits))) ⟨m, fun _ => 0, g⟩ (fun r => (∀ c : Dev Cert.Threshold.nD,
      r.2.mem ((c.tc : Thread Cert.Threshold.nD Cert.Threshold.τ).loc Cert.Threshold.main_arg0) = m ((c.tc : Thread Cert.Threshold.nD Cert.Threshold.τ).loc Cert.Threshold.main_arg0)
      ∧ r.2.mem ((c.tc : Thread Cert.Threshold.nD Cert.Threshold.τ).loc Cert.Threshold.main_arg1) = m ((c.tc : Thread Cert.Threshold.nD Cert.Threshold.τ).loc Cert.Threshold.main_arg1))
      ∧ r.2.sem = fun _ => 0)

def quiescent_ThresholdIdeal [hThresholdIdeal : Cert.ThresholdIdeal.Facts] : Prop :=
  ∀ (m : (ℓ : Loc Cert.ThresholdIdeal.nD Cert.ThresholdIdeal.τ Cert.ThresholdIdeal.sig) → Buf (Elt Ideal) ℓ) (g : Dev Cert.ThresholdIdeal.nD → PrngReg), Pre_ThresholdIdeal m →
    θ_run (Cert.ThresholdIdeal.defs (F := Ideal)) (onTc (τ := Cert.ThresholdIdeal.τ) (Cert.ThresholdIdeal.main (F := Ideal))) ⟨m, fun _ => 0, g⟩ (fun r => (∀ c : Dev Cert.ThresholdIdeal.nD,
      r.2.mem ((c.tc : Thread Cert.ThresholdIdeal.nD Cert.ThresholdIdeal.τ).loc Cert.ThresholdIdeal.main_arg0) = m ((c.tc : Thread Cert.ThresholdIdeal.nD Cert.ThresholdIdeal.τ).loc Cert.ThresholdIdeal.main_arg0)
      ∧ r.2.mem ((c.tc : Thread Cert.ThresholdIdeal.nD Cert.ThresholdIdeal.τ).loc Cert.ThresholdIdeal.main_arg1) = m ((c.tc : Thread Cert.ThresholdIdeal.nD Cert.ThresholdIdeal.τ).loc Cert.ThresholdIdeal.main_arg1))
      ∧ r.2.sem = fun _ => 0)

def quiescent_ThresholdIdeal_pre_distinct [hThresholdIdeal : Cert.ThresholdIdeal.Facts] [hPre_distinct : Cert.Pre_distinct.Facts] : Prop :=
  ∀ (m : (ℓ : Loc Cert.ThresholdIdeal.nD Cert.ThresholdIdeal.τ Cert.ThresholdIdeal.sig) → Buf (Elt Ideal) ℓ) (g : Dev Cert.ThresholdIdeal.nD → PrngReg), Pre_ThresholdIdeal_distinct m →
    θ_run (Cert.ThresholdIdeal.defs (F := Ideal)) (onTc (τ := Cert.ThresholdIdeal.τ) (Cert.ThresholdIdeal.main (F := Ideal))) ⟨m, fun _ => 0, g⟩ (fun r => (∀ c : Dev Cert.ThresholdIdeal.nD,
      r.2.mem ((c.tc : Thread Cert.ThresholdIdeal.nD Cert.ThresholdIdeal.τ).loc Cert.ThresholdIdeal.main_arg0) = m ((c.tc : Thread Cert.ThresholdIdeal.nD Cert.ThresholdIdeal.τ).loc Cert.ThresholdIdeal.main_arg0)
      ∧ r.2.mem ((c.tc : Thread Cert.ThresholdIdeal.nD Cert.ThresholdIdeal.τ).loc Cert.ThresholdIdeal.main_arg1) = m ((c.tc : Thread Cert.ThresholdIdeal.nD Cert.ThresholdIdeal.τ).loc Cert.ThresholdIdeal.main_arg1))
      ∧ r.2.sem = fun _ => 0)

def quiescent_ThresholdReferenceIdeal [hThresholdReferenceIdeal : Cert.ThresholdReferenceIdeal.Facts] : Prop :=
  ∀ (m : (ℓ : Loc Cert.ThresholdReferenceIdeal.nD Cert.ThresholdReferenceIdeal.τ Cert.ThresholdReferenceIdeal.sig) → Buf (Elt Ideal) ℓ) (g : Dev Cert.ThresholdReferenceIdeal.nD → PrngReg), Pre_ThresholdReferenceIdeal m →
    θ_run (Cert.ThresholdReferenceIdeal.defs (F := Ideal)) (onTc (τ := Cert.ThresholdReferenceIdeal.τ) (Cert.ThresholdReferenceIdeal.main (F := Ideal))) ⟨m, fun _ => 0, g⟩ (fun r => (∀ c : Dev Cert.ThresholdReferenceIdeal.nD,
      r.2.mem ((c.tc : Thread Cert.ThresholdReferenceIdeal.nD Cert.ThresholdReferenceIdeal.τ).loc Cert.ThresholdReferenceIdeal.main_arg0) = m ((c.tc : Thread Cert.ThresholdReferenceIdeal.nD Cert.ThresholdReferenceIdeal.τ).loc Cert.ThresholdReferenceIdeal.main_arg0)
      ∧ r.2.mem ((c.tc : Thread Cert.ThresholdReferenceIdeal.nD Cert.ThresholdReferenceIdeal.τ).loc Cert.ThresholdReferenceIdeal.main_arg1) = m ((c.tc : Thread Cert.ThresholdReferenceIdeal.nD Cert.ThresholdReferenceIdeal.τ).loc Cert.ThresholdReferenceIdeal.main_arg1))
      ∧ r.2.sem = fun _ => 0)

def quiescent_ThresholdReferenceIdeal_pre_distinct [hThresholdReferenceIdeal : Cert.ThresholdReferenceIdeal.Facts] [hPre_distinct : Cert.Pre_distinct.Facts] : Prop :=
  ∀ (m : (ℓ : Loc Cert.ThresholdReferenceIdeal.nD Cert.ThresholdReferenceIdeal.τ Cert.ThresholdReferenceIdeal.sig) → Buf (Elt Ideal) ℓ) (g : Dev Cert.ThresholdReferenceIdeal.nD → PrngReg), Pre_ThresholdReferenceIdeal_distinct m →
    θ_run (Cert.ThresholdReferenceIdeal.defs (F := Ideal)) (onTc (τ := Cert.ThresholdReferenceIdeal.τ) (Cert.ThresholdReferenceIdeal.main (F := Ideal))) ⟨m, fun _ => 0, g⟩ (fun r => (∀ c : Dev Cert.ThresholdReferenceIdeal.nD,
      r.2.mem ((c.tc : Thread Cert.ThresholdReferenceIdeal.nD Cert.ThresholdReferenceIdeal.τ).loc Cert.ThresholdReferenceIdeal.main_arg0) = m ((c.tc : Thread Cert.ThresholdReferenceIdeal.nD Cert.ThresholdReferenceIdeal.τ).loc Cert.ThresholdReferenceIdeal.main_arg0)
      ∧ r.2.mem ((c.tc : Thread Cert.ThresholdReferenceIdeal.nD Cert.ThresholdReferenceIdeal.τ).loc Cert.ThresholdReferenceIdeal.main_arg1) = m ((c.tc : Thread Cert.ThresholdReferenceIdeal.nD Cert.ThresholdReferenceIdeal.τ).loc Cert.ThresholdReferenceIdeal.main_arg1))
      ∧ r.2.sem = fun _ => 0)

def quiescent_Aggregate [hAggregate : Cert.Aggregate.Facts] : Prop :=
  ∀ (m : (ℓ : Loc Cert.Aggregate.nD Cert.Aggregate.τ Cert.Aggregate.sig) → Buf (Elt Bits) ℓ) (g : Dev Cert.Aggregate.nD → PrngReg), Pre_Aggregate m →
    θ_run (Cert.Aggregate.defs (F := Bits)) (onTc (τ := Cert.Aggregate.τ) (Cert.Aggregate.main (F := Bits))) ⟨m, fun _ => 0, g⟩ (fun r => (∀ c : Dev Cert.Aggregate.nD,
      r.2.mem ((c.tc : Thread Cert.Aggregate.nD Cert.Aggregate.τ).loc Cert.Aggregate.main_arg0) = m ((c.tc : Thread Cert.Aggregate.nD Cert.Aggregate.τ).loc Cert.Aggregate.main_arg0)
      ∧ r.2.mem ((c.tc : Thread Cert.Aggregate.nD Cert.Aggregate.τ).loc Cert.Aggregate.main_arg1) = m ((c.tc : Thread Cert.Aggregate.nD Cert.Aggregate.τ).loc Cert.Aggregate.main_arg1)
      ∧ r.2.mem ((c.tc : Thread Cert.Aggregate.nD Cert.Aggregate.τ).loc Cert.Aggregate.main_arg2) = m ((c.tc : Thread Cert.Aggregate.nD Cert.Aggregate.τ).loc Cert.Aggregate.main_arg2))
      ∧ r.2.sem = fun _ => 0)

def quiescent_AggregateIdeal [hAggregateIdeal : Cert.AggregateIdeal.Facts] : Prop :=
  ∀ (m : (ℓ : Loc Cert.AggregateIdeal.nD Cert.AggregateIdeal.τ Cert.AggregateIdeal.sig) → Buf (Elt Ideal) ℓ) (g : Dev Cert.AggregateIdeal.nD → PrngReg), Pre_AggregateIdeal m →
    θ_run (Cert.AggregateIdeal.defs (F := Ideal)) (onTc (τ := Cert.AggregateIdeal.τ) (Cert.AggregateIdeal.main (F := Ideal))) ⟨m, fun _ => 0, g⟩ (fun r => (∀ c : Dev Cert.AggregateIdeal.nD,
      r.2.mem ((c.tc : Thread Cert.AggregateIdeal.nD Cert.AggregateIdeal.τ).loc Cert.AggregateIdeal.main_arg0) = m ((c.tc : Thread Cert.AggregateIdeal.nD Cert.AggregateIdeal.τ).loc Cert.AggregateIdeal.main_arg0)
      ∧ r.2.mem ((c.tc : Thread Cert.AggregateIdeal.nD Cert.AggregateIdeal.τ).loc Cert.AggregateIdeal.main_arg1) = m ((c.tc : Thread Cert.AggregateIdeal.nD Cert.AggregateIdeal.τ).loc Cert.AggregateIdeal.main_arg1)
      ∧ r.2.mem ((c.tc : Thread Cert.AggregateIdeal.nD Cert.AggregateIdeal.τ).loc Cert.AggregateIdeal.main_arg2) = m ((c.tc : Thread Cert.AggregateIdeal.nD Cert.AggregateIdeal.τ).loc Cert.AggregateIdeal.main_arg2))
      ∧ r.2.sem = fun _ => 0)

def quiescent_AggregateReferenceIdeal [hAggregateReferenceIdeal : Cert.AggregateReferenceIdeal.Facts] : Prop :=
  ∀ (m : (ℓ : Loc Cert.AggregateReferenceIdeal.nD Cert.AggregateReferenceIdeal.τ Cert.AggregateReferenceIdeal.sig) → Buf (Elt Ideal) ℓ) (g : Dev Cert.AggregateReferenceIdeal.nD → PrngReg), Pre_AggregateReferenceIdeal m →
    θ_run (Cert.AggregateReferenceIdeal.defs (F := Ideal)) (onTc (τ := Cert.AggregateReferenceIdeal.τ) (Cert.AggregateReferenceIdeal.main (F := Ideal))) ⟨m, fun _ => 0, g⟩ (fun r => (∀ c : Dev Cert.AggregateReferenceIdeal.nD,
      r.2.mem ((c.tc : Thread Cert.AggregateReferenceIdeal.nD Cert.AggregateReferenceIdeal.τ).loc Cert.AggregateReferenceIdeal.main_arg0) = m ((c.tc : Thread Cert.AggregateReferenceIdeal.nD Cert.AggregateReferenceIdeal.τ).loc Cert.AggregateReferenceIdeal.main_arg0)
      ∧ r.2.mem ((c.tc : Thread Cert.AggregateReferenceIdeal.nD Cert.AggregateReferenceIdeal.τ).loc Cert.AggregateReferenceIdeal.main_arg1) = m ((c.tc : Thread Cert.AggregateReferenceIdeal.nD Cert.AggregateReferenceIdeal.τ).loc Cert.AggregateReferenceIdeal.main_arg1)
      ∧ r.2.mem ((c.tc : Thread Cert.AggregateReferenceIdeal.nD Cert.AggregateReferenceIdeal.τ).loc Cert.AggregateReferenceIdeal.main_arg2) = m ((c.tc : Thread Cert.AggregateReferenceIdeal.nD Cert.AggregateReferenceIdeal.τ).loc Cert.AggregateReferenceIdeal.main_arg2))
      ∧ r.2.sem = fun _ => 0)

def quiescent_Ranking [hRanking : Cert.Ranking.Facts] : Prop :=
  ∀ (m : (ℓ : Loc Cert.Ranking.nD Cert.Ranking.τ Cert.Ranking.sig) → Buf (Elt Bits) ℓ) (g : Dev Cert.Ranking.nD → PrngReg), Pre_Ranking m →
    θ_run (Cert.Ranking.defs (F := Bits)) (onTc (τ := Cert.Ranking.τ) (Cert.Ranking.main (F := Bits))) ⟨m, fun _ => 0, g⟩ (fun r => (∀ c : Dev Cert.Ranking.nD,
      r.2.mem ((c.tc : Thread Cert.Ranking.nD Cert.Ranking.τ).loc Cert.Ranking.main_arg0) = m ((c.tc : Thread Cert.Ranking.nD Cert.Ranking.τ).loc Cert.Ranking.main_arg0)
      ∧ r.2.mem ((c.tc : Thread Cert.Ranking.nD Cert.Ranking.τ).loc Cert.Ranking.main_arg1) = m ((c.tc : Thread Cert.Ranking.nD Cert.Ranking.τ).loc Cert.Ranking.main_arg1)
      ∧ r.2.mem ((c.tc : Thread Cert.Ranking.nD Cert.Ranking.τ).loc Cert.Ranking.main_arg2) = m ((c.tc : Thread Cert.Ranking.nD Cert.Ranking.τ).loc Cert.Ranking.main_arg2)
      ∧ r.2.mem ((c.tc : Thread Cert.Ranking.nD Cert.Ranking.τ).loc Cert.Ranking.main_arg3) = m ((c.tc : Thread Cert.Ranking.nD Cert.Ranking.τ).loc Cert.Ranking.main_arg3))
      ∧ r.2.sem = fun _ => 0)

def quiescent_RankingIdeal [hRankingIdeal : Cert.RankingIdeal.Facts] : Prop :=
  ∀ (m : (ℓ : Loc Cert.RankingIdeal.nD Cert.RankingIdeal.τ Cert.RankingIdeal.sig) → Buf (Elt Ideal) ℓ) (g : Dev Cert.RankingIdeal.nD → PrngReg), Pre_RankingIdeal m →
    θ_run (Cert.RankingIdeal.defs (F := Ideal)) (onTc (τ := Cert.RankingIdeal.τ) (Cert.RankingIdeal.main (F := Ideal))) ⟨m, fun _ => 0, g⟩ (fun r => (∀ c : Dev Cert.RankingIdeal.nD,
      r.2.mem ((c.tc : Thread Cert.RankingIdeal.nD Cert.RankingIdeal.τ).loc Cert.RankingIdeal.main_arg0) = m ((c.tc : Thread Cert.RankingIdeal.nD Cert.RankingIdeal.τ).loc Cert.RankingIdeal.main_arg0)
      ∧ r.2.mem ((c.tc : Thread Cert.RankingIdeal.nD Cert.RankingIdeal.τ).loc Cert.RankingIdeal.main_arg1) = m ((c.tc : Thread Cert.RankingIdeal.nD Cert.RankingIdeal.τ).loc Cert.RankingIdeal.main_arg1)
      ∧ r.2.mem ((c.tc : Thread Cert.RankingIdeal.nD Cert.RankingIdeal.τ).loc Cert.RankingIdeal.main_arg2) = m ((c.tc : Thread Cert.RankingIdeal.nD Cert.RankingIdeal.τ).loc Cert.RankingIdeal.main_arg2)
      ∧ r.2.mem ((c.tc : Thread Cert.RankingIdeal.nD Cert.RankingIdeal.τ).loc Cert.RankingIdeal.main_arg3) = m ((c.tc : Thread Cert.RankingIdeal.nD Cert.RankingIdeal.τ).loc Cert.RankingIdeal.main_arg3))
      ∧ r.2.sem = fun _ => 0)

def quiescent_RankingReferenceIdeal [hRankingReferenceIdeal : Cert.RankingReferenceIdeal.Facts] : Prop :=
  ∀ (m : (ℓ : Loc Cert.RankingReferenceIdeal.nD Cert.RankingReferenceIdeal.τ Cert.RankingReferenceIdeal.sig) → Buf (Elt Ideal) ℓ) (g : Dev Cert.RankingReferenceIdeal.nD → PrngReg), Pre_RankingReferenceIdeal m →
    θ_run (Cert.RankingReferenceIdeal.defs (F := Ideal)) (onTc (τ := Cert.RankingReferenceIdeal.τ) (Cert.RankingReferenceIdeal.main (F := Ideal))) ⟨m, fun _ => 0, g⟩ (fun r => (∀ c : Dev Cert.RankingReferenceIdeal.nD,
      r.2.mem ((c.tc : Thread Cert.RankingReferenceIdeal.nD Cert.RankingReferenceIdeal.τ).loc Cert.RankingReferenceIdeal.main_arg0) = m ((c.tc : Thread Cert.RankingReferenceIdeal.nD Cert.RankingReferenceIdeal.τ).loc Cert.RankingReferenceIdeal.main_arg0)
      ∧ r.2.mem ((c.tc : Thread Cert.RankingReferenceIdeal.nD Cert.RankingReferenceIdeal.τ).loc Cert.RankingReferenceIdeal.main_arg1) = m ((c.tc : Thread Cert.RankingReferenceIdeal.nD Cert.RankingReferenceIdeal.τ).loc Cert.RankingReferenceIdeal.main_arg1)
      ∧ r.2.mem ((c.tc : Thread Cert.RankingReferenceIdeal.nD Cert.RankingReferenceIdeal.τ).loc Cert.RankingReferenceIdeal.main_arg2) = m ((c.tc : Thread Cert.RankingReferenceIdeal.nD Cert.RankingReferenceIdeal.τ).loc Cert.RankingReferenceIdeal.main_arg2)
      ∧ r.2.mem ((c.tc : Thread Cert.RankingReferenceIdeal.nD Cert.RankingReferenceIdeal.τ).loc Cert.RankingReferenceIdeal.main_arg3) = m ((c.tc : Thread Cert.RankingReferenceIdeal.nD Cert.RankingReferenceIdeal.τ).loc Cert.RankingReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Candidates_CandidatesIdeal : Prop :=
  IdealRules.named_const.Statement Cert.CandidatesIdeal.κ "lowest" .f32 0xFF61B1E6#32 ⊥

def algebraic_CandidatesIdeal_CandidatesReferenceIdeal_pre_finite [hCandidatesIdeal : Cert.CandidatesIdeal.Facts] [hCandidatesReferenceIdeal : Cert.CandidatesReferenceIdeal.Facts] [hPre_finite : Cert.Pre_finite.Facts] : Prop :=
  ∀ (m : (ℓ : Loc Cert.CandidatesIdeal.nD Cert.CandidatesIdeal.τ Cert.CandidatesIdeal.sig) → Buf (Elt Ideal) ℓ) (g : Dev Cert.CandidatesIdeal.nD → PrngReg)
    (m' : (ℓ : Loc Cert.CandidatesReferenceIdeal.nD Cert.CandidatesReferenceIdeal.τ Cert.CandidatesReferenceIdeal.sig) → Buf (Elt Ideal) ℓ) (g' : Dev Cert.CandidatesReferenceIdeal.nD → PrngReg), Pre_CandidatesIdeal_finite m →
    (∀ c : Dev Cert.CandidatesIdeal.nD,
      m' ((c.tc : Thread Cert.CandidatesReferenceIdeal.nD Cert.CandidatesReferenceIdeal.τ).loc Cert.CandidatesReferenceIdeal.main_arg0) = m ((c.tc : Thread Cert.CandidatesIdeal.nD Cert.CandidatesIdeal.τ).loc Cert.CandidatesIdeal.main_arg0)
      ∧ m' ((c.tc : Thread Cert.CandidatesReferenceIdeal.nD Cert.CandidatesReferenceIdeal.τ).loc Cert.CandidatesReferenceIdeal.main_arg1) = m ((c.tc : Thread Cert.CandidatesIdeal.nD Cert.CandidatesIdeal.τ).loc Cert.CandidatesIdeal.main_arg1)) →
    ∃ (v0 : (c : Dev Cert.CandidatesIdeal.nD) → Buf (Elt Ideal) ((c.tc : Thread Cert.CandidatesIdeal.nD Cert.CandidatesIdeal.τ).loc Cert.CandidatesIdeal.main_v1)),
      θ_run (Cert.CandidatesIdeal.defs (F := Ideal)) (onTc (τ := Cert.CandidatesIdeal.τ) (Cert.CandidatesIdeal.main (F := Ideal))) ⟨m, fun _ => 0, g⟩ (fun r => ∀ c : Dev Cert.CandidatesIdeal.nD,
          r.2.mem ((c.tc : Thread Cert.CandidatesIdeal.nD Cert.CandidatesIdeal.τ).loc Cert.CandidatesIdeal.main_v1) = v0 c
          ∧ r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
          ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ θ_run (Cert.CandidatesReferenceIdeal.defs (F := Ideal)) (onTc (τ := Cert.CandidatesReferenceIdeal.τ) (Cert.CandidatesReferenceIdeal.main (F := Ideal))) ⟨m', fun _ => 0, g'⟩ (fun r => ∀ c : Dev Cert.CandidatesReferenceIdeal.nD,
          r.2.mem ((c.tc : Thread Cert.CandidatesReferenceIdeal.nD Cert.CandidatesReferenceIdeal.τ).loc Cert.CandidatesReferenceIdeal.main_indices) = v0 c
          ∧ r.2.mem ((c.tc : Thread Cert.CandidatesReferenceIdeal.nD Cert.CandidatesReferenceIdeal.τ).loc Cert.CandidatesReferenceIdeal.main_arg0) = m' ((c.tc : Thread Cert.CandidatesReferenceIdeal.nD Cert.CandidatesReferenceIdeal.τ).loc Cert.CandidatesReferenceIdeal.main_arg0)
          ∧ r.2.mem ((c.tc : Thread Cert.CandidatesReferenceIdeal.nD Cert.CandidatesReferenceIdeal.τ).loc Cert.CandidatesReferenceIdeal.main_arg1) = m' ((c.tc : Thread Cert.CandidatesReferenceIdeal.nD Cert.CandidatesReferenceIdeal.τ).loc Cert.CandidatesReferenceIdeal.main_arg1))

def preserves_Threshold_ThresholdIdeal : Prop :=
  IdealRules.named_const.Statement Cert.ThresholdIdeal.κ "lowest" .f32 0xFF61B1E6#32 ⊥

def algebraic_ThresholdIdeal_ThresholdReferenceIdeal_pre_distinct [hThresholdIdeal : Cert.ThresholdIdeal.Facts] [hThresholdReferenceIdeal : Cert.ThresholdReferenceIdeal.Facts] [hPre_distinct : Cert.Pre_distinct.Facts] : Prop :=
  ∀ (m : (ℓ : Loc Cert.ThresholdIdeal.nD Cert.ThresholdIdeal.τ Cert.ThresholdIdeal.sig) → Buf (Elt Ideal) ℓ) (g : Dev Cert.ThresholdIdeal.nD → PrngReg)
    (m' : (ℓ : Loc Cert.ThresholdReferenceIdeal.nD Cert.ThresholdReferenceIdeal.τ Cert.ThresholdReferenceIdeal.sig) → Buf (Elt Ideal) ℓ) (g' : Dev Cert.ThresholdReferenceIdeal.nD → PrngReg), Pre_ThresholdIdeal_distinct m →
    (∀ c : Dev Cert.ThresholdIdeal.nD,
      m' ((c.tc : Thread Cert.ThresholdReferenceIdeal.nD Cert.ThresholdReferenceIdeal.τ).loc Cert.ThresholdReferenceIdeal.main_arg0) = m ((c.tc : Thread Cert.ThresholdIdeal.nD Cert.ThresholdIdeal.τ).loc Cert.ThresholdIdeal.main_arg0)
      ∧ m' ((c.tc : Thread Cert.ThresholdReferenceIdeal.nD Cert.ThresholdReferenceIdeal.τ).loc Cert.ThresholdReferenceIdeal.main_arg1) = m ((c.tc : Thread Cert.ThresholdIdeal.nD Cert.ThresholdIdeal.τ).loc Cert.ThresholdIdeal.main_arg1)) →
    ∃ (v0 : (c : Dev Cert.ThresholdIdeal.nD) → Buf (Elt Ideal) ((c.tc : Thread Cert.ThresholdIdeal.nD Cert.ThresholdIdeal.τ).loc Cert.ThresholdIdeal.main_v1)),
      θ_run (Cert.ThresholdIdeal.defs (F := Ideal)) (onTc (τ := Cert.ThresholdIdeal.τ) (Cert.ThresholdIdeal.main (F := Ideal))) ⟨m, fun _ => 0, g⟩ (fun r => ∀ c : Dev Cert.ThresholdIdeal.nD,
          r.2.mem ((c.tc : Thread Cert.ThresholdIdeal.nD Cert.ThresholdIdeal.τ).loc Cert.ThresholdIdeal.main_v1) = v0 c
          ∧ r.2.mem ((c.tc : Thread Cert.ThresholdIdeal.nD Cert.ThresholdIdeal.τ).loc Cert.ThresholdIdeal.main_arg0) = m ((c.tc : Thread Cert.ThresholdIdeal.nD Cert.ThresholdIdeal.τ).loc Cert.ThresholdIdeal.main_arg0)
          ∧ r.2.mem ((c.tc : Thread Cert.ThresholdIdeal.nD Cert.ThresholdIdeal.τ).loc Cert.ThresholdIdeal.main_arg1) = m ((c.tc : Thread Cert.ThresholdIdeal.nD Cert.ThresholdIdeal.τ).loc Cert.ThresholdIdeal.main_arg1))
      ∧ θ_run (Cert.ThresholdReferenceIdeal.defs (F := Ideal)) (onTc (τ := Cert.ThresholdReferenceIdeal.τ) (Cert.ThresholdReferenceIdeal.main (F := Ideal))) ⟨m', fun _ => 0, g'⟩ (fun r => ∀ c : Dev Cert.ThresholdReferenceIdeal.nD,
          r.2.mem ((c.tc : Thread Cert.ThresholdReferenceIdeal.nD Cert.ThresholdReferenceIdeal.τ).loc Cert.ThresholdReferenceIdeal.main_v2) = v0 c
          ∧ r.2.mem ((c.tc : Thread Cert.ThresholdReferenceIdeal.nD Cert.ThresholdReferenceIdeal.τ).loc Cert.ThresholdReferenceIdeal.main_arg0) = m' ((c.tc : Thread Cert.ThresholdReferenceIdeal.nD Cert.ThresholdReferenceIdeal.τ).loc Cert.ThresholdReferenceIdeal.main_arg0)
          ∧ r.2.mem ((c.tc : Thread Cert.ThresholdReferenceIdeal.nD Cert.ThresholdReferenceIdeal.τ).loc Cert.ThresholdReferenceIdeal.main_arg1) = m' ((c.tc : Thread Cert.ThresholdReferenceIdeal.nD Cert.ThresholdReferenceIdeal.τ).loc Cert.ThresholdReferenceIdeal.main_arg1))

def preserves_Aggregate_AggregateIdeal : Prop :=
  True

def algebraic_AggregateIdeal_AggregateReferenceIdeal [hAggregateIdeal : Cert.AggregateIdeal.Facts] [hAggregateReferenceIdeal : Cert.AggregateReferenceIdeal.Facts] : Prop :=
  ∀ (m : (ℓ : Loc Cert.AggregateIdeal.nD Cert.AggregateIdeal.τ Cert.AggregateIdeal.sig) → Buf (Elt Ideal) ℓ) (g : Dev Cert.AggregateIdeal.nD → PrngReg)
    (m' : (ℓ : Loc Cert.AggregateReferenceIdeal.nD Cert.AggregateReferenceIdeal.τ Cert.AggregateReferenceIdeal.sig) → Buf (Elt Ideal) ℓ) (g' : Dev Cert.AggregateReferenceIdeal.nD → PrngReg), Pre_AggregateIdeal m →
    (∀ c : Dev Cert.AggregateIdeal.nD,
      m' ((c.tc : Thread Cert.AggregateReferenceIdeal.nD Cert.AggregateReferenceIdeal.τ).loc Cert.AggregateReferenceIdeal.main_arg0) = m ((c.tc : Thread Cert.AggregateIdeal.nD Cert.AggregateIdeal.τ).loc Cert.AggregateIdeal.main_arg0)
      ∧ m' ((c.tc : Thread Cert.AggregateReferenceIdeal.nD Cert.AggregateReferenceIdeal.τ).loc Cert.AggregateReferenceIdeal.main_arg1) = m ((c.tc : Thread Cert.AggregateIdeal.nD Cert.AggregateIdeal.τ).loc Cert.AggregateIdeal.main_arg1)
      ∧ m' ((c.tc : Thread Cert.AggregateReferenceIdeal.nD Cert.AggregateReferenceIdeal.τ).loc Cert.AggregateReferenceIdeal.main_arg2) = m ((c.tc : Thread Cert.AggregateIdeal.nD Cert.AggregateIdeal.τ).loc Cert.AggregateIdeal.main_arg2)) →
    ∃ (v0 : (c : Dev Cert.AggregateIdeal.nD) → Buf (Elt Ideal) ((c.tc : Thread Cert.AggregateIdeal.nD Cert.AggregateIdeal.τ).loc Cert.AggregateIdeal.main_v1)),
      θ_run (Cert.AggregateIdeal.defs (F := Ideal)) (onTc (τ := Cert.AggregateIdeal.τ) (Cert.AggregateIdeal.main (F := Ideal))) ⟨m, fun _ => 0, g⟩ (fun r => ∀ c : Dev Cert.AggregateIdeal.nD,
          r.2.mem ((c.tc : Thread Cert.AggregateIdeal.nD Cert.AggregateIdeal.τ).loc Cert.AggregateIdeal.main_v1) = v0 c
          ∧ r.2.mem ((c.tc : Thread Cert.AggregateIdeal.nD Cert.AggregateIdeal.τ).loc Cert.AggregateIdeal.main_arg0) = m ((c.tc : Thread Cert.AggregateIdeal.nD Cert.AggregateIdeal.τ).loc Cert.AggregateIdeal.main_arg0)
          ∧ r.2.mem ((c.tc : Thread Cert.AggregateIdeal.nD Cert.AggregateIdeal.τ).loc Cert.AggregateIdeal.main_arg1) = m ((c.tc : Thread Cert.AggregateIdeal.nD Cert.AggregateIdeal.τ).loc Cert.AggregateIdeal.main_arg1)
          ∧ r.2.mem ((c.tc : Thread Cert.AggregateIdeal.nD Cert.AggregateIdeal.τ).loc Cert.AggregateIdeal.main_arg2) = m ((c.tc : Thread Cert.AggregateIdeal.nD Cert.AggregateIdeal.τ).loc Cert.AggregateIdeal.main_arg2))
      ∧ θ_run (Cert.AggregateReferenceIdeal.defs (F := Ideal)) (onTc (τ := Cert.AggregateReferenceIdeal.τ) (Cert.AggregateReferenceIdeal.main (F := Ideal))) ⟨m', fun _ => 0, g'⟩ (fun r => ∀ c : Dev Cert.AggregateReferenceIdeal.nD,
          r.2.mem ((c.tc : Thread Cert.AggregateReferenceIdeal.nD Cert.AggregateReferenceIdeal.τ).loc Cert.AggregateReferenceIdeal.main_v5) = v0 c
          ∧ r.2.mem ((c.tc : Thread Cert.AggregateReferenceIdeal.nD Cert.AggregateReferenceIdeal.τ).loc Cert.AggregateReferenceIdeal.main_arg0) = m' ((c.tc : Thread Cert.AggregateReferenceIdeal.nD Cert.AggregateReferenceIdeal.τ).loc Cert.AggregateReferenceIdeal.main_arg0)
          ∧ r.2.mem ((c.tc : Thread Cert.AggregateReferenceIdeal.nD Cert.AggregateReferenceIdeal.τ).loc Cert.AggregateReferenceIdeal.main_arg1) = m' ((c.tc : Thread Cert.AggregateReferenceIdeal.nD Cert.AggregateReferenceIdeal.τ).loc Cert.AggregateReferenceIdeal.main_arg1)
          ∧ r.2.mem ((c.tc : Thread Cert.AggregateReferenceIdeal.nD Cert.AggregateReferenceIdeal.τ).loc Cert.AggregateReferenceIdeal.main_arg2) = m' ((c.tc : Thread Cert.AggregateReferenceIdeal.nD Cert.AggregateReferenceIdeal.τ).loc Cert.AggregateReferenceIdeal.main_arg2))

def preserves_Ranking_RankingIdeal : Prop :=
  IdealRules.named_const.Statement Cert.RankingIdeal.κ "eps_sq" .f32 0x179ABE15#32 ((5316911940649 / 5316911983139663491615228241121378304 : ℝ) : EReal)
  ∧ IdealRules.named_const.Statement Cert.RankingIdeal.κ "lowest" .f32 0xFF61B1E6#32 ⊥

def algebraic_RankingIdeal_RankingReferenceIdeal [hRankingIdeal : Cert.RankingIdeal.Facts] [hRankingReferenceIdeal : Cert.RankingReferenceIdeal.Facts] : Prop :=
  ∀ (m : (ℓ : Loc Cert.RankingIdeal.nD Cert.RankingIdeal.τ Cert.RankingIdeal.sig) → Buf (Elt Ideal) ℓ) (g : Dev Cert.RankingIdeal.nD → PrngReg)
    (m' : (ℓ : Loc Cert.RankingReferenceIdeal.nD Cert.RankingReferenceIdeal.τ Cert.RankingReferenceIdeal.sig) → Buf (Elt Ideal) ℓ) (g' : Dev Cert.RankingReferenceIdeal.nD → PrngReg), Pre_RankingIdeal m →
    (∀ c : Dev Cert.RankingIdeal.nD,
      m' ((c.tc : Thread Cert.RankingReferenceIdeal.nD Cert.RankingReferenceIdeal.τ).loc Cert.RankingReferenceIdeal.main_arg0) = m ((c.tc : Thread Cert.RankingIdeal.nD Cert.RankingIdeal.τ).loc Cert.RankingIdeal.main_arg0)
      ∧ m' ((c.tc : Thread Cert.RankingReferenceIdeal.nD Cert.RankingReferenceIdeal.τ).loc Cert.RankingReferenceIdeal.main_arg1) = m ((c.tc : Thread Cert.RankingIdeal.nD Cert.RankingIdeal.τ).loc Cert.RankingIdeal.main_arg1)
      ∧ m' ((c.tc : Thread Cert.RankingReferenceIdeal.nD Cert.RankingReferenceIdeal.τ).loc Cert.RankingReferenceIdeal.main_arg2) = m ((c.tc : Thread Cert.RankingIdeal.nD Cert.RankingIdeal.τ).loc Cert.RankingIdeal.main_arg2)
      ∧ m' ((c.tc : Thread Cert.RankingReferenceIdeal.nD Cert.RankingReferenceIdeal.τ).loc Cert.RankingReferenceIdeal.main_arg3) = m ((c.tc : Thread Cert.RankingIdeal.nD Cert.RankingIdeal.τ).loc Cert.RankingIdeal.main_arg3)) →
    ∃ (v0 : (c : Dev Cert.RankingIdeal.nD) → Buf (Elt Ideal) ((c.tc : Thread Cert.RankingIdeal.nD Cert.RankingIdeal.τ).loc Cert.RankingIdeal.main_v0_0)) (v1 : (c : Dev Cert.RankingIdeal.nD) → Buf (Elt Ideal) ((c.tc : Thread Cert.RankingIdeal.nD Cert.RankingIdeal.τ).loc Cert.RankingIdeal.main_v0_1)),
      θ_run (Cert.RankingIdeal.defs (F := Ideal)) (onTc (τ := Cert.RankingIdeal.τ) (Cert.RankingIdeal.main (F := Ideal))) ⟨m, fun _ => 0, g⟩ (fun r => ∀ c : Dev Cert.RankingIdeal.nD,
          r.2.mem ((c.tc : Thread Cert.RankingIdeal.nD Cert.RankingIdeal.τ).loc Cert.RankingIdeal.main_v0_0) = v0 c
          ∧ r.2.mem ((c.tc : Thread Cert.RankingIdeal.nD Cert.RankingIdeal.τ).loc Cert.RankingIdeal.main_v0_1) = v1 c
          ∧ r.2.mem ((c.tc : Thread Cert.RankingIdeal.nD Cert.RankingIdeal.τ).loc Cert.RankingIdeal.main_arg0) = m ((c.tc : Thread Cert.RankingIdeal.nD Cert.RankingIdeal.τ).loc Cert.RankingIdeal.main_arg0)
          ∧ r.2.mem ((c.tc : Thread Cert.RankingIdeal.nD Cert.RankingIdeal.τ).loc Cert.RankingIdeal.main_arg1) = m ((c.tc : Thread Cert.RankingIdeal.nD Cert.RankingIdeal.τ).loc Cert.RankingIdeal.main_arg1)
          ∧ r.2.mem ((c.tc : Thread Cert.RankingIdeal.nD Cert.RankingIdeal.τ).loc Cert.RankingIdeal.main_arg2) = m ((c.tc : Thread Cert.RankingIdeal.nD Cert.RankingIdeal.τ).loc Cert.RankingIdeal.main_arg2)
          ∧ r.2.mem ((c.tc : Thread Cert.RankingIdeal.nD Cert.RankingIdeal.τ).loc Cert.RankingIdeal.main_arg3) = m ((c.tc : Thread Cert.RankingIdeal.nD Cert.RankingIdeal.τ).loc Cert.RankingIdeal.main_arg3))
      ∧ θ_run (Cert.RankingReferenceIdeal.defs (F := Ideal)) (onTc (τ := Cert.RankingReferenceIdeal.τ) (Cert.RankingReferenceIdeal.main (F := Ideal))) ⟨m', fun _ => 0, g'⟩ (fun r => ∀ c : Dev Cert.RankingReferenceIdeal.nD,
          r.2.mem ((c.tc : Thread Cert.RankingReferenceIdeal.nD Cert.RankingReferenceIdeal.τ).loc Cert.RankingReferenceIdeal.main_v22) = v0 c
          ∧ r.2.mem ((c.tc : Thread Cert.RankingReferenceIdeal.nD Cert.RankingReferenceIdeal.τ).loc Cert.RankingReferenceIdeal.main_values) = v1 c
          ∧ r.2.mem ((c.tc : Thread Cert.RankingReferenceIdeal.nD Cert.RankingReferenceIdeal.τ).loc Cert.RankingReferenceIdeal.main_arg0) = m' ((c.tc : Thread Cert.RankingReferenceIdeal.nD Cert.RankingReferenceIdeal.τ).loc Cert.RankingReferenceIdeal.main_arg0)
          ∧ r.2.mem ((c.tc : Thread Cert.RankingReferenceIdeal.nD Cert.RankingReferenceIdeal.τ).loc Cert.RankingReferenceIdeal.main_arg1) = m' ((c.tc : Thread Cert.RankingReferenceIdeal.nD Cert.RankingReferenceIdeal.τ).loc Cert.RankingReferenceIdeal.main_arg1)
          ∧ r.2.mem ((c.tc : Thread Cert.RankingReferenceIdeal.nD Cert.RankingReferenceIdeal.τ).loc Cert.RankingReferenceIdeal.main_arg2) = m' ((c.tc : Thread Cert.RankingReferenceIdeal.nD Cert.RankingReferenceIdeal.τ).loc Cert.RankingReferenceIdeal.main_arg2)
          ∧ r.2.mem ((c.tc : Thread Cert.RankingReferenceIdeal.nD Cert.RankingReferenceIdeal.τ).loc Cert.RankingReferenceIdeal.main_arg3) = m' ((c.tc : Thread Cert.RankingReferenceIdeal.nD Cert.RankingReferenceIdeal.τ).loc Cert.RankingReferenceIdeal.main_arg3))

def Claim : Prop :=
  ∃ (hKernel : Cert.Kernel.Facts) (hKernelIdeal : Cert.KernelIdeal.Facts) (hReferenceIdeal : Cert.ReferenceIdeal.Facts) (hCandidates : Cert.Candidates.Facts) (hCandidatesIdeal : Cert.CandidatesIdeal.Facts) (hCandidatesReferenceIdeal : Cert.CandidatesReferenceIdeal.Facts) (hThreshold : Cert.Threshold.Facts) (hThresholdIdeal : Cert.ThresholdIdeal.Facts) (hThresholdReferenceIdeal : Cert.ThresholdReferenceIdeal.Facts) (hAggregate : Cert.Aggregate.Facts) (hAggregateIdeal : Cert.AggregateIdeal.Facts) (hAggregateReferenceIdeal : Cert.AggregateReferenceIdeal.Facts) (hRanking : Cert.Ranking.Facts) (hRankingIdeal : Cert.RankingIdeal.Facts) (hRankingReferenceIdeal : Cert.RankingReferenceIdeal.Facts) (hPre_ids_in_rows : Cert.Pre_ids_in_rows.Facts) (hPre_finite : Cert.Pre_finite.Facts) (hPre_distinct : Cert.Pre_distinct.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_ReferenceIdeal (hReferenceIdeal := hReferenceIdeal)
    ∧ quiescent_ReferenceIdeal_pre_ids_in_rows (hReferenceIdeal := hReferenceIdeal) (hPre_ids_in_rows := hPre_ids_in_rows)
    ∧ quiescent_Candidates (hCandidates := hCandidates)
    ∧ quiescent_CandidatesIdeal (hCandidatesIdeal := hCandidatesIdeal)
    ∧ quiescent_CandidatesIdeal_pre_finite (hCandidatesIdeal := hCandidatesIdeal) (hPre_finite := hPre_finite)
    ∧ quiescent_CandidatesReferenceIdeal (hCandidatesReferenceIdeal := hCandidatesReferenceIdeal)
    ∧ quiescent_CandidatesReferenceIdeal_pre_finite (hCandidatesReferenceIdeal := hCandidatesReferenceIdeal) (hPre_finite := hPre_finite)
    ∧ quiescent_Threshold (hThreshold := hThreshold)
    ∧ quiescent_ThresholdIdeal (hThresholdIdeal := hThresholdIdeal)
    ∧ quiescent_ThresholdIdeal_pre_distinct (hThresholdIdeal := hThresholdIdeal) (hPre_distinct := hPre_distinct)
    ∧ quiescent_ThresholdReferenceIdeal (hThresholdReferenceIdeal := hThresholdReferenceIdeal)
    ∧ quiescent_ThresholdReferenceIdeal_pre_distinct (hThresholdReferenceIdeal := hThresholdReferenceIdeal) (hPre_distinct := hPre_distinct)
    ∧ quiescent_Aggregate (hAggregate := hAggregate)
    ∧ quiescent_AggregateIdeal (hAggregateIdeal := hAggregateIdeal)
    ∧ quiescent_AggregateReferenceIdeal (hAggregateReferenceIdeal := hAggregateReferenceIdeal)
    ∧ quiescent_Ranking (hRanking := hRanking)
    ∧ quiescent_RankingIdeal (hRankingIdeal := hRankingIdeal)
    ∧ quiescent_RankingReferenceIdeal (hRankingReferenceIdeal := hRankingReferenceIdeal)
    ∧ preserves_Kernel_KernelIdeal
    ∧ algebraic_KernelIdeal_ReferenceIdeal (hKernelIdeal := hKernelIdeal) (hReferenceIdeal := hReferenceIdeal) (hPre_ids_in_rows := hPre_ids_in_rows)
    ∧ preserves_Candidates_CandidatesIdeal
    ∧ algebraic_CandidatesIdeal_CandidatesReferenceIdeal_pre_finite (hCandidatesIdeal := hCandidatesIdeal) (hCandidatesReferenceIdeal := hCandidatesReferenceIdeal) (hPre_finite := hPre_finite)
    ∧ preserves_Threshold_ThresholdIdeal
    ∧ algebraic_ThresholdIdeal_ThresholdReferenceIdeal_pre_distinct (hThresholdIdeal := hThresholdIdeal) (hThresholdReferenceIdeal := hThresholdReferenceIdeal) (hPre_distinct := hPre_distinct)
    ∧ preserves_Aggregate_AggregateIdeal
    ∧ algebraic_AggregateIdeal_AggregateReferenceIdeal (hAggregateIdeal := hAggregateIdeal) (hAggregateReferenceIdeal := hAggregateReferenceIdeal)
    ∧ preserves_Ranking_RankingIdeal
    ∧ algebraic_RankingIdeal_RankingReferenceIdeal (hRankingIdeal := hRankingIdeal) (hRankingReferenceIdeal := hRankingReferenceIdeal)
-- ==== Pre_distinct.lean ====
abbrev S2560x128 : Shape := ⟨2, ![2560, 128]⟩
abbrev S100000x128 : Shape := ⟨2, ![100000, 128]⟩
abbrev S128x100000 : Shape := ⟨2, ![128, 100000]⟩
abbrev S2560x100000 : Shape := ⟨2, ![2560, 100000]⟩
abbrev S2560x9 : Shape := ⟨2, ![2560, 9]⟩
abbrev S2560x8 : Shape := ⟨2, ![2560, 8]⟩
abbrev S_ : Shape := ⟨0, ![]⟩

class Facts : Prop where
  transposes_S100000x128_S128x100000_1_0 : S100000x128.Transposes [1, 0] S128x100000
  sliceFits_S2560x100000_S2560x9 : S2560x100000.Slices (fun _ => 0) S2560x9
  slices_S2560x9_S2560x8_0_0 : S2560x9.Slices ![0, 0] S2560x8
  slices_S2560x9_S2560x8_0_1 : S2560x9.Slices ![0, 1] S2560x8
  reducesTo_S2560x8_S_d0_1 : S2560x8.ReducesTo [0, 1] S_
  h_S_ : 0 < S_.numel
  dot_S2560x128_S128x100000_S2560x100000_1_0_0_1_n_n_wf : DotDims.WF S2560x128 S128x100000 S2560x100000 [1] [0] [0] [1] [] []

variable [Facts]

def dot_S2560x128_S128x100000_S2560x100000_1_0_0_1_n_n : DotDims S2560x128 S128x100000 S2560x100000 where
  lhsContracting := [1]
  rhsContracting := [0]
  lhsNonContracting := [0]
  rhsNonContracting := [1]
  lhsBatch := []
  rhsBatch := []
  wf := dot_S2560x128_S128x100000_S2560x100000_1_0_0_1_n_n_wf
def fn {F : FTy → Type} [FloatOps F] (main_arg0 : FVec F S2560x128 .f32) (main_arg1 : FVec F S100000x128 .f32) : IVec S_ 1 :=
  let main_v0 : FVec F S128x100000 .f32 := (transpose S128x100000 [1, 0] · transposes_S100000x128_S128x100000_1_0) main_arg1
  let main_v1 : FVec F S2560x100000 .f32 := (fun l r => Host.dotGeneral dot_S2560x128_S128x100000_S2560x100000_1_0_0_1_n_n none l r) main_arg0 main_v0
  let main_values : FVec F S2560x9 .f32 := (fun x => (Host.topK S2560x9 1 (FloatOps.cmpfTotal .gt) x sliceFits_S2560x100000_S2560x9).1) main_v1
  let main_indices : IVec S2560x9 32 := (fun x => (Host.topK S2560x9 1 (FloatOps.cmpfTotal .gt) x sliceFits_S2560x100000_S2560x9).2) main_v1
  let main_v2 : FVec F S2560x8 .f32 := (extractStridedSlice S2560x8 ![0, 0] · slices_S2560x9_S2560x8_0_0) main_values
  let main_v3 : FVec F S2560x8 .f32 := (extractStridedSlice S2560x8 ![0, 1] · slices_S2560x9_S2560x8_0_1) main_values
  let main_v4 : IVec S2560x8 1 := cmpf .ogt main_v2 main_v3
  let main_c : IVec S_ 1 := constantI S_ 1 1#1
  let main_v5 : IVec S_ 1 := (fun x v => Host.reduce IntOp.andi x v reducesTo_S2560x8_S_d0_1 h_S_) main_v4 main_c
  main_v5
-- ==== Pre_finite.lean ====
abbrev S256x128 : Shape := ⟨2, ![256, 128]⟩
abbrev S100000x128 : Shape := ⟨2, ![100000, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S256x128 .f32) (main_arg1 : FVec F S100000x128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Pre_ids_in_rows.lean ====
abbrev S256x10 : Shape := ⟨2, ![256, 10]⟩
abbrev S100000x128 : Shape := ⟨2, ![100000, 128]⟩
abbrev S_ : Shape := ⟨0, ![]⟩

class Facts : Prop where
  bcast_S_S256x10 : S_.BroadcastsInDim S256x10 (![] : Fin 0 → Fin S256x10.rank)

variable [Facts]

def fn {F : FTy → Type} [FloatOps F] (main_arg0 : IVec S256x10 32) (main_arg1 : FVec F S100000x128 .f32) : IVec S256x10 1 :=
  let main_c : IVec S_ 32 := constantI S_ 32 0#32
  let main_v0 : IVec S256x10 32 := broadcastInDim S256x10 ![] bcast_S_S256x10 main_c
  let main_v1 : IVec S256x10 1 := cmpi .sge main_arg0 main_v0
  let main_c_0 : IVec S_ 32 := constantI S_ 32 100000#32
  let main_v2 : IVec S256x10 32 := broadcastInDim S256x10 ![] bcast_S_S256x10 main_c_0
  let main_v3 : IVec S256x10 1 := cmpi .slt main_arg0 main_v2
  let main_v4 : IVec S256x10 1 := andi main_v1 main_v3
  main_v4
-- ==== Kernel.lean ====
abbrev S256x10 : Shape := ⟨2, ![256, 10]⟩
abbrev S100000x128 : Shape := ⟨2, ![100000, 128]⟩
abbrev S2560 : Shape := ⟨1, ![2560]⟩
abbrev S2560x128 : Shape := ⟨2, ![2560, 128]⟩
abbrev S80 : Shape := ⟨1, ![80]⟩
abbrev S80x128 : Shape := ⟨2, ![80, 128]⟩
abbrev S_ : Shape := ⟨0, ![]⟩

abbrev nBuf : Table → Nat
  | .hbm => 4
  | .local .scVector .vmem => 2
  | _ => 0

abbrev bufTy : (tb : Table) → Fin (nBuf tb) → BufTy
  | .hbm, ⟨0, _⟩ => ⟨S256x10, .i32⟩
  | .hbm, ⟨1, _⟩ => ⟨S100000x128, .f32⟩
  | .hbm, ⟨2, _⟩ => ⟨S2560, .i32⟩
  | .hbm, ⟨3, _⟩ => ⟨S2560x128, .f32⟩
  | .local .scVector .vmem, ⟨0, _⟩ => ⟨S80, .i32⟩
  | .local .scVector .vmem, ⟨1, _⟩ => ⟨S80x128, .f32⟩
  | _, _ => ⟨S256x10, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x10 : Shape := ⟨2, ![256, 10]⟩
abbrev S100000x128 : Shape := ⟨2, ![100000, 128]⟩
abbrev S_ : Shape := ⟨0, ![]⟩
abbrev S256x10x1 : Shape := ⟨3, ![256, 10, 1]⟩
abbrev S256x10x128 : Shape := ⟨3, ![256, 10, 128]⟩
abbrev S2560x128 : Shape := ⟨2, ![2560, 128]⟩

abbrev nBuf : Space → Nat
  | .hbm => 12
  | .vmem => 0
  | .smem => 0
  | _ => 0

abbrev bufTy : (tb : Table) → Fin (tcTables nBuf tb) → BufTy
  | .hbm, ⟨0, _⟩ => ⟨S256x10, .i32⟩
  | .hbm, ⟨1, _⟩ => ⟨S100000x128, .f32⟩
  | .hbm, ⟨2, _⟩ => ⟨S_, .i32⟩
  | .hbm, ⟨3, _⟩ => ⟨S256x10, .i32⟩
  | .hbm, ⟨4, _⟩ => ⟨S256x10, .i1⟩
  | .hbm, ⟨5, _⟩ => ⟨S_, .i32⟩
  | .hbm, ⟨6, _⟩ => ⟨S256x10, .i32⟩
  | .hbm, ⟨7, _⟩ => ⟨S256x10, .i32⟩
  | .hbm, ⟨8, _⟩ => ⟨S256x10, .i32⟩
  | .hbm, ⟨9, _⟩ => ⟨S256x10x1, .i32⟩
  | .hbm, ⟨10, _⟩ => ⟨S256x10x128, .f32⟩
  | .hbm, ⟨11, _⟩ => ⟨S2560x128, .f32⟩
  | _, _ => ⟨S256x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Candidates.lean ====
abbrev S256x128 : Shape := ⟨2, ![256, 128]⟩
abbrev S100000x128 : Shape := ⟨2, ![100000, 128]⟩
abbrev S_ : Shape := ⟨0, ![]⟩
abbrev S100352x128 : Shape := ⟨2, ![100352, 128]⟩
abbrev S256x10 : Shape := ⟨2, ![256, 10]⟩
abbrev S2048x128 : Shape := ⟨2, ![2048, 128]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x20 : Shape := ⟨2, ![256, 20]⟩

abbrev nBuf : Space → Nat
  | .hbm => 6
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S256x10, .i32⟩
  | .local _ .vmem, ⟨0, _⟩ => ⟨S256x128, .f32⟩
  | .local _ .vmem, ⟨1, _⟩ => ⟨S2048x128, .f32⟩
  | .local _ .vmem, ⟨2, _⟩ => ⟨S2048x128, .f32⟩
  | .local _ .vmem, ⟨3, _⟩ => ⟨S256x10, .i32⟩
  | .local _ .vmem, ⟨4, _⟩ => ⟨S256x10, .f32⟩
  | .local _ .vmem, ⟨5, _⟩ => ⟨S256x10, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x10 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CandidatesIdeal.lean ====
variable {F : FTy → Type} [FloatOps F] [Named F]
def κ : String → Option EReal := fun
  | "lowest" => some ⊥
  | _ => none
-- ==== CandidatesReferenceIdeal.lean ====
abbrev S256x128 : Shape := ⟨2, ![256, 128]⟩
abbrev S100000x128 : Shape := ⟨2, ![100000, 128]⟩
abbrev S128x100000 : Shape := ⟨2, ![128, 100000]⟩
abbrev S256x100000 : Shape := ⟨2, ![256, 100000]⟩
abbrev S256x10 : Shape := ⟨2, ![256, 10]⟩

abbrev nBuf : Space → Nat
  | .hbm => 6
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S128x100000, .f32⟩
  | .hbm, ⟨3, _⟩ => ⟨S256x100000, .f32⟩
  | .hbm, ⟨4, _⟩ => ⟨S256x10, .f32⟩
  | .hbm, ⟨5, _⟩ => ⟨S256x10, .i32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Threshold.lean ====
abbrev S2560x128 : Shape := ⟨2, ![2560, 128]⟩
abbrev S100000x128 : Shape := ⟨2, ![100000, 128]⟩
abbrev S_ : Shape := ⟨0, ![]⟩
abbrev S100352x128 : Shape := ⟨2, ![100352, 128]⟩
abbrev S2560x1 : Shape := ⟨2, ![2560, 1]⟩
abbrev S2048x128 : Shape := ⟨2, ![2048, 128]⟩
abbrev S2560x9 : Shape := ⟨2, ![2560, 9]⟩
abbrev S2560x2048 : Shape := ⟨2, ![2560, 2048]⟩
abbrev S2560x1024 : Shape := ⟨2, ![2560, 1024]⟩
abbrev S2560 : Shape := ⟨1, ![2560]⟩
abbrev S2560x18 : Shape := ⟨2, ![2560, 18]⟩

abbrev nBuf : Space → Nat
  | .hbm => 6
  | .vmem => 5
  | .smem => 0
  | _ => 0

abbrev bufTy : (tb : Table) → Fin (tcTables nBuf tb) → BufTy
  | .hbm, ⟨0, _⟩ => ⟨S2560x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S2560x1, .f32⟩
  | .local _ .vmem, ⟨0, _⟩ => ⟨S2560x128, .f32⟩
  | .local _ .vmem, ⟨1, _⟩ => ⟨S2048x128, .f32⟩
  | .local _ .vmem, ⟨2, _⟩ => ⟨S2048x128, .f32⟩
  | .local _ .vmem, ⟨3, _⟩ => ⟨S2560x1, .f32⟩
  | .local _ .vmem, ⟨4, _⟩ => ⟨S2560x9, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![1, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2560x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ThresholdIdeal.lean ====
variable {F : FTy → Type} [FloatOps F] [Named F]
def κ : String → Option EReal := fun
  | "lowest" => some ⊥
  | _ => none
-- ==== ThresholdReferenceIdeal.lean ====
abbrev S2560x128 : Shape := ⟨2, ![2560, 128]⟩
abbrev S100000x128 : Shape := ⟨2, ![100000, 128]⟩
abbrev S128x100000 : Shape := ⟨2, ![128, 100000]⟩
abbrev S2560x100000 : Shape := ⟨2, ![2560, 100000]⟩
abbrev S2560x9 : Shape := ⟨2, ![2560, 9]⟩
abbrev S2560x1 : Shape := ⟨2, ![2560, 1]⟩

abbrev nBuf : Space → Nat
  | .hbm => 7
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S100000x128, .f32⟩
  | .hbm, ⟨2, _⟩ => ⟨S128x100000, .f32⟩
  | .hbm, ⟨3, _⟩ => ⟨S2560x100000, .f32⟩
  | .hbm, ⟨4, _⟩ => ⟨S2560x9, .f32⟩
  | .hbm, ⟨5, _⟩ => ⟨S2560x9, .i32⟩
  | .hbm, ⟨6, _⟩ => ⟨S2560x1, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Aggregate.lean ====
abbrev S2560x128 : Shape := ⟨2, ![2560, 128]⟩
abbrev S100000x128 : Shape := ⟨2, ![100000, 128]⟩
abbrev S2560x1 : Shape := ⟨2, ![2560, 1]⟩
abbrev S_ : Shape := ⟨0, ![]⟩
abbrev S100352x128 : Shape := ⟨2, ![100352, 128]⟩
abbrev S2048x128 : Shape := ⟨2, ![2048, 128]⟩
abbrev S2560x2048 : Shape := ⟨2, ![2560, 2048]⟩

abbrev nBuf : Space → Nat
  | .hbm => 7
  | .vmem => 5
  | .smem => 0
  | _ => 0

abbrev bufTy : (tb : Table) → Fin (tcTables nBuf tb) → BufTy
  | .hbm, ⟨0, _⟩ => ⟨S2560x128, .f32⟩
  | .hbm, ⟨1, _⟩ => ⟨S100000x128, .f32⟩
  | .hbm, ⟨2, _⟩ => ⟨S2560x1, .f32⟩
  | .hbm, ⟨3, _⟩ => ⟨S_, .i32⟩
  | .hbm, ⟨4, _⟩ => ⟨S_, .f32⟩
  | .hbm, ⟨5, _⟩ => ⟨S100352x128, .f32⟩
  | .hbm, ⟨6, _⟩ => ⟨S2560x128, .f32⟩
  | .local _ .vmem, ⟨0, _⟩ => ⟨S2560x128, .f32⟩
  | .local _ .vmem, ⟨1, _⟩ => ⟨S2048x128, .f32⟩
  | .local _ .vmem, ⟨2, _⟩ => ⟨S2048x128, .f32⟩
  | .local _ .vmem, ⟨3, _⟩ => ⟨S2560x1, .f32⟩
  | .local _ .vmem, ⟨4, _⟩ => ⟨S2560x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![1, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2560x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== AggregateReferenceIdeal.lean ====
abbrev S2560x128 : Shape := ⟨2, ![2560, 128]⟩
abbrev S100000x128 : Shape := ⟨2, ![100000, 128]⟩
abbrev S2560x1 : Shape := ⟨2, ![2560, 1]⟩
abbrev S128x100000 : Shape := ⟨2, ![128, 100000]⟩
abbrev S2560x100000 : Shape := ⟨2, ![2560, 100000]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S100000x128, .f32⟩
  | .hbm, ⟨2, _⟩ => ⟨S2560x1, .f32⟩
  | .hbm, ⟨3, _⟩ => ⟨S128x100000, .f32⟩
  | .hbm, ⟨4, _⟩ => ⟨S2560x100000, .f32⟩
  | .hbm, ⟨5, _⟩ => ⟨S2560x100000, .f32⟩
  | .hbm, ⟨6, _⟩ => ⟨S2560x100000, .i1⟩
  | .hbm, ⟨7, _⟩ => ⟨S_, .f32⟩
  | .hbm, ⟨8, _⟩ => ⟨S_, .f32⟩
  | .hbm, ⟨9, _⟩ => ⟨S2560x100000, .f32⟩
  | .hbm, ⟨10, _⟩ => ⟨S2560x100000, .f32⟩
  | .hbm, ⟨11, _⟩ => ⟨S2560x128, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Ranking.lean ====
abbrev S256x128 : Shape := ⟨2, ![256, 128]⟩
abbrev S256x10x128 : Shape := ⟨3, ![256, 10, 128]⟩
abbrev S256x10 : Shape := ⟨2, ![256, 10]⟩
abbrev S256x3 : Shape := ⟨2, ![256, 3]⟩
abbrev S256x1x128 : Shape := ⟨3, ![256, 1, 128]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S256x10x128, .f32⟩
  | .hbm, ⟨2, _⟩ => ⟨S256x10x128, .f32⟩
  | .hbm, ⟨3, _⟩ => ⟨S256x10, .i32⟩
  | .hbm, ⟨4, _⟩ => ⟨S256x3, .i32⟩
  | .hbm, ⟨5, _⟩ => ⟨S256x3, .f32⟩
  | .local _ .vmem, ⟨0, _⟩ => ⟨S256x128, .f32⟩
  | .local _ .vmem, ⟨1, _⟩ => ⟨S256x10x128, .f32⟩
  | .local _ .vmem, ⟨2, _⟩ => ⟨S256x10x128, .f32⟩
  | .local _ .vmem, ⟨3, _⟩ => ⟨S256x10, .i32⟩
  | .local _ .vmem, ⟨4, _⟩ => ⟨S256x3, .i32⟩
  | .local _ .vmem, ⟨5, _⟩ => ⟨S256x3, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x10 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RankingIdeal.lean ====
variable {F : FTy → Type} [FloatOps F] [Named F]
def κ : String → Option EReal := fun
  | "eps_sq" => some ((5316911940649 / 5316911983139663491615228241121378304 : ℝ) : EReal)
  | "lowest" => some ⊥
  | _ => none
-- ==== RankingReferenceIdeal.lean ====
abbrev S256x128 : Shape := ⟨2, ![256, 128]⟩
abbrev S256x10x128 : Shape := ⟨3, ![256, 10, 128]⟩
abbrev S256x10 : Shape := ⟨2, ![256, 10]⟩
abbrev S256x1x128 : Shape := ⟨3, ![256, 1, 128]⟩
abbrev S256x9x128 : Shape := ⟨3, ![256, 9, 128]⟩
abbrev S_ : Shape := ⟨0, ![]⟩
abbrev S256x10x1 : Shape := ⟨3, ![256, 10, 1]⟩
abbrev S256 : Shape := ⟨1, ![256]⟩
abbrev S256x1 : Shape := ⟨2, ![256, 1]⟩
abbrev S256x3 : Shape := ⟨2, ![256, 3]⟩
abbrev S256x3x1 : Shape := ⟨3, ![256, 3, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x10x128, .f32⟩
  | .hbm, ⟨2, _⟩ => ⟨S256x10x128, .f32⟩
  | .hbm, ⟨3, _⟩ => ⟨S256x10, .i32⟩
  | .hbm, ⟨4, _⟩ => ⟨S256x1x128, .f32⟩
  | .hbm, ⟨5, _⟩ => ⟨S256x9x128, .f32⟩
  | .hbm, ⟨6, _⟩ => ⟨S256x10x128, .f32⟩
  | .hbm, ⟨7, _⟩ => ⟨S_, .f32⟩
  | .hbm, ⟨8, _⟩ => ⟨S256x128, .f32⟩
  | .hbm, ⟨9, _⟩ => ⟨S256x1x128, .f32⟩
  | .hbm, ⟨10, _⟩ => ⟨S256x10x128, .f32⟩
  | .hbm, ⟨11, _⟩ => ⟨S256x10x128, .f32⟩
  | .hbm, ⟨12, _⟩ => ⟨S256x10x128, .f32⟩
  | .hbm, ⟨13, _⟩ => ⟨S_, .f32⟩
  | .hbm, ⟨14, _⟩ => ⟨S256x10, .f32⟩
  | .hbm, ⟨15, _⟩ => ⟨S256x10x1, .f32⟩
  | .hbm, ⟨16, _⟩ => ⟨S256x10x1, .f32⟩
  | .hbm, ⟨17, _⟩ => ⟨S_, .f32⟩
  | .hbm, ⟨18, _⟩ => ⟨S256x10x1, .f32⟩
  | .hbm, ⟨19, _⟩ => ⟨S256x10x1, .f32⟩
  | .hbm, ⟨20, _⟩ => ⟨S256x10x128, .f32⟩
  | .hbm, ⟨21, _⟩ => ⟨S256x10x128, .f32⟩
  | .hbm, ⟨22, _⟩ => ⟨S256x128, .f32⟩
  | .hbm, ⟨23, _⟩ => ⟨S_, .f32⟩
  | .hbm, ⟨24, _⟩ => ⟨S256, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x128, .f32⟩
  | .hbm, ⟨31, _⟩ => ⟨S256x128, .f32⟩
  | .hbm, ⟨32, _⟩ => ⟨S256x10, .f32⟩
  | .hbm, ⟨33, _⟩ => ⟨S256x10, .f32⟩
  | .hbm, ⟨34, _⟩ => ⟨S256x10, .f32⟩
  | .hbm, ⟨35, _⟩ => ⟨S_, .f32⟩
  | .hbm, ⟨36, _⟩ => ⟨S256x10, .f32⟩
  | .hbm, ⟨37, _⟩ => ⟨S256x10, .f32⟩
  | .hbm, ⟨38, _⟩ => ⟨S256x3, .f32⟩
  | .hbm, ⟨39, _⟩ => ⟨S256x3, .i32⟩
  | .hbm, ⟨40, _⟩ => ⟨S_, .i32⟩
  | .hbm, ⟨41, _⟩ => ⟨S256x3, .i32⟩
  | .hbm, ⟨42, _⟩ => ⟨S256x3, .i1⟩
  | .hbm, ⟨43, _⟩ => ⟨S_, .i32⟩
  | .hbm, ⟨44, _⟩ => ⟨S256x3, .i32⟩
  | .hbm, ⟨45, _⟩ => ⟨S256x3, .i32⟩
  | .hbm, ⟨46, _⟩ => ⟨S256x3, .i32⟩
  | .hbm, ⟨47, _⟩ => ⟨S256x3x1, .i32⟩
  | .hbm, ⟨48, _⟩ => ⟨S1, .i32⟩
  | .hbm, ⟨49, _⟩ => ⟨S_, .i32⟩
  | .hbm, ⟨50, _⟩ => ⟨S256x3x1, .i32⟩
  | .hbm, ⟨51, _⟩ => ⟨S256x3x1, .i1⟩
  | .hbm, ⟨52, _⟩ => ⟨S1x1x1, .i32⟩
  | .hbm, ⟨53, _⟩ => ⟨S256x3x1, .i32⟩
  | .hbm, ⟨54, _⟩ => ⟨S256x3x1, .i1⟩
  | .hbm, ⟨55, _⟩ => ⟨S256x3x1, .i1⟩
  | .hbm, ⟨56, _⟩ => ⟨S_, .i1⟩
  | .hbm, ⟨57, _⟩ => ⟨S256x3, .i1⟩
  | .hbm, ⟨58, _⟩ => ⟨S256x3, .i32⟩
  | .hbm, ⟨59, _⟩ => ⟨S_, .i32⟩
  | .hbm, ⟨60, _⟩ => ⟨S256x3, .i32⟩
  | .hbm, ⟨61, _⟩ => ⟨S256x3, .i32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_values : Ref sig .tc := ⟨.hbm, 38, rfl⟩
abbrev main_indices : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_c_4 : Ref sig .tc := ⟨.hbm, 59, rfl⟩
abbrev main_call2_v14 : Ref sig .tc := ⟨.hbm, 60, rfl⟩
abbrev main_v22 : Ref sig .tc := ⟨.hbm, 61, rfl⟩

abbrev nD : Nat := 1
abbrev τ : Topo := Topo.v7x

variable {F : FTy → Type} [FloatOps F]
-- ==== Proof.RowsIdeal.lean ====
/-
  The run of the row gather `KernelIdeal`: @main flattens the ids and starts the one SparseCore call; each of its
  2 × 16 tasks brings its 80 ids into tile memory, streams the 80 table rows they name into its row scratch and
  writes them out at its own 80 rows of the result.

  Task (c, s) is worker `2 s + c`; the flat ids and the result are dealt by worker (32 equal runs of rows), the
  table in 32 read shares. What a task hands back holds, on its rows, the one function `want`: the table at the
  row each flat id names. Everything is stated for any reading of the floats, over the flat ids `n` that @main
  left, so the launch gives the result's contents as well as the frame.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.Pre_ids_in_rows

@[expose] public section

noncomputable section

namespace Cert.Proof.RowsIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's vocabulary -/

abbrev Λp : Labels := Pipeline.Sig Λ₀ (Fin 0) fun p => (pcfgs (F := F) p).Adm
abbrev K : SparseCore.Cfg τ sig (Λp (F := F)) 1 := sc (F := F)
abbrev D [FloatOps F] : Defs nD τ sig (Elt F) (Λp (F := F)) := Pipeline.defs pcfgs defs₀
abbrev 𝒱₀ : Variants := Variants.none
abbrev 𝒱 : Variants := 𝒱₀.lift
abbrev v₀ : 𝒱.V := Sum.inl none

theorem nCore_eq : (K (F := F)).nCore 0 = 2 := rfl
theorem nSub_eq : (K (F := F)).nSub 0 = 16 := rfl

theorem launchFacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev idLoc (d : Dev nD) : Loc nD τ sig := (SparseCore.T d).loc main_arg0
abbrev dbLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v1

local notation "flatV" => (Memref.whole Cert.KernelIdeal.main_v0_scv : Memref Cert.KernelIdeal.sig Kind.scVector Space.hbm Cert.KernelIdeal.S2560 EltTy.i32)
local notation "dbV" => (Memref.whole Cert.KernelIdeal.main_arg1_scv : Memref Cert.KernelIdeal.sig Kind.scVector Space.hbm Cert.KernelIdeal.S100000x128 EltTy.f32)
local notation "outV" => (Memref.whole Cert.KernelIdeal.main_v1_scv : Memref Cert.KernelIdeal.sig Kind.scVector Space.hbm Cert.KernelIdeal.S2560x128 EltTy.f32)
local notation "listV" => (Memref.whole Cert.KernelIdeal.cc0_scratch0 : Memref Cert.KernelIdeal.sig Kind.scVector Space.vmem Cert.KernelIdeal.S80 EltTy.i32)
local notation "rowsV" => (Memref.whole Cert.KernelIdeal.cc0_scratch1 : Memref Cert.KernelIdeal.sig Kind.scVector Space.vmem Cert.KernelIdeal.S80x128 EltTy.f32)

/-! ## What the call is to leave -/

/-- The table row a word names (its value, held below the number of rows). -/
def named (w : BitVec 32) : Fin 100000 := ⟨min w.toNat 99999, by omega⟩

theorem named_val {w : BitVec 32} (h : w.toNat < 100000) : (named w).val = w.toNat := by simp only [named]; omega

/-- Row `j 0` of the result: the table at the row the flat id there names. -/
def want (n : S2560.Idx → BitVec 32) (db : S100000x128.Idx → Elt F .f32) (j : S2560x128.Idx) : Elt F .f32 :=
  db (ix2 (named (n (ix1 (j 0)))) (j 1))

/-! ## The deal: 32 workers -/

theorem cutFlat : 32 ∣ S2560.size 0 := ⟨80, rfl⟩
theorem cutOut : 32 ∣ S2560x128.size 0 := ⟨80, rfl⟩
/-- Worker `w`'s run of flat ids, and its rows of the result. -/
abbrev flatRect (w : Fin 32) : Rect S2560 := Rect.part (s := S2560) (a₀ := 0) cutFlat w
abbrev outRect (w : Fin 32) : Rect S2560x128 := Rect.part (s := S2560x128) (a₀ := 0) cutOut w
abbrev flatSet (w : Fin 32) : Finset S2560.Idx := (flatRect w).set
abbrev outSet (w : Fin 32) : Finset S2560x128.Idx := (outRect w).set
/-- Worker `w`'s read share of the table. -/
abbrev share (w : Fin 32) : PosShare TreeShare := pieceOf fullShare 32 (by decide) w

/-- The worker that runs as task `s` of SparseCore `c`. -/
def worker (c : Fin 2) (s : Fin 16) : Fin 32 := ⟨2 * s.val + c.val, by omega⟩

/-- Workers are pairs (SparseCore, task). -/
def workers : Fin 2 × Fin 16 ≃ Fin 32 where
  toFun p := worker p.1 p.2
  invFun w := (⟨w.val % 2, by omega⟩, ⟨w.val / 2, by omega⟩)
  left_inv p := by
    obtain ⟨c, s⟩ := p
    refine Prod.ext (Fin.ext ?_) (Fin.ext ?_) <;> simp only [worker] <;> omega
  right_inv w := Fin.ext (by simp only [worker]; omega)

variable [FloatOps F]
variable (n : (d : Dev nD) → Buf (Elt F) (flatLoc d))

/-- The result's contents at the end. -/
abbrev goal (d : Dev nD) : Buf (Elt F) (outLoc d) := want (F := F) (n d) (m (dbLoc d))

/-- What worker `w` works on: its flat ids, its share of the table, its rows of the result at contents `f`. -/
abbrev lot (d : Dev nD) (w : Fin 32) (f : Buf (Elt F) (outLoc d)) : sProp 𝕄 :=
  iprop((flatLoc d ↦[flatSet w]{fullShare} n d) ∗ (dbLoc d ↦{share w} m (dbLoc d)) ∗ outLoc d ↦[outSet w]{fullShare} f)

abbrev wk (c : Fin ((K (F := F)).nCore 0)) (s : Fin ((K (F := F)).nSub 0)) : Fin 32 := worker (Fin.cast nCore_eq c) (Fin.cast nSub_eq s)

/-- The call's payments: a task takes its worker's lot and brings it back with its rows of the result gathered; a
    SparseCore takes and brings back its sixteen tasks'. -/
def P : (K (F := F)).Pay (nD := nD) (Val := Elt F) (Name := ℕ) (U := UU) where
  st := fun q d c => match q with | 0 => bigSep Finset.univ fun s => lot m n d (wk (F := F) c s) (m (outLoc d))
  dn := fun q d c => match q with | 0 => bigSep Finset.univ fun s => lot m n d (wk (F := F) c s) (goal m n d)
  go := fun q d c s => match q with | 0 => lot m n d (wk (F := F) c s) (m (outLoc d))
  td := fun q d c s => match q with | 0 => lot m n d (wk (F := F) c s) (goal m n d)
  x := fun _ _ => iprop(emp)

instance P_storable : (P (F := F) m n).IsStorable where
  st q d c := match q with
    | 0 => (inferInstance : BI.Storable (upEmb : UEmb _ 𝕄) (bigSep Finset.univ fun s => lot m n d (wk (F := F) c s) (m (outLoc d))))
  dn q d c := match q with
    | 0 => (inferInstance : BI.Storable (upEmb : UEmb _ 𝕄) (bigSep Finset.univ fun s => lot m n d (wk (F := F) c s) (goal m n d)))
  go q d c s := match q with | 0 => (inferInstance : BI.Storable (upEmb : UEmb _ 𝕄) (lot m n d (wk (F := F) c s) (m (outLoc d))))
  td q d c s := match q with | 0 => (inferInstance : BI.Storable (upEmb : UEmb _ 𝕄) (lot m n d (wk (F := F) c s) (goal m n d)))

/-- Every flat id names a row of the table. -/
def InRows : Prop := ∀ (d : Dev nD) (j : S2560.Idx), (n d j : BitVec 32).toNat < 100000

/-! ## One task -/

section Task

variable (d : Dev nD) (L : grid0.Coords)

abbrev cOf (L : grid0.Coords) : Fin τ.nSC := (L 0).castLE hcore0
abbrev sOf (L : grid0.Coords) : Fin τ.nSub := (L 1).castLE hsub0
abbrev wOf (L : grid0.Coords) : Fin 32 := worker ⟨(L 0).val, (L 0).isLt⟩ ⟨(L 1).val, (L 1).isLt⟩
/-- The thread that runs the task. -/
abbrev thr (d : Dev nD) (L : grid0.Coords) : Thread nD τ := V d (cOf L) (sOf L)

abbrev flatCut (L : grid0.Coords) : Memref sig .scVector .hbm S80 .i32 :=
  (flatV).slice (Rect.unit (s := S2560) (k0_off1 L) S80.size (k0_off1_inb L)) (fun _ => rfl)
abbrev outCut (L : grid0.Coords) : Memref sig .scVector .hbm S80x128 .f32 :=
  (outV).slice (Rect.unit (s := S2560x128) (k0_off2 L) S80x128.size (k0_off2_inb L)) (fun _ => rfl)
abbrev dbAll : Memref sig .scVector .hbm S100000x128 .f32 :=
  (dbV).slice (Rect.unit (s := S100000x128) ![0, 0] S100000x128.size inb_S100000x128_S100000x128_0_0) (fun _ => rfl)

omit [FloatOps F] in
theorem flatCut_set : (flatCut L).view.set = flatSet (wOf L) := by
  have e : Rect.unit (s := S2560) (k0_off1 L) S80.size (k0_off1_inb L) = flatRect (wOf L) := by
    unfold flatRect Rect.part Rect.block
    congr 1 <;> funext a <;> match a with
      | 0 => simp [k0_off1_eq, Shape.partIx, Shape.partSize, worker] <;> omega
  show ((View.whole (main_v0_scv : Ref sig .scVector)).slice _).set = _
  rw [View.set_slice, e]; exact Finset.map_refl
omit [FloatOps F] in
theorem outCut_set : (outCut L).view.set = outSet (wOf L) := by
  have e : Rect.unit (s := S2560x128) (k0_off2 L) S80x128.size (k0_off2_inb L) = outRect (wOf L) := by
    unfold outRect Rect.part Rect.block
    congr 1 <;> funext a <;> match a with
      | 0 => simp [k0_off2_eq, Shape.partIx, Shape.partSize, worker] <;> omega
      | 1 => simp [k0_off2_eq, Shape.partIx, Shape.partSize]
  show ((View.whole (main_v1_scv : Ref sig .scVector)).slice _).set = _
  rw [View.set_slice, e]; exact Finset.map_refl

/-- The task's cells: the list's fetch, the stream, the write-out. -/
abbrev fetchCell (d : Dev nD) (L : grid0.Coords) : GSem nD τ sig := (thr d L, .dma cc0_scoped0.sem)
abbrev streamCell (d : Dev nD) (L : grid0.Coords) : GSem nD τ sig := (thr d L, .dma cc0_scratch2.sem)
abbrev outCell (d : Dev nD) (L : grid0.Coords) : GSem nD τ sig := (thr d L, .dma cc0_scoped1.sem)

omit [FloatOps F] in
theorem cells_apart : outCell d L ≠ streamCell d L ∧ outCell d L ≠ fetchCell d L ∧ streamCell d L ≠ fetchCell d L := by
  refine ⟨?_, ?_, ?_⟩ <;> (simp only [ne_eq, Prod.mk.injEq, true_and]; decide)

omit [FloatOps F] in
/-- Of the tile's own cells, at zero, the three the task uses. -/
theorem takeCells :
    (ownSems0 (thr d L) : sProp 𝕄)
      = iprop(semVal (fetchCell d L) 0 ∗ semVal (streamCell d L) 0 ∗ semVal (outCell d L) 0
          ∗ bigSep ((((ownCells (thr d L)).erase (fetchCell d L)).erase (streamCell d L)).erase (outCell d L)) fun g => semVal g 0) := by
  have own : ∀ s : DmaSem sig, (SemLoc.dma s : SemLoc sig).isScoped .scVector = true → ((thr d L, .dma s) : GSem nD τ sig) ∈ ownCells (thr d L) :=
    fun s h => mem_ownCells.mpr ⟨rfl, h⟩
  obtain ⟨h1, h2, h3⟩ := cells_apart d L
  unfold SparseCore.Cfg.ownSems0
  rw [SparseCore.bigSep_erase' (own cc0_scoped0.sem (by decide)),
    SparseCore.bigSep_erase' (Finset.mem_erase.mpr ⟨h3, own cc0_scratch2.sem (by decide)⟩),
    SparseCore.bigSep_erase' (Finset.mem_erase.mpr ⟨h1, Finset.mem_erase.mpr ⟨h2, own cc0_scoped1.sem (by decide)⟩⟩)]

omit [FloatOps F] in
/-- Of the tile's own buffers, at any contents, the two the task uses. -/
theorem takeBufs :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cOf L) (sOf L))).erase ((Proc.scVector (cOf L) (sOf L)).devRef cc0_scratch0)).erase
              ((Proc.scVector (cOf L) (sOf L)).devRef cc0_scratch1)) fun b => iprop(∃ f, ((d, b) : Loc nD τ sig) ↦{fullShare} f)) := by
  have own : ∀ r : Ref sig .scVector, ((Proc.scVector (cOf L) (sOf L)).devRef r : DevRef τ sig).owner = .proc (.scVector (cOf L) (sOf L)) →
      (Proc.scVector (cOf L) (sOf L)).devRef r ∈ ownRefs (τ := τ) (.scVector (cOf L) (sOf L)) := fun r h => SparseCore.Cfg.mem_ownRefs_of_owner h
  unfold SparseCore.Cfg.ownBufs
  refine (SparseCore.bigSep_erase' (own cc0_scratch0 rfl)).trans ?_
  rw [SparseCore.bigSep_erase' (Finset.mem_erase.mpr ⟨fun e => absurd (Proc.devRef_injective _ e)
    (show (cc0_scratch1 : Ref sig .scVector) ≠ cc0_scratch0 by decide), own cc0_scratch1 rfl⟩)]

/-- What the task's list holds after its fetch: worker's flat ids, in order. -/
abbrev listAt : S80.Idx → Elt F .i32 := (flatCut L).view.read (Elt F) (n d)

omit [FloatOps F] in
theorem list_in_rows (hn : InRows n) (f : Buf (Elt F) ((listV).view.loc (thr d L))) :
    ∀ x, ((listV).view.read (Elt F) (View.write (Elt F) (listV).view f (listAt n d L) Finset.univ) x).toNat
      < S100000x128.size gathers_S100000x128_S80x128.axis := by
  intro x
  rw [View.write_whole_univ]
  simp only [Memref.view_whole, View.read_whole, listAt]
  rw [show ∀ j, (flatCut L).view.read (Elt F) (n d) j = n d ((flatCut L).view.emb j) from fun j => (View.read_apply _ _).trans (cast_eq _ _)]
  exact hn d _

omit [FloatOps F] in
/-- What the stream brings, at row `x 0` of the row scratch: the table at the row named by the flat id that stands at
    the same place among the worker's. -/
theorem streamed (hn : InRows n) (f : Buf (Elt F) ((listV).view.loc (thr d L))) (x : S80x128.Idx) :
    SparseCore.gatherPayload gathers_S100000x128_S80x128 ((dbAll).view.read (Elt F) (m (dbLoc d)))
        (SparseCore.rows ((listV).view.read (Elt F) (View.write (Elt F) (listV).view f (listAt n d L) Finset.univ)) rfl (list_in_rows n d L hn f)) x
      = want (F := F) (n d) (m (dbLoc d)) ((outCut L).view.emb x) := by
  have hlist : (listV).view.read (Elt F) (View.write (Elt F) (listV).view f (listAt n d L) Finset.univ) = listAt n d L := by
    rw [View.write_whole_univ]; simp only [Memref.view_whole, View.read_whole]
  have hid : ∀ k : Fin 80, listAt n d L (S80.rowMajor.symm (k.cast (by decide))) = n d (ix1 ⟨k0_off1 L 0 + k.val, by
      have h : k0_off1 L 0 + 80 ≤ 2560 := k0_off1_inb L 0; have := k.isLt; omega⟩) := by
    intro k
    refine congrArg (n d) (funext fun a => Fin.ext ?_)
    match a with
    | 0 =>
      have e := Shape.rowMajor_val_one (S80.rowMajor.symm (k.cast (by decide)))
      rw [Equiv.apply_symm_apply] at e
      show k0_off1 L 0 + 1 * (S80.rowMajor.symm (k.cast (by decide)) 0).val = k0_off1 L 0 + k.val
      rw [← e]; simp
  have hoff : k0_off1 L 0 = k0_off2 L 0 := by rw [k0_off1_eq, k0_off2_eq]; rfl
  refine congrArg (m (dbLoc d)) (funext fun a => Fin.ext ?_)
  match a with
  | 0 =>
    refine (Nat.zero_add _).trans ((Nat.one_mul _).trans ?_)
    refine (congrArg Fin.val (Shape.Gathers.idx_axis gathers_S100000x128_S80x128 _ x)).trans ?_
    refine (congrArg (fun l : S80.Idx → Elt F .i32 => (l (S80.rowMajor.symm ((x 0).cast (by decide))) : BitVec 32).toNat) hlist).trans ?_
    refine (congrArg BitVec.toNat (hid (x 0))).trans ?_
    refine (named_val (hn d _)).symm.trans (congrArg (fun k : Fin 2560 => (named (n d (ix1 k))).val) (Fin.ext ?_))
    show k0_off1 L 0 + (x 0).val = k0_off2 L 0 + 1 * (x 0).val
    rw [hoff, Nat.one_mul]
  | 1 =>
    refine (Nat.zero_add _).trans ((Nat.one_mul _).trans ?_)
    refine (Shape.Gathers.idx_of_ne gathers_S100000x128_S80x128 _ x 1 (by decide)).trans ?_
    show (x 1).val = k0_off2 L 1 + 1 * (x 1).val
    rw [k0_off2_eq, Nat.one_mul]; exact (Nat.zero_add _).symm

omit [FloatOps F] in
/-- The result's rows once the row scratch is written out over them. -/
theorem landed (f : Buf (Elt F) (outLoc d)) (pay : S80x128.Idx → Elt F .f32)
    (hpay : ∀ x, pay x = want (F := F) (n d) (m (dbLoc d)) ((outCut L).view.emb x)) :
    ∀ i ∈ (outCut L).view.set, (outCut L).view.writes (Elt F) f [⟨Rect.whole S80x128, pay⟩] i = goal m n d i := by
  intro i hi
  obtain ⟨x, -, rfl⟩ := Finset.mem_map.mp hi
  refine Eq.trans ?_ (hpay x)
  have h := congrFun (View.read_writes_whole (outCut L).view f pay) x
  rw [View.read_apply] at h
  exact ((cast_eq _ _).symm.trans h)

set_option maxHeartbeats 4000000 in
theorem task_run (hF : (K (F := F)).Facts) (hn : InRows n) (O : CellTallies nD τ sig (HIx 1)) (W : Waits sig (HIx 1)) (hO : ∀ g, O g none = 0) :
    iprop(levAts (K (F := F)).L (K (F := F)).lev ∗ emp ∗ lot m n d (wOf L) (m (outLoc d))
        ∗ scopedBufs (thr d L) ∗ scopedSems0 (thr d L) ∗ owes (thr d L) O W)
      ⊢ wp frame (wpE (defs₀ (F := F)) 𝒱₀ (thr d L) none) Set.univ
          (cc0__sc_gather L flatV (Memref.isWhole_whole _) dbV (Memref.isWhole_whole _) outV (Memref.isWhole_whole _)
            listV (Memref.isWhole_whole _) rowsV (Memref.isWhole_whole _) cc0_scratch2 cc0_scoped0 cc0_scoped1)
          fun _ => iprop(lot m n d (wOf L) (goal m n d) ∗ scopedBufs (thr d L) ∗ scopedSems0 (thr d L)
            ∗ ∃ W', ⌜∀ p ∈ W', p ∈ W ∨ p.2 = none⌝ ∗ owes (thr d L) O W') := by
  simp only [cc0__sc_gather_eq_skeleton]; unfold cc0__sc_gather_skel
  rw [(K (F := F)).scopedBufs_V hF d (cOf L) (sOf L), SparseCore.Cfg.scopedSems0_V (Val := Elt F) d (cOf L) (sOf L), takeCells, takeBufs]
  unfold lot
  rw [← flatCut_set, ← outCut_set]
  iintro ⟨#Hlv, -, ⟨Hflat, Hdb, Hout⟩, ⟨⟨%fl, Hlist⟩, ⟨%fr, Hrows⟩, Hbufs⟩, ⟨Hc1, Hc2, Hc3, Hcells⟩, HO⟩
  ihave Hmw := (show levAts (K (F := F)).L (K (F := F)).lev ⊢ Transfers.MayWaits (thr d L) (default : HIx 1) O from
    (K (F := F)).mayWaits_none (thr := thr d L) hO) $$ Hlv
  ihave Hflat := (Entails.of_eq (show (flatLoc d ↦[(flatCut L).view.set]{fullShare} n d : sProp 𝕄)
    = (flatCut L).view.loc (thr d L) ↦[(flatCut L).view.set]{fullShare} n d from rfl)) $$ Hflat
  ihave Hout := (Entails.of_eq (show (outLoc d ↦[(outCut L).view.set]{fullShare} m (outLoc d) : sProp 𝕄)
    = (outCut L).view.loc (thr d L) ↦[(outCut L).view.set]{fullShare} m (outLoc d) from rfl)) $$ Hout
  ihave Hdb := (Entails.of_eq (show (dbLoc d ↦{share (wOf L)} m (dbLoc d) : sProp 𝕄)
    = (dbV).view.loc (thr d L) ↦{share (wOf L)} m (dbLoc d) from rfl)) $$ Hdb
  ihave Hlist := (Entails.of_eq (show ((thr d L).loc cc0_scratch0 ↦{fullShare} fl : sProp 𝕄)
    = (listV).view.loc (thr d L) ↦{fullShare} fl from rfl)) $$ Hlist
  ihave Hrows := (Entails.of_eq (show ((thr d L).loc cc0_scratch1 ↦{fullShare} fr : sProp 𝕄)
    = (rowsV).view.loc (thr d L) ↦{fullShare} fr from rfl)) $$ Hrows
  have hin := list_in_rows n d L hn
  sl_exec
  have hland := landed m n d L (m (outLoc d)) (task_run.sl.dma0_1 m n d L fl fr hin) fun x => by
    refine Eq.trans ?_ (streamed m n d L hn fl x)
    exact congrFun (View.read_writes_whole (rowsV).view fr (task_run.sl.gather1 m n d L fl hin)) x
  sl_step
  isplitl [Hflat Hdb Hout]
  · isplitl [Hflat]; · iexact Hflat
    isplitl [Hdb]; · iexact Hdb
    iapply (Entails.of_eq (pointsTo_congr hland)); iexact Hout
  isplitl [Hlist Hrows Hbufs]
  · isplitl [Hlist]; · iexists _; iexact Hlist
    isplitl [Hrows]; · iexists _; iexact Hrows
    iexact Hbufs
  isplitl [Hc1 Hc2 Hc3 Hcells]
  · isplitl [Hc1]; · iexact Hc1
    isplitl [Hc2]; · iexact Hc2
    isplitl [Hc3]; · iexact Hc3
    iexact Hcells
  iexists _; isplitr
  swap; · iexact HO
  ipureintro; intro p hp
  simp only [Finset.mem_insert] at hp
  rcases hp with rfl | rfl | rfl | hp
  · exact .inr rfl
  · exact .inr rfl
  · exact .inr rfl
  · exact .inl hp

/-! ## The obligation -/

/-- The grid point of task `s` on SparseCore `c`. -/
def pointAt (c : Fin (grid0.bound 0)) (s : Fin (grid0.bound 1)) : grid0.Coords :=
  fun | 0 => c | 1 => s | ⟨_ + 2, h⟩ => absurd h (Nat.not_lt.2 (Nat.le_add_left _ _))

theorem label_on_tile (c : Fin τ.nSC) (s : Fin τ.nSub) :
    defs₀ (F := F) (.scVector c s) 0 ()
      = SparseCore.onTile hcore0 hsub0 (fun c s => cc0__sc_gather (pointAt c s)
          flatV (Memref.isWhole_whole _) dbV (Memref.isWhole_whole _) outV (Memref.isWhole_whole _)
          listV (Memref.isWhole_whole _) rowsV (Memref.isWhole_whole _) cc0_scratch2 cc0_scoped0 cc0_scoped1) ⟨⟩ c s := rfl

set_option maxRecDepth 16384 in
theorem tile_obl (hF : (K (F := F)).Facts) (hn : InRows n) : (K (F := F)).TileObl (D (F := F)) 𝒱 (P m n) v₀ 0 := by
  intro d c i O W hO _ _
  simp only [show (P m n).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [label_on_tile]; simp only [SparseCore.onTile, hci, and_self, ↓reduceDIte]
  refine (task_run m n d (pointAt ⟨_, hci.1⟩ ⟨_, hci.2⟩) hF hn O W hO).trans (wp_mono frame _ _ fun _ => ?_)
  iintro ⟨H1, H2, H3, %W', %hW', HO⟩
  isplitl [H1]
  · iapply (Entails.of_eq (show lot m n d (wOf (pointAt ⟨_, hci.1⟩ ⟨_, hci.2⟩)) (goal m n d) = (P m n).td 0 d c i from rfl)); iexact H1
  isplitl [H2]; · iexact H2
  isplitl [H3]; · iexact H3
  iexists W'; isplitr
  · ipureintro; exact fun p hp => (hW' p hp).imp_right Or.inl
  · iexact HO

end Task

/-! ## The deal split and joined -/

omit [FloatOps F] in
theorem deal_flat (d : Dev nD) (f : Buf (Elt F) (flatLoc d)) :
    (flatLoc d ↦{fullShare} f : sProp 𝕄) = bigSep Finset.univ fun w : Fin 32 => flatLoc d ↦[flatSet w]{fullShare} f := by
  rw [← pointsTo_biUnion Finset.univ (ℓ := flatLoc d) flatSet fun i _ j _ h => Rect.part_disjoint cutFlat h]
  exact congrArg (fun I => (flatLoc d ↦[I]{fullShare} f : sProp 𝕄)) (Rect.biUnion_part cutFlat).symm
omit [FloatOps F] in
theorem deal_out (d : Dev nD) (f : Buf (Elt F) (outLoc d)) :
    (outLoc d ↦{fullShare} f : sProp 𝕄) = bigSep Finset.univ fun w : Fin 32 => outLoc d ↦[outSet w]{fullShare} f := by
  rw [← pointsTo_biUnion Finset.univ (ℓ := outLoc d) outSet fun i _ j _ h => Rect.part_disjoint cutOut h]
  exact congrArg (fun I => (outLoc d ↦[I]{fullShare} f : sProp 𝕄)) (Rect.biUnion_part cutOut).symm

/-- The whole arrays, the result's at `f`, are the 32 workers' lots, dealt by SparseCore and task. -/
theorem deal (d : Dev nD) (f : Buf (Elt F) (outLoc d)) :
    (iprop((flatLoc d ↦{fullShare} n d) ∗ (dbLoc d ↦{fullShare} m (dbLoc d)) ∗ outLoc d ↦{fullShare} f) : sProp 𝕄)
      = bigSep Finset.univ fun c : Fin ((K (F := F)).nCore 0) => bigSep Finset.univ fun s : Fin ((K (F := F)).nSub 0) => lot m n d (wk (F := F) c s) f := by
  have e : (bigSep Finset.univ fun c : Fin ((K (F := F)).nCore 0) => bigSep Finset.univ fun s : Fin ((K (F := F)).nSub 0) => lot m n d (wk (F := F) c s) f)
      = bigSep Finset.univ fun c : Fin 2 => bigSep Finset.univ fun s : Fin 16 => lot m n d (workers (c, s)) f := rfl
  rw [e, ← bigSep_univ_prod (fun p : Fin 2 × Fin 16 => lot m n d (workers p) f), ← bigSep_univ_equiv workers (fun w => lot m n d w f),
    bigSep_sep', bigSep_sep', ← deal_flat, ← deal_out, ← pointsTo_piecesOf]

theorem vec_split : (K (F := F)).VecSplit' (P m n) 0 := by
  intro d c
  show (bigSep Finset.univ fun s => lot m n d (wk (F := F) c s) (m (outLoc d))) ⊢ |={Set.univ}=> iprop(
      (bigSep Finset.univ fun s => lot m n d (wk (F := F) c s) (m (outLoc d)))
      ∗ ((bigSep Finset.univ fun s => lot m n d (wk (F := F) c s) (goal m n d)) -∗ bigSep Finset.univ fun s => lot m n d (wk (F := F) c s) (goal m n d)))
  iintro H; imodintro
  isplitl [H]; · iexact H
  iintro H; iexact H

/-! ## The launch's ghost state -/

def u₀ : UU := (initOf (K (F := F)).hsCells (K (F := F)).hsToks, 1)

theorem launch_own : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m n).x q thr) := by
  have hx : (bigSep Finset.univ fun thr : Thread nD τ => bigSep Finset.univ fun q : Fin 1 => (P (F := F) m n).x q thr) = (iprop(emp) : sProp 𝕄) :=
    (bigSep_congr fun _ _ => bigSep_univ_of_subsingleton (0 : Fin 1)).trans (bigSep_emp_const _)
  rw [hx, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

/-- The flat ids @main computes: the launch's ids in row-major order. -/
def flat (d : Dev nD) : Buf (Elt F) (flatLoc d) := fun j => shapeCast S2560 (m (idLoc d)) shapeCasts_S256x10_S2560 j

omit [FloatOps F] in
theorem mainBufs (d : Dev nD) :
    (unscopedBufs d (fun b => m ((d.tc : Thread nD τ).loc b)) : sProp 𝕄)
      = iprop((idLoc d ↦{fullShare} m (idLoc d)) ∗ (dbLoc d ↦{fullShare} m (dbLoc d)) ∗ (flatLoc d ↦{fullShare} m (flatLoc d)) ∗ outLoc d ↦{fullShare} m (outLoc d)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What @main keeps for the end: the arguments, and the result gathered. -/
abbrev kept (d : Dev nD) : sProp 𝕄 :=
  iprop((idLoc d ↦{fullShare} m (idLoc d)) ∗ (dbLoc d ↦{fullShare} m (dbLoc d)) ∗ outLoc d ↦{fullShare} goal m (flat m) d)

theorem main_run (κ : GSem nD τ sig → ℕ) (d : Dev nD) :
    iprop((K (F := F)).ctx EH (P m (flat m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ kept m d ∗ (K (F := F)).tcEnd d) := by
  unfold SparseCore.Cfg.tcRes SparseCore.Cfg.tcEnd
  rw [mainBufs]
  simp only [main, wp_bind, wp_pure]
  iintro ⟨#Hctx, Hst, ⟨Hb, ⟨Hi, Hx, Hn, Ho⟩, Hts, -⟩, -⟩
  have hd : ∀ V : Valuation τ sig (Elt F), (StableHlo.held (SparseCore.T d) {(Proc.devRef .tc main_arg0 : DevRef τ sig), Proc.devRef .tc main_v0} V : sProp 𝕄)
      = iprop((idLoc d ↦{fullShare} V (Proc.devRef .tc main_arg0)) ∗ flatLoc d ↦{fullShare} V (Proc.devRef .tc main_v0)) := fun V => by
    unfold StableHlo.held
    rw [SparseCore.bigSep_insert' (by decide), bigSep_singleton]
  iapply (StableHlo.wp_hlo_within 𝒱 (SparseCore.T d) none Set.univ
    (S := {(Proc.devRef .tc main_arg0 : DevRef τ sig), Proc.devRef .tc main_v0}) (Finset.Subset.refl _) (V := fun b => m (d, b))) $$ [Hb Hi Hn]
  · isplitl [Hb]; · iexact Hb
    rw [hd]
    isplitl [Hi] <;> iassumption
  rw [hd, StableHlo.reshape_result, StableHlo.reshape_result_ne (h := show main_arg0 ≠ main_v0 by decide), wp_ret]
  iintro ⟨Hb, Hi, Hn⟩
  imodintro
  iapply ((K (F := F)).wp_run (D (F := F)) 𝒱 (EH := EH) (P := P m (flat m)) κ d 0) $$ [Hst Hi Hx Hn Ho Hb Hts]
  isplitr; · iexact Hctx
  isplitl [Hst]; · iexact Hst
  isplitl [Hx Hn Ho]
  · iapply (Entails.of_eq (deal m (flat m) d (m (outLoc d))))
    isplitl [Hn]; · iexact Hn
    isplitl [Hx] <;> iassumption
  iintro ⟨Hst, Hdn⟩
  ihave Hdn := (show (bigSep Finset.univ fun c : Fin ((K (F := F)).nCore 0) => (P m (flat m)).dn 0 d c)
      ⊢ (iprop((flatLoc d ↦{fullShare} flat m d) ∗ (dbLoc d ↦{fullShare} m (dbLoc d)) ∗ outLoc d ↦{fullShare} goal m (flat m) d) : sProp 𝕄)
    from Entails.of_eq (deal m (flat m) d (goal m (flat m) d)).symm) $$ Hdn
  icases Hdn with ⟨-, Hx, Ho⟩
  imodintro
  isplitl [Hst]; · iexact Hst
  isplitr [Hb Hts]
  · isplitl [Hi]; · iexact Hi
    isplitl [Hx] <;> iassumption
  isplitl [Hb] <;> iassumption

/-- What the kept resources say of a memory. -/
def keptAt (d : Dev nD) (s' : Phys nD τ sig (Elt F)) : Prop :=
  s'.mem.mem (outLoc d) = goal m (flat m) d ∧ s'.mem.mem (idLoc d) = m (idLoc d) ∧ s'.mem.mem (dbLoc d) = m (dbLoc d)

omit [FloatOps F] in
/-- A buffer held whole at `f` is `f` in the memory, and still held. -/
theorem held_is {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem kept_says (d : Dev nD) (s' : Phys nD τ sig (Elt F)) : iprop(kept m d ∗ SI s') ⊢ (⌜keptAt m d s'⌝ : sProp 𝕄) := by
  iintro ⟨⟨Hi, Hx, Ho⟩, HSI⟩
  ihave H := (held_is _ s') $$ [HSI Hi]; · isplitl [HSI] <;> iassumption
  icases H with ⟨%hi, HSI⟩
  ihave H := (held_is _ s') $$ [HSI Hx]; · isplitl [HSI] <;> iassumption
  icases H with ⟨%hx, HSI⟩
  ihave H := (held_is _ s') $$ [HSI Ho]; · isplitl [HSI] <;> iassumption
  icases H with ⟨%ho, -⟩
  ipureintro; exact ⟨ho, hi, hx⟩

/-! ## The program's run -/

/-- The result is the gathered rows, the arguments are unchanged, every counter is back at zero. -/
def Ends : PUnit × MemSt nD τ sig (Elt F) → Prop := fun r =>
  (∀ c : Dev nD, r.2.mem (outLoc c) = goal m (flat m) c ∧ r.2.mem (idLoc c) = m (idLoc c) ∧ r.2.mem (dbLoc c) = m (dbLoc c)) ∧ r.2.sem = fun _ => 0

theorem program_run [∀ e, Nonempty (Elt F e)] (hn : InRows (flat m)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m (flat m)) (A := ∅) launchFacts v₀
    (fun q hq => match q with | 0 => nomatch hq)
    (fun q _ => match q with | 0 => tile_obl m (flat m) launchFacts hn)
    (fun q _ => match q with | 0 => SparseCore.Cfg.VecSplit.of_plain (vec_split m (flat m)))
    m ρ main (fun _ => iprop(emp)) (kept m) (u₀ (F := F)) (sep_elim_left.trans (launch_own m (flat m))) (main_run m ρ) (keptAt m) (kept_says m)
    (Ends m) (fun _ h hz => ⟨h, hz⟩)

/-! ## The precondition -/

/-- A word that is at least 0 and below 100000 as a signed number is below 100000 as a natural number. -/
theorem word_in_rows (v : BitVec 32) (e : IntOp.andi (IntOp.cmpi .sge v 0#32) (IntOp.cmpi .slt v 100000#32) = 1#1) : v.toNat < 100000 := by
  have both (p q : Bool) (h : IntOp.andi (BitVec.ofBool p) (BitVec.ofBool q) = 1#1) : p = true ∧ q = true := by
    revert h; cases p <;> cases q <;> decide
  obtain ⟨h0, h1⟩ := both _ _ e
  simp only [BitVec.sle_eq_decide, BitVec.slt_eq_decide, decide_eq_true_eq, BitVec.toInt_eq_toNat_cond, BitVec.toNat_ofNat,
    Nat.reducePow, Nat.reduceMod] at h0 h1
  omega

/-- The precondition at one id. -/
theorem id_in_rows (ids : IVec Cert.Pre_ids_in_rows.S256x10 32) (db : FVec F Cert.Pre_ids_in_rows.S100000x128 .f32)
    (h : Cert.Pre_ids_in_rows.fn (F := F) ids db = fun _ => 1#1) (j : Cert.Pre_ids_in_rows.S256x10.Idx) : (ids j).toNat < 100000 := by
  have e := congrFun h j
  simp only [Cert.Pre_ids_in_rows.fn, andi, cmpi, broadcastInDim, constantI] at e
  exact word_in_rows _ e

theorem flat_in_rows (h : ∀ c : Dev nD, Cert.Pre_ids_in_rows.fn (F := F) (m (idLoc c)) (m (dbLoc c)) = fun _ => 1#1) : InRows (flat m) :=
  fun d _ => id_in_rows _ _ (h d) _

end Cert.Proof.RowsIdeal

end
-- ==== Proof.Rowwise.lean ====
/-
  The reference's result is the kernel's: `db[ids]` laid out as 2560 rows is, row by row, the table at the row the
  flat id names. An id in the table's range is not negative, so the reference's wrap of negative ids leaves it, and
  its clamp into the range leaves it too.
-/
module

public import proofs.«01_k».proof.Proof.RowsIdeal
public import proofs.«01_k».proof.Proof.Gen.ReferenceIdeal
public import Idealize.ShloMosaic.Lib.ValueIdx
public import Idealize.ShloMosaic.Lib.Pipeline.Value

@[expose] public section

noncomputable section

namespace Cert.Proof.Rowwise

open Idealize.ShloMosaic Idealize.ShloMosaic.ValueIdx
open Cert.ReferenceIdeal Cert.ReferenceIdeal.Gen

local notation "rowDims" => gather_S100000x128_S256x10x1_S256x10x128_2_0_n_n_0_2_1128

/-- The reference's gather at query `q`, candidate `k`, column `c`: the table at column `c` of the row the start index
    there names, clamped into the table. -/
theorem gather_at {α : Type} (x : S100000x128.Idx → α) (idx : IVec S256x10x1 32) (q : Fin 256) (k : Fin 10) (c : Fin 128) :
    Host.gather rowDims x idx (ix3 q k c) = x (ix2 ⟨min (idx (ix3 q k 0)).toInt.toNat 99999, by omega⟩ c) := by
  unfold Host.gather
  refine congrArg x (funext fun a => Fin.ext ?_)
  show GatherDims.start rowDims (ix3 q k c) idx a + GatherDims.batchCoord rowDims (ix3 q k c) a + GatherDims.offCoord rowDims (ix3 q k c) a = _
  match a with
  | 0 =>
    rw [GatherDims.batchCoord_eq_zero _ _ _ (by simp [gather_S100000x128_S256x10x1_S256x10x128_2_0_n_n_0_2_1128]),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap rowDims from List.mem_singleton.mpr rfl)]
    have e : GatherDims.siIdx rowDims (ix3 q k c) ⟨List.idxOf (0 : Fin 2) (GatherDims.startIndexMap rowDims),
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [e]; rfl
  | 1 =>
    rw [GatherDims.batchCoord_eq_zero _ _ _ (by simp [gather_S100000x128_S256x10x1_S256x10x128_2_0_n_n_0_2_1128])]
    have e : GatherDims.start rowDims (ix3 q k c) idx ⟨1, by decide⟩ = 0 := by
      unfold GatherDims.start
      rw [dif_neg (by simp [gather_S100000x128_S256x10x1_S256x10x128_2_0_n_n_0_2_1128])]
    refine (congrArg (· + 0 + _) e).trans ?_
    simp only [Nat.zero_add]
    rfl

/-- A non-negative start index is left as it is by the reference's wrap. -/
theorem wrap_of_lt (w : BitVec 32) (h : w.toNat < 100000) : Scalar.select (IntOp.cmpi .slt w 0#32) (IntOp.addi w 100000#32) w = w := by
  have e : IntOp.cmpi .slt w 0#32 = 0#1 := by
    simp only [IntOp.cmpi, BitVec.slt_eq_decide]
    rw [decide_eq_false]; rfl
    simp only [BitVec.toInt_eq_toNat_cond, BitVec.toNat_ofNat, Nat.reducePow, Nat.reduceMod]
    omega
  rw [e]; rfl

variable {F : FTy → Type}

/-- The reference's composed term, at ids in range, is what the kernel gathers. -/
theorem rows_eq (ids : IVec S256x10 32) (db : FVec F S100000x128 .f32) (h : ∀ j, (ids j).toNat < 100000) :
    shapeCast S2560x128 (Host.gather rowDims db (broadcastInDim S256x10x1 ![0, 1] bcast_S256x10_S256x10x1_0_1
        (select (cmpi .slt ids (broadcastInDim S256x10 ![] bcast_S_S256x10 (constantI S_ 32 0#32)))
          (addi ids (broadcastInDim S256x10 ![] bcast_S_S256x10 (constantI S_ 32 100000#32))) ids))) shapeCasts_S256x10x128_S2560x128
      = RowsIdeal.want (F := F) (fun j => shapeCast Cert.KernelIdeal.S2560 ids Cert.KernelIdeal.Gen.shapeCasts_S256x10_S2560 j) db := by
  have hsel : select (cmpi .slt ids (broadcastInDim S256x10 ![] bcast_S_S256x10 (constantI S_ 32 0#32)))
      (addi ids (broadcastInDim S256x10 ![] bcast_S_S256x10 (constantI S_ 32 100000#32))) ids = ids := funext fun j => wrap_of_lt _ (h j)
  rw [hsel]
  funext j
  have h0 : (j 0).val < 2560 := (j 0).isLt
  have h1 : (j 1).val < 128 := (j 1).isLt
  refine (shapeCast_apply _ shapeCasts_S256x10x128_S2560x128 j (ix3 (⟨(j 0).val / 10, by omega⟩ : Fin 256) (⟨(j 0).val % 10, by omega⟩ : Fin 10) (j 1)) (by
    rw [Shape.rowMajor_val_two, Shape.rowMajor_val_three]
    show ((j 0).val / 10 * 10 + (j 0).val % 10) * 128 + (j 1).val = (j 0).val * 128 + (j 1).val
    omega)).trans ?_
  refine (gather_at _ _ _ _ _).trans ?_
  have hflat : shapeCast Cert.KernelIdeal.S2560 ids Cert.KernelIdeal.Gen.shapeCasts_S256x10_S2560 (ix1 (j 0))
      = ids (ix2 (⟨(j 0).val / 10, by omega⟩ : Fin 256) (⟨(j 0).val % 10, by omega⟩ : Fin 10)) := shapeCast_apply _ _ _ _ (by
    rw [Shape.rowMajor_val_one, Shape.rowMajor_val_two]
    show (j 0).val / 10 * 10 + (j 0).val % 10 = (j 0).val
    omega)
  unfold RowsIdeal.want
  dsimp only
  rw [hflat]
  have hw : ∀ w : BitVec 32, w.toNat < 100000 → w.toInt.toNat = w.toNat := fun w hw => by
    rw [BitVec.toInt_eq_toNat_cond]; split <;> omega
  have hb : broadcastInDim S256x10x1 ![0, 1] bcast_S256x10_S256x10x1_0_1 ids
      (ix3 (⟨(j 0).val / 10, by omega⟩ : Fin 256) (⟨(j 0).val % 10, by omega⟩ : Fin 10) (0 : Fin 1))
      = ids (ix2 (⟨(j 0).val / 10, by omega⟩ : Fin 256) (⟨(j 0).val % 10, by omega⟩ : Fin 10)) :=
    congrArg ids (funext fun a => match a with | 0 => rfl | 1 => rfl)
  exact congrArg (fun r : Fin 100000 => db (ix2 r (j 1)))
    (Fin.ext (congrArg (min · 99999) ((congrArg (fun w : BitVec 32 => w.toInt.toNat) hb).trans (hw _ (h _)))))

end Cert.Proof.Rowwise

end
-- ==== Proof.Best.lean ====
/- The order a top-k takes its entries in: the greater value first and, among equal values, the lower position. A chain of picks is
   a list of positions each of which is the best of those not picked before. Three facts: such a chain is the beginning of the stable
   descending sort; the picks of a union are the picks of the picks; and one round that finds the greatest value and then the least
   number among its holders makes the next pick. -/
module

public import Idealize.ShloMosaic.Lib.SortPrefix
public import Mathlib.Data.EReal.Basic
public import Mathlib.Data.Finset.Image
public import Mathlib.Order.CompleteLattice.Finset

@[expose] public section

namespace Cert.Proof.Best

open Idealize.ShloMosaic

/-- Position `i` comes before position `j` in the order of a top-k. -/
def Better (f : ℕ → EReal) (i j : ℕ) : Prop := f j < f i ∨ (f i = f j ∧ i < j)

variable {f : ℕ → EReal}

theorem Better.irrefl (i : ℕ) : ¬ Better f i i := fun h => by
  rcases h with h | h
  · exact lt_irrefl _ h
  · exact lt_irrefl _ h.2

theorem Better.trans {i j k : ℕ} (h : Better f i j) (h' : Better f j k) : Better f i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Better.asymm {i j : ℕ} (h : Better f i j) : ¬ Better f j i := fun h' => Better.irrefl i (h.trans h')

theorem better_total {i j : ℕ} (h : i ≠ j) : Better f i j ∨ Better f j i := by
  rcases lt_trichotomy (f i) (f j) with l | e | l
  · exact .inr (.inl l)
  · rcases Nat.lt_or_gt_of_ne h with l | l
    · exact .inl (.inr ⟨e, l⟩)
    · exact .inr (.inr ⟨e.symm, l⟩)
  · exact .inl (.inl l)

/-- The first `r` picks. -/
def picks (σ : ℕ → ℕ) (r : ℕ) : Finset ℕ := (Finset.range r).image σ

theorem mem_picks {σ : ℕ → ℕ} {r x : ℕ} : x ∈ picks σ r ↔ ∃ s < r, σ s = x := by
  simp [picks]

theorem picks_succ (σ : ℕ → ℕ) (r : ℕ) : picks σ (r + 1) = insert (σ r) (picks σ r) := by
  unfold picks; rw [Finset.range_add_one, Finset.image_insert]

theorem picks_zero (σ : ℕ → ℕ) : picks σ 0 = ∅ := rfl

/-- `x` is the best of `S`. -/
def IsBest (f : ℕ → EReal) (S : Finset ℕ) (x : ℕ) : Prop := x ∈ S ∧ ∀ j ∈ S, j ≠ x → Better f x j

/-- The first `k` values of `σ` are the first `k` picks from `S`. -/
def Chain (f : ℕ → EReal) (S : Finset ℕ) (k : ℕ) (σ : ℕ → ℕ) : Prop := ∀ r < k, IsBest f (S \ picks σ r) (σ r)

theorem Chain.mem {S : Finset ℕ} {k : ℕ} {σ : ℕ → ℕ} (h : Chain f S k σ) {r : ℕ} (hr : r < k) : σ r ∈ S :=
  (Finset.mem_sdiff.mp (h r hr).1).1

theorem Chain.inj {S : Finset ℕ} {k : ℕ} {σ : ℕ → ℕ} (h : Chain f S k σ) {r s : ℕ} (hs : s < k) (hrs : r < s) : σ r ≠ σ s := fun e =>
  (Finset.mem_sdiff.mp (h s hs).1).2 (mem_picks.mpr ⟨r, hrs, e⟩)

theorem Chain.better {S : Finset ℕ} {k : ℕ} {σ : ℕ → ℕ} (h : Chain f S k σ) {r s : ℕ} (hs : s < k) (hrs : r < s) :
    Better f (σ r) (σ s) := by
  refine (h r (hrs.trans hs)).2 (σ s) (Finset.mem_sdiff.mpr ⟨h.mem hs, fun hm => ?_⟩) (h.inj hs hrs).symm
  obtain ⟨t, ht, e⟩ := mem_picks.mp hm
  exact h.inj hs (ht.trans hrs) e

theorem Chain.rest {S : Finset ℕ} {k : ℕ} {σ : ℕ → ℕ} (h : Chain f S k σ) {r : ℕ} (hr : r < k) {x : ℕ} (hx : x ∈ S)
    (hn : x ∉ picks σ k) : Better f (σ r) x := by
  refine (h r hr).2 x (Finset.mem_sdiff.mpr ⟨hx, fun hm => ?_⟩) fun e => hn (mem_picks.mpr ⟨r, hr, e.symm⟩)
  obtain ⟨t, ht, e⟩ := mem_picks.mp hm
  exact hn (mem_picks.mpr ⟨t, ht.trans hr, e⟩)

theorem Chain.card_picks {S : Finset ℕ} {k : ℕ} {σ : ℕ → ℕ} (h : Chain f S k σ) : ∀ r ≤ k, (picks σ r).card = r
  | 0, _ => rfl
  | r + 1, hr => by
    rw [picks_succ, Finset.card_insert_of_notMem (Finset.mem_sdiff.mp (h r hr).1).2, h.card_picks r (Nat.le_of_succ_le hr)]

theorem Chain.picks_subset {S : Finset ℕ} {k : ℕ} {σ : ℕ → ℕ} (h : Chain f S k σ) : picks σ k ⊆ S := fun x hx => by
  obtain ⟨r, hr, e⟩ := mem_picks.mp hx
  exact e ▸ h.mem hr

theorem Chain.snoc {S : Finset ℕ} {k : ℕ} {σ : ℕ → ℕ} (h : Chain f S k σ) (hb : IsBest f (S \ picks σ k) (σ k)) :
    Chain f S (k + 1) σ := fun r hr => by
  rcases Nat.lt_succ_iff_lt_or_eq.mp hr with hr | rfl
  · exact h r hr
  · exact hb

/-- A chain only reads its first `k` values. -/
theorem picks_congr {σ τ : ℕ → ℕ} {r : ℕ} (h : ∀ s < r, σ s = τ s) : picks σ r = picks τ r :=
  Finset.image_congr fun s hs => h s (by simpa using hs)

theorem Chain.congr {S : Finset ℕ} {k : ℕ} {σ τ : ℕ → ℕ} (h : Chain f S k σ) (e : ∀ s < k, σ s = τ s) : Chain f S k τ := fun r hr => by
  have := h r hr
  rwa [e r hr, picks_congr fun s hs => e s (hs.trans hr)] at this

/-- The values on `S` are all a chain reads. -/
theorem Chain.congr_val {g : ℕ → EReal} {S : Finset ℕ} {k : ℕ} {σ : ℕ → ℕ} (h : Chain f S k σ) (e : ∀ i ∈ S, f i = g i) :
    Chain g S k σ := fun r hr => by
  refine ⟨(h r hr).1, fun j hj hne => ?_⟩
  have hb := (h r hr).2 j hj hne
  unfold Better at hb ⊢
  rwa [e j (Finset.mem_sdiff.mp hj).1, e (σ r) (h.mem hr)] at hb

/-- **The picks of a union are the picks of the picks.** `α` and `β` list the first `k` picks of `A` and `B`, or `A` has no element. -/
theorem Chain.union {A B : Finset ℕ} {k : ℕ} {α β σ : ℕ → ℕ} (hA : Chain f A k α) (hB : Chain f B k β)
    (h : Chain f (picks α k ∪ picks β k) k σ) : Chain f (A ∪ B) k σ := by
  have hk : ∀ r < k, ∀ x : ℕ, (∀ y ∈ picks σ r, Better f y (σ r)) → ∀ C : Finset ℕ, ∀ γ : ℕ → ℕ, Chain f C k γ →
      picks γ k ⊆ picks α k ∪ picks β k → x ∈ C → x ∉ picks γ k → Better f (σ r) x := by
    intro r hr x hlow C γ hC hsub hx hn
    by_contra hnot
    -- every pick of `C` is then before `σ r`, so is among the first `r` of `σ`
    have hall : picks γ k ⊆ picks σ r := by
      intro y hy
      obtain ⟨s, hs, rfl⟩ := mem_picks.mp hy
      by_contra hy'
      have hmem : γ s ∈ (picks α k ∪ picks β k) \ picks σ r := Finset.mem_sdiff.mpr ⟨hsub hy, hy'⟩
      have hyx : Better f (γ s) x := hC.rest hs hx hn
      by_cases e : γ s = σ r
      · exact hnot (e ▸ hyx)
      · exact hnot (((h r hr).2 _ hmem e).trans hyx)
    have := Finset.card_le_card hall
    rw [hC.card_picks k le_rfl, h.card_picks r hr.le] at this
    omega
  intro r hr
  have hmem := Finset.mem_sdiff.mp (h r hr).1
  have hlow : ∀ y ∈ picks σ r, Better f y (σ r) := fun y hy => by
    obtain ⟨s, hs, rfl⟩ := mem_picks.mp hy
    exact h.better hr hs
  refine ⟨Finset.mem_sdiff.mpr ⟨?_, hmem.2⟩, fun j hj hne => ?_⟩
  · rcases Finset.mem_union.mp hmem.1 with hm | hm
    · exact Finset.mem_union_left _ (hA.picks_subset hm)
    · exact Finset.mem_union_right _ (hB.picks_subset hm)
  · obtain ⟨hj, hjn⟩ := Finset.mem_sdiff.mp hj
    by_cases hjT : j ∈ picks α k ∪ picks β k
    · exact (h r hr).2 j (Finset.mem_sdiff.mpr ⟨hjT, hjn⟩) hne
    · rcases Finset.mem_union.mp hj with hj | hj
      · exact hk r hr j hlow A α hA Finset.subset_union_left hj fun hm => hjT (Finset.mem_union_left _ hm)
      · exact hk r hr j hlow B β hB Finset.subset_union_right hj fun hm => hjT (Finset.mem_union_right _ hm)

/-- The same from the picks of `B` alone, when there is nothing before them. -/
theorem Chain.of_picks {B : Finset ℕ} {k : ℕ} {β σ : ℕ → ℕ} (hB : Chain f B k β) (h : Chain f (picks β k) k σ) : Chain f B k σ := by
  have := Chain.union (σ := σ) hB hB (by rwa [Finset.union_self])
  rwa [Finset.union_self] at this

/-! ## The stable descending sort -/

/-- Inserting in front only compares with later positions, so a sort by the value alone is the sort by value and then position. -/
theorem stableSort_key {n : ℕ} (key : Fin n → EReal) (l : List (Fin n)) (hl : l.Pairwise (· < ·)) :
    stableSort (fun a b => decide (key b < key a)) l
      = stableSort (fun a b => decide (key b < key a) || (decide (key a = key b) && decide (a < b))) l := by
  induction l with
  | nil => rfl
  | cons a l ih =>
    rw [List.pairwise_cons] at hl
    unfold stableSort
    rw [ih hl.2]
    refine insertBefore_congr _ _ _ _ fun b hb => ?_
    have hab := hl.1 b ((perm_stableSort _ l).mem_iff.mp hb)
    simp [not_lt.mpr hab.le]

/-- **A chain of picks from the positions below `n` is the beginning of the stable descending sort.** -/
theorem Chain.sortedFrom_eq {n k : ℕ} (hkn : k ≤ n) (key : Fin n → EReal) (hf : ∀ i : Fin n, f i.val = key i) {σ : ℕ → ℕ}
    (h : Chain f (Finset.range n) k σ) (i : Fin k) :
    (sortedFrom (fun a b => decide (key b < key a)) (i.castLE hkn)).val = σ i.val := by
  have hlt : ∀ r, r < k → σ r < n := fun r hr => Finset.mem_range.mp (h.mem hr)
  have hB := StrictTotalBefore.of_key_then_position (fun a b : EReal => decide (b < a)) key (fun a => by simp)
    (fun a b c hab hbc => by simp only [decide_eq_true_eq] at hab hbc ⊢; exact hbc.trans hab)
    (fun a b => by simp only [decide_eq_true_eq]; rcases lt_trichotomy a b with h | h | h <;> simp [h])
  have hBB : ∀ a b : Fin n, ((decide (key b < key a) || (decide (key a = key b) && decide (a < b))) = true) ↔ Better f a.val b.val := by
    intro a b
    unfold Better
    rw [hf, hf]
    simp only [Bool.or_eq_true, Bool.and_eq_true, decide_eq_true_eq]; exact Iff.rfl
  have hnot : ∀ a b : Fin n, Better f b.val a.val →
      (decide (key b < key a) || (decide (key a = key b) && decide (a < b))) = false := fun a b hb =>
    Bool.eq_false_iff.mpr fun ht => ((hBB a b).mp ht).asymm hb
  have e := hB.sortedFrom_eq_of_prefix hkn (fun r : Fin k => ⟨σ r.val, hlt r.val r.isLt⟩)
    (fun a b hab => by
      have hv : σ a.val = σ b.val := congrArg Fin.val hab
      by_contra hne
      rcases Nat.lt_or_gt_of_ne fun e => hne (Fin.ext e) with l | l
      · exact h.inj b.isLt l hv
      · exact h.inj a.isLt l hv.symm)
    (fun a b hab => hnot _ _ (h.better b.isLt hab))
    (fun a p hp => hnot _ _ (h.rest a.isLt (Finset.mem_range.mpr p.isLt) fun hm => by
      obtain ⟨s, hs, e⟩ := mem_picks.mp hm
      exact hp ⟨s, hs⟩ (Fin.ext e))) i
  have e2 : sortedFrom (fun a b => decide (key b < key a)) (i.castLE hkn)
      = sortedFrom (fun a b => decide (key b < key a) || (decide (key a = key b) && decide (a < b))) (i.castLE hkn) := by
    unfold sortedFrom sortPositions
    rw [List.get_of_eq (stableSort_key key _ (List.pairwise_lt_finRange n))]
    rfl
  rw [e2, e]

/-! ## One round -/

/-- The greatest value of a row. -/
noncomputable def top {W : ℕ} (s : Fin W → EReal) : EReal := Finset.univ.sup s

/-- **A round finds the best.** Every entry of the row either holds an element of `S` with its value, or the least value; and every
    element of `S` is there or stands behind a better one that is. Then the greatest value is the best element's, its number is the least
    among the numbers of the entries that hold the greatest value. -/
theorem round {W : ℕ} (s : Fin W → EReal) (col : Fin W → ℕ) (S : Finset ℕ) (hne : S.Nonempty) (hbot : ∃ i ∈ S, f i ≠ ⊥)
    (holds : ∀ c, (col c ∈ S ∧ s c = f (col c)) ∨ s c = ⊥)
    (cover : ∀ i ∈ S, ∃ c, col c ∈ S ∧ s c = f (col c) ∧ (col c = i ∨ Better f (col c) i)) :
    ∃ x, IsBest f S x ∧ f x ≠ ⊥ ∧ top s = f x ∧ (∃ c, s c = top s ∧ col c = x) ∧ ∀ c, s c = top s → x ≤ col c := by
  -- the greatest value is attained at an entry that holds an element
  have htop : ∀ i ∈ S, f i ≤ top s := by
    intro i hi
    obtain ⟨c, hc, e, hb⟩ := cover i hi
    have h1 : f i ≤ f (col c) := by
      rcases hb with rfl | hb | ⟨hb, _⟩
      · exact le_rfl
      · exact hb.le
      · exact hb.symm.le
    exact h1.trans (e ▸ Finset.le_sup (f := s) (Finset.mem_univ c))
  have htb : top s ≠ ⊥ := by
    obtain ⟨i, hi, hf⟩ := hbot
    exact fun e => hf (le_bot_iff.mp (e ▸ htop i hi))
  have hin : ∀ c, s c = top s → col c ∈ S ∧ f (col c) = top s := fun c hc => by
    rcases holds c with ⟨h1, h2⟩ | h
    · exact ⟨h1, h2 ▸ hc⟩
    · exact absurd (hc.symm.trans h) htb
  have hW : (Finset.univ : Finset (Fin W)).Nonempty := by
    obtain ⟨i, hi⟩ := hne
    obtain ⟨c, _⟩ := cover i hi
    exact ⟨c, Finset.mem_univ c⟩
  obtain ⟨c0, _, hc0⟩ := Finset.exists_mem_eq_sup (Finset.univ : Finset (Fin W)) hW s
  -- the entries that hold it, and the least number among them
  obtain ⟨c, hc, hmin⟩ := Finset.exists_min_image (Finset.univ.filter fun c => s c = top s) col
    ⟨c0, Finset.mem_filter.mpr ⟨Finset.mem_univ _, hc0.symm⟩⟩
  have hcm : s c = top s := (Finset.mem_filter.mp hc).2
  have hle : ∀ c', s c' = top s → col c ≤ col c' := fun c' h => hmin c' (Finset.mem_filter.mpr ⟨Finset.mem_univ _, h⟩)
  obtain ⟨hcS, hcf⟩ := hin c hcm
  refine ⟨col c, ⟨hcS, fun j hj hne => ?_⟩, hcf ▸ htb, hcf.symm, ⟨c, hcm, rfl⟩, hle⟩
  rcases lt_or_eq_of_le (htop j hj) with hlt | heq
  · exact .inl (hcf.symm ▸ hlt)
  · refine .inr ⟨hcf.trans heq.symm, lt_of_le_of_ne ?_ (Ne.symm hne)⟩
    obtain ⟨c', hc'S, e', hb⟩ := cover j hj
    have hs' : s c' = top s := by
      rcases hb with rfl | hb | ⟨hb, _⟩
      · exact e'.trans heq
      · exact absurd (hb.trans_le (htop _ hc'S)) (heq ▸ lt_irrefl _)
      · exact e'.trans (hb.trans heq)
    refine (hle c' hs').trans ?_
    rcases hb with rfl | hb | ⟨_, hb⟩
    · exact le_rfl
    · exact absurd (hb.trans_le (htop _ hc'S)) (heq ▸ lt_irrefl _)
    · exact hb.le

end Cert.Proof.Best
-- ==== Proof.Reads.lean ====
/- Reading, row by row, what a round of a top-k does to a matrix over the extended reals: the row's greatest value, the least
   column number among the entries that hold it, and the row with the entry of that number lowered. -/
module

public import proofs.«01_k».proof.Proof.Best
public import Idealize.ShloMosaic.Lib.ValueIdx
public import Idealize.ShloMosaic.Lib.ValueLayout
public import Idealize.ShloMosaic.Lib.ValueLayoutCasts
public import Idealize.ShloMosaic.Lib.SortNet.Extract
public import Idealize.ShloMosaic.Lib.WordCmp
public import Idealize.ShloMosaic.PureOps.Ideal.Laws

@[expose] public section

noncomputable section

namespace Cert.Proof.Reads

open Idealize.ShloMosaic Idealize.ShloMosaic.ValueIdx Cert.Proof.Best

variable {R W : ℕ}

/-- A column spread over the columns of a matrix reads the column's entry of the row. -/
theorem spread_apply {α : Type} (x : (⟨2, ![R, 1]⟩ : Shape).Idx → α) (h : (⟨2, ![R, 1]⟩ : Shape).Broadcasts ⟨2, ![R, W]⟩)
    (r : Fin R) (c : Fin W) : broadcastTo ⟨2, ![R, W]⟩ x h (ix2 r c) = x (ix2 r 0) := by
  refine broadcastTo_apply x h (ix2 r c) (ix2 r 0) fun a => ?_
  match a with
  | 0 =>
    show r.val = if R = 1 then 0 else r.val
    split
    · have := r.isLt; omega
    · rfl
  | 1 => rfl

/-- The index a reduction along the rows reads for row `r` at column `c`. -/
theorem lift_eq (h : (⟨2, ![R, W]⟩ : Shape).Reduces [1] ⟨1, ![R]⟩) (r : Fin R) (c : Fin W) : h.lift (ix1 r) c = ix2 r c := by
  funext a
  match a with
  | 0 => rfl
  | 1 => rfl

/-- The f32 word of minus infinity denotes it. -/
theorem negInf_eq : FloatOps.ofBits (F := Ideal) .f32 0xFF800000#32 = (⊥ : EReal) := by
  show Ideal.ofBits .f32 0xFF800000#32 = ⊥
  simp [Ideal.ofBits, Ideal.ieee]

/-- A fold of `max` from minus infinity is the greatest value. -/
theorem fold_max_eq_top (s : Fin W → EReal) : (Finset.univ : Finset (Fin W)).fold max (⊥ : EReal) s = top s := rfl

/-- The row maxima as a column. -/
theorem rowMax_apply (s : FVec Ideal ⟨2, ![R, W]⟩ .f32) (hr hφ hacc)
    (hc : (⟨1, ![R]⟩ : Shape).ShapeCasts ⟨2, ![R, 1]⟩) (r : Fin R) :
    shapeCast ⟨2, ![R, 1]⟩ (multiReduction .maximumf [1] ⟨1, ![R]⟩ s 0xFF800000#32 hr hφ hacc) hc (ix2 r 0)
      = top fun c => s (ix2 r c) := by
  rw [shapeCast_a_a1_apply]
  have e := Ideal.multiReduction_maximumf_single s 0xFF800000#32 hr hφ hacc (ix1 r)
  refine e.trans ?_
  rw [negInf_eq]
  exact congrArg (Finset.univ.fold max (⊥ : EReal)) (funext fun c => congrArg s (lift_eq hr r c))

/-- The row sums as a column. -/
theorem rowSum_apply (s : FVec Ideal ⟨2, ![R, W]⟩ .f32) (hr hφ hacc)
    (hc : (⟨1, ![R]⟩ : Shape).ShapeCasts ⟨2, ![R, 1]⟩) (r : Fin R) :
    shapeCast ⟨2, ![R, 1]⟩ (multiReduction .add [1] ⟨1, ![R]⟩ s 0x00000000#32 hr hφ hacc) hc (ix2 r 0)
      = ∑ c : Fin W, s (ix2 r c) := by
  rw [shapeCast_a_a1_apply]
  refine (Ideal.multiReduction_add_single s 0x00000000#32 hr hφ hacc (ix1 r)).trans ?_
  exact Finset.sum_congr rfl fun c _ => congrArg s (lift_eq hr r c)

/-- A fold of the signed minimum is its start or one of the folded words, and no folded word is below it. -/
theorem fold_minsi (T : Finset (Fin W)) (v : Fin W → BitVec 32) (i : BitVec 32) :
    (T.fold IntOp.minsi i v = i ∨ ∃ c ∈ T, T.fold IntOp.minsi i v = v c) ∧ ∀ c ∈ T, (T.fold IntOp.minsi i v).toInt ≤ (v c).toInt := by
  classical
  induction T using Finset.induction_on with
  | empty => exact ⟨.inl rfl, fun c hc => absurd hc (Finset.notMem_empty c)⟩
  | insert a T ha ih =>
    have hf : (insert a T).fold IntOp.minsi i v = IntOp.minsi (v a) (T.fold IntOp.minsi i v) := Finset.fold_insert ha
    rw [hf]
    constructor
    · have hm : IntOp.minsi (v a) (T.fold IntOp.minsi i v) = v a ∨ IntOp.minsi (v a) (T.fold IntOp.minsi i v) = T.fold IntOp.minsi i v := by
        show (if (v a).slt _ then _ else _) = _ ∨ (if (v a).slt _ then _ else _) = _
        split
        · exact .inl rfl
        · exact .inr rfl
      rcases hm with e | e
      · exact .inr ⟨a, Finset.mem_insert_self a T, e⟩
      · rw [e]
        rcases ih.1 with e' | ⟨c, hc, e'⟩
        · exact .inl e'
        · exact .inr ⟨c, Finset.mem_insert_of_mem hc, e'⟩
    · intro c hc
      rw [SortNet.toInt_minsi]
      rcases Finset.mem_insert.mp hc with rfl | hc
      · exact min_le_left _ _
      · exact (min_le_right _ _).trans (ih.2 c hc)

/-- A number below 2³¹ as a word reads back as itself. -/
theorem toInt_ofNat {x : ℕ} (h : x < 2 ^ 31) : (BitVec.ofNat 32 x).toInt = x := by
  rw [BitVec.toInt_eq_toNat_of_lt (by rw [BitVec.toNat_ofNat]; omega), BitVec.toNat_ofNat]
  omega

/-- The least of the column numbers where the mask holds, over the greatest word elsewhere. -/
theorem fold_pick (p : Fin W → Prop) [DecidablePred p] (col : Fin W → ℕ) (hcol : ∀ c, p c → col c < 2 ^ 31) {x : ℕ}
    (hx : ∃ c, p c ∧ col c = x) (hmin : ∀ c, p c → x ≤ col c) :
    (Finset.univ : Finset (Fin W)).fold IntOp.minsi 2147483647#32 (fun c => if p c then BitVec.ofNat 32 (col c) else 2147483647#32)
      = BitVec.ofNat 32 x := by
  obtain ⟨c0, hp0, rfl⟩ := hx
  have h31 := hcol c0 hp0
  have hM : (2147483647#32 : BitVec 32).toInt = 2147483647 := by decide
  obtain ⟨h1, h2⟩ := fold_minsi Finset.univ (fun c => if p c then BitVec.ofNat 32 (col c) else 2147483647#32) 2147483647#32
  have hle := h2 c0 (Finset.mem_univ _)
  simp only [if_pos hp0] at hle
  refine BitVec.eq_of_toInt_eq (le_antisymm hle ?_)
  rw [toInt_ofNat h31]
  rcases h1 with e | ⟨c, _, e⟩
  · rw [e, hM]; omega
  · rw [e]
    by_cases hp : p c
    · simp only [if_pos hp]
      rw [toInt_ofNat (hcol c hp)]
      exact_mod_cast hmin c hp
    · simp only [if_neg hp]
      rw [hM]; omega

/-- A select on an equality of extended reals. -/
theorem select_oeq {α : Type} (a b : EReal) (x y : α) :
    Scalar.select (FloatOps.cmpf (F := Ideal) (φ := .f32) .oeq a b) x y = if a = b then x else y := by
  show Scalar.select (BitVec.ofBool (decide (a = b))) x y = _
  by_cases h : a = b <;> simp [h, Scalar.select]

/-- A select on an equality of words. -/
theorem select_eq {α : Type} (a b : BitVec 32) (x y : α) :
    Scalar.select (IntOp.cmpi .eq a b) x y = if a = b then x else y := by
  show Scalar.select (BitVec.ofBool (a == b)) x y = _
  by_cases h : a = b
  · rw [if_pos h, show (a == b) = true from beq_iff_eq.mpr h]; rfl
  · rw [if_neg h, show (a == b) = false from beq_eq_false_iff_ne.mpr h]; rfl

/-- **The column of a round's picked numbers.** -/
theorem rowPick_apply (s : FVec Ideal ⟨2, ![R, W]⟩ .f32) (m : FVec Ideal ⟨2, ![R, 1]⟩ .f32) (v : IVec ⟨2, ![R, W]⟩ 32)
    (hb : (⟨2, ![R, 1]⟩ : Shape).Broadcasts ⟨2, ![R, W]⟩) (hr hacc) (hc : (⟨1, ![R]⟩ : Shape).ShapeCasts ⟨2, ![R, 1]⟩) (r : Fin R)
    (col : Fin W → ℕ) (hv : ∀ c, s (ix2 r c) = m (ix2 r 0) → v (ix2 r c) = BitVec.ofNat 32 (col c))
    (hcol : ∀ c, s (ix2 r c) = m (ix2 r 0) → col c < 2 ^ 31) {x : ℕ}
    (hx : ∃ c, s (ix2 r c) = m (ix2 r 0) ∧ col c = x) (hmin : ∀ c, s (ix2 r c) = m (ix2 r 0) → x ≤ col c) :
    shapeCast ⟨2, ![R, 1]⟩ (multiReductionI .minsi [1] ⟨1, ![R]⟩
      (select (cmpf .oeq s (broadcastTo ⟨2, ![R, W]⟩ m hb)) v (broadcast ⟨2, ![R, W]⟩ 2147483647#32)) 2147483647#32 hr hacc) hc (ix2 r 0)
      = BitVec.ofNat 32 x := by
  classical
  rw [shapeCast_a_a1_apply, multiReductionI_eq_fold, hr.fold_filter_drop_single]
  rw [← fold_pick (fun c => s (ix2 r c) = m (ix2 r 0)) col hcol hx hmin]
  have key : ∀ c : Fin W, select (cmpf .oeq s (broadcastTo ⟨2, ![R, W]⟩ m hb)) v (broadcast ⟨2, ![R, W]⟩ 2147483647#32) (ix2 r c)
      = if s (ix2 r c) = m (ix2 r 0) then BitVec.ofNat 32 (col c) else 2147483647#32 := fun c => by
    show Scalar.select (FloatOps.cmpf (F := Ideal) (φ := .f32) .oeq (s (ix2 r c)) (broadcastTo _ m hb (ix2 r c))) _ _ = _
    rw [spread_apply, select_oeq]
    by_cases h : s (ix2 r c) = m (ix2 r 0)
    · rw [if_pos h, if_pos h, hv c h]
    · rw [if_neg h, if_neg h]; rfl
  exact Finset.fold_congr fun c _ => (congrArg _ (lift_eq hr r c)).trans (key c)

/-- A select between a splat and a row where a row of words meets a column of words. -/
theorem rowSelect_apply {α : Type} (v : IVec ⟨2, ![R, W]⟩ 32) (k : IVec ⟨2, ![R, 1]⟩ 32)
    (hb : (⟨2, ![R, 1]⟩ : Shape).Broadcasts ⟨2, ![R, W]⟩) (x y : (⟨2, ![R, W]⟩ : Shape).Idx → α) (r : Fin R) (c : Fin W) :
    select (cmpi .eq v (broadcastTo ⟨2, ![R, W]⟩ k hb)) x y (ix2 r c)
      = if v (ix2 r c) = k (ix2 r 0) then x (ix2 r c) else y (ix2 r c) := by
  show Scalar.select (IntOp.cmpi .eq (v (ix2 r c)) (broadcastTo _ k hb (ix2 r c))) _ _ = _
  rw [spread_apply, select_eq]

/-- A column of row sums of words. -/
theorem rowAddI_apply (v : IVec ⟨2, ![R, W]⟩ 32) (hr hacc) (hc : (⟨1, ![R]⟩ : Shape).ShapeCasts ⟨2, ![R, 1]⟩) (r : Fin R) :
    shapeCast ⟨2, ![R, 1]⟩ (multiReductionI .add [1] ⟨1, ![R]⟩ v 0#32 hr hacc) hc (ix2 r 0)
      = (Finset.univ : Finset (Fin W)).fold IntOp.addi 0#32 fun c => v (ix2 r c) := by
  rw [shapeCast_a_a1_apply, multiReductionI_eq_fold, hr.fold_filter_drop_single]
  exact congrArg (fun v => (Finset.univ : Finset (Fin W)).fold IntOp.addi 0#32 v) (funext fun c => congrArg v (lift_eq hr r c))

end Cert.Proof.Reads
-- ==== Proof.Table.lean ====
/- The database in blocks of 2048 rows, the last one filled up with zero rows: what a row number reads, the number of a block's
   lane, and a sum over the lanes of the blocks as a sum over the rows. -/
module

public import proofs.«01_k».proof.Proof.Reads
public import Idealize.ShloMosaic.Lib.KernelVsHost
public import Idealize.ShloMosaic.Lib.MatmulPlain
public import Idealize.ShloMosaic.Lib.StackMember

@[expose] public section

noncomputable section

namespace Cert.Proof.Table

open Idealize.ShloMosaic Idealize.ShloMosaic.ValueIdx

/-- Row `n` of the table, zero past its end. -/
def row (db : FVec Ideal ⟨2, ![100000, 128]⟩ .f32) (n : ℕ) (d : Fin 128) : EReal :=
  if h : n < 100000 then db (ix2 ⟨n, h⟩ d) else 0

theorem row_of_lt (db : FVec Ideal ⟨2, ![100000, 128]⟩ .f32) (n : Fin 100000) (d : Fin 128) : row db n.val d = db (ix2 n d) :=
  dif_pos n.isLt

theorem row_of_not_lt (db : FVec Ideal ⟨2, ![100000, 128]⟩ .f32) (n : ℕ) (h : ¬n < 100000) (d : Fin 128) : row db n d = 0 :=
  dif_neg h

/-- The padded table read at a row. -/
theorem padded_apply (db : FVec Ideal ⟨2, ![100000, 128]⟩ .f32) {u : Shape} (v : FVec Ideal u .f32) (hv : ∀ i, v i = 0)
    (h : (⟨2, ![100000, 128]⟩ : Shape).Pads (![0, 0] : Fin 2 → Nat) ![352, 0] ![0, 0] ⟨2, ![100352, 128]⟩) (hu : 0 < u.numel)
    (n : Fin 100352) (d : Fin 128) : pad ⟨2, ![100352, 128]⟩ ![0, 0] ![352, 0] ![0, 0] db v h hu (ix2 n d) = row db n.val d := by
  by_cases hn : n.val < 100000
  · refine (pad_apply_of_inside _ _ _ db v h hu (ix2 n d) (ix2 ⟨n.val, hn⟩ d) fun a => ?_).trans (row_of_lt db ⟨n.val, hn⟩ d).symm
    match a with
    | 0 => show n.val = 0 + n.val * (0 + 1); omega
    | 1 => show d.val = 0 + d.val * (0 + 1); omega
  · refine (pad_apply_of_not_inside _ _ _ db v h hu (ix2 n d) 0 fun hin => hn ?_).trans ((hv _).trans (row_of_not_lt db n.val hn d).symm)
    have h3 : (n.val - 0) / (0 + 1) < 100000 := hin.2.2
    omega

/-- The word that numbers lane `l` of block `b`. -/
theorem lane_word (b l : ℕ) :
    BitVec.ofNat 32 l + BitVec.ofNat 32 b * 2048#32 = BitVec.ofNat 32 (b * 2048 + l) := by
  rw [← BitVec.ofNat_mul, ← BitVec.ofNat_add, Nat.add_comm]

theorem lane_toInt (n : ℕ) (h : n < 100352) : (BitVec.ofNat 32 n).toInt = n := by
  rw [BitVec.toInt_eq_toNat_of_lt (by rw [BitVec.toNat_ofNat]; omega), BitVec.toNat_ofNat, Nat.mod_eq_of_lt (by omega)]

/-- Whether a lane stands for a row of the table. -/
theorem lane_slt (n : ℕ) (h : n < 100352) :
    IntOp.cmpi .slt (BitVec.ofNat 32 n) 100000#32 = if n < 100000 then 1#1 else 0#1 := by
  show BitVec.ofBool ((BitVec.ofNat 32 n).slt 100000#32) = _
  rw [BitVec.slt, lane_toInt n h, show (100000#32 : BitVec 32).toInt = 100000 from by decide]
  by_cases hn : n < 100000
  · rw [if_pos hn, decide_eq_true (by omega : (n : ℤ) < 100000)]; rfl
  · rw [if_neg hn, decide_eq_false (by omega : ¬(n : ℤ) < 100000)]; rfl

/-- Blocks of lanes, summed one after another. -/
theorem sum_blocks {β : Type*} [AddCommMonoid β] (F : ℕ → β) (w k : ℕ) :
    ∑ s ∈ Finset.range k, ∑ l : Fin w, F (s * w + l.val) = ∑ n ∈ Finset.range (k * w), F n := by
  induction k with
  | zero => rw [Nat.zero_mul]; rfl
  | succ k ih => rw [Finset.sum_range_succ, ih, Nat.succ_mul, Finset.sum_range_add, Finset.sum_range (fun x => F (k * w + x))]

/-- What is zero past the table's end sums over the table's rows only. -/
theorem sum_rows {β : Type*} [AddCommMonoid β] (F : ℕ → β) (h0 : ∀ n, ¬n < 100000 → F n = 0) :
    ∑ s ∈ Finset.range 49, ∑ l : Fin 2048, F (s * 2048 + l.val) = ∑ n : Fin 100000, F n.val := by
  rw [sum_blocks, ← Finset.sum_range (fun n => F n)]
  refine (Finset.sum_subset (fun n hn => ?_) fun n _ hn => ?_).symm
  · rw [Finset.mem_range] at hn ⊢; omega
  · exact h0 n fun h => hn (Finset.mem_range.mpr h)

end Cert.Proof.Table

end
-- ==== Proof.CandStep.lean ====
/- What stage 1's body leaves in its two running arrays and in its result at one grid point, as ten rounds over the pairs of a block's
   lanes followed by ten rounds over the twenty entries kept and found. -/
module

public import proofs.«01_k».proof.Proof.Gen.CandidatesIdeal.Value
public import proofs.«01_k».proof.Proof.Table

@[expose] public section

noncomputable section

namespace Cert.Proof.CandStep

open Cert.CandidatesIdeal Cert.CandidatesIdeal.Gen Idealize.ShloMosaic Idealize.ShloMosaic.TcCoe Idealize.ShloMosaic.Tactic

/-- The value written over a taken entry. -/
abbrev low : Ideal .f32 := Named.named κ "lowest" 0xFF61B1E6#32

/-- The pairs of lanes in the middle of the rounds: the value each shows, its number, and the value behind it. -/
structure Pairs where
  shown : FVec Ideal S256x1024 .f32
  num : IVec S256x1024 32
  behind : FVec Ideal S256x1024 .f32

/-- The greatest value shown in each row. -/
def Pairs.top (s : Pairs) : FVec Ideal S256x1 .f32 :=
  shapeCast S256x1 (multiReduction .maximumf [1] S256 s.shown 0xFF800000#32 reduces_S256x1024_S256 (.inl rfl) rfl) shapeCasts_S256_S256x1

/-- The least number among those that show it. -/
def Pairs.pick (s : Pairs) : IVec S256x1 32 :=
  shapeCast S256x1 (multiReductionI .minsi [1] S256
    (select (cmpf .oeq s.shown (broadcastTo S256x1024 s.top broadcasts_S256x1_S256x1024)) s.num (broadcast S256x1024 2147483647#32))
    2147483647#32 reduces_S256x1024_S256 rfl) shapeCasts_S256_S256x1

/-- Where the pick is. -/
def Pairs.here (s : Pairs) : IVec S256x1024 1 := cmpi .eq s.num (broadcastTo S256x1024 s.pick broadcasts_S256x1_S256x1024)

/-- The picked pair shows what was behind. -/
def Pairs.next (other : IVec S256x1024 32) (s : Pairs) : Pairs where
  shown := select s.here s.behind s.shown
  num := select s.here other s.num
  behind := select s.here (broadcast S256x1024 low) s.behind

/-- After some rounds. -/
def Pairs.after (other : IVec S256x1024 32) (s : Pairs) : ℕ → Pairs
  | 0 => s
  | n + 1 => (Pairs.after other s n).next other

/-- The greatest of each row's twenty entries. -/
def topOf (s : FVec Ideal S256x20 .f32) : FVec Ideal S256x1 .f32 :=
  shapeCast S256x1 (multiReduction .maximumf [1] S256 s 0xFF800000#32 reduces_S256x20_S256 (.inl rfl) rfl) shapeCasts_S256_S256x1

/-- The least number among those that hold it. -/
def pickOf (num : IVec S256x20 32) (s : FVec Ideal S256x20 .f32) : IVec S256x1 32 :=
  shapeCast S256x1 (multiReductionI .minsi [1] S256
    (select (cmpf .oeq s (broadcastTo S256x20 (topOf s) broadcasts_S256x1_S256x20)) num (broadcast S256x20 2147483647#32))
    2147483647#32 reduces_S256x20_S256 rfl) shapeCasts_S256_S256x1

/-- The picked number's entries are written over. -/
def nextOf (num : IVec S256x20 32) (s : FVec Ideal S256x20 .f32) : FVec Ideal S256x20 .f32 :=
  select (cmpi .eq num (broadcastTo S256x20 (pickOf num s) broadcasts_S256x1_S256x20)) (broadcast S256x20 low) s

/-- After some rounds. -/
def afterOf (num : IVec S256x20 32) (s : FVec Ideal S256x20 .f32) : ℕ → FVec Ideal S256x20 .f32
  | 0 => s
  | n + 1 => nextOf num (afterOf num s n)

variable (i : grid0.Coords) (x0 : Vec Ideal S256x128 .f32) (x1 : Vec Ideal S2048x128 .f32) (v : Vec Ideal S256x10 .f32) (n : Vec Ideal S256x10 .i32)

/-- A block's pairs before the rounds. -/
def start : Pairs where
  shown := k0_pay14 i x0 x1
  num := k0_pay16 i x0 x1
  behind := k0_pay15 i x0 x1

/-- The pairs after some rounds. -/
def pairs (r : ℕ) : Pairs := (start i x0 x1).after (k0_pay17 i x0 x1) r

/-- The ten values kept and the ten found. -/
def values : FVec Ideal S256x20 .f32 :=
  concatenate S256x20 1 (⟨S256x10, v⟩ :: List.ofFn fun k : Fin 10 => (⟨S256x1, (pairs i x0 x1 k.val).top⟩ : (s : Shape) × (s.Idx → Ideal .f32)))
    concatenates_S256x10_S256x1_S256x1_S256x1_S256x1_S256x1_S256x1_S256x1_S256x1_S256x1_S256x1_S256x20_d1

/-- Their numbers. -/
def numbers : IVec S256x20 32 :=
  concatenate S256x20 1 (⟨S256x10, n⟩ :: List.ofFn fun k : Fin 10 => (⟨S256x1, (pairs i x0 x1 k.val).pick⟩ : (s : Shape) × (s.Idx → BitVec 32)))
    concatenates_S256x10_S256x1_S256x1_S256x1_S256x1_S256x1_S256x1_S256x1_S256x1_S256x1_S256x1_S256x20_d1

/-- The twenty entries after some rounds. -/
def rest (r : ℕ) : FVec Ideal S256x20 .f32 := afterOf (numbers i x0 x1 n) (values i x0 x1 v) r

/-- The ten values kept next. -/
def keptValues : FVec Ideal S256x10 .f32 :=
  concatenate S256x10 1 (List.ofFn fun k : Fin 10 => (⟨S256x1, topOf (rest i x0 x1 v n k.val)⟩ : (s : Shape) × (s.Idx → Ideal .f32)))
    concatenates_S256x1_S256x1_S256x1_S256x1_S256x1_S256x1_S256x1_S256x1_S256x1_S256x1_S256x10_d1

/-- The ten numbers kept next. -/
def keptNumbers : IVec S256x10 32 :=
  concatenate S256x10 1 (List.ofFn fun k : Fin 10 => (⟨S256x1, pickOf (numbers i x0 x1 n) (rest i x0 x1 v n k.val)⟩ : (s : Shape) × (s.Idx → BitVec 32)))
    concatenates_S256x1_S256x1_S256x1_S256x1_S256x1_S256x1_S256x1_S256x1_S256x1_S256x1_S256x10_d1

theorem hz : (![0, 0] : Fin 2 → Nat) = fun _ => 0 := funext fun a => by fin_cases a <;> rfl

section
variable (c : Dev nD) (a1 : Memref sig .tc .vmem S256x128 .f32) (h1 : a1.IsWhole)
    (a2 : Memref sig .tc .vmem S2048x128 .f32) (h2 : a2.IsWhole) (a3 : Memref sig .tc .vmem S256x10 .i32) (h3 : a3.IsWhole)
    (a4 : Memref sig .tc .vmem S256x10 .f32) (h4 : a4.IsWhole) (a5 : Memref sig .tc .vmem S256x10 .i32) (h5 : a5.IsWhole)

abbrev load1 : Vec Ideal S256x128 .f32 :=
  a1.view.readAt (Elt Ideal) (Rect.unit (s := S256x128) ![0, 0] S256x128.size inb_S256x128_S256x128_0_0).toLoadRect (h1.unread x0)
abbrev load2 : Vec Ideal S2048x128 .f32 :=
  a2.view.readAt (Elt Ideal) (Rect.unit (s := S2048x128) ![0, 0] S2048x128.size inb_S2048x128_S2048x128_0_0).toLoadRect (h2.unread x1)
abbrev load4 : Vec Ideal S256x10 .f32 :=
  a4.view.readAt (Elt Ideal) (Rect.unit (s := S256x10) ![0, 0] S256x10.size inb_S256x10_S256x10_0_0).toLoadRect (h4.unread v)
abbrev load5 : Vec Ideal S256x10 .i32 :=
  a5.view.readAt (Elt Ideal) (Rect.unit (s := S256x10) ![0, 0] S256x10.size inb_S256x10_S256x10_0_0).toLoadRect (h5.unread n)

theorem load1_eq : load1 x0 a1 h1 = x0 := by
  unfold load1; rw [View.readAt_eq_ld, h1.read_unread, View.ld_unit_zero (S := S256x128) hz]
theorem load2_eq : load2 x1 a2 h2 = x1 := by
  unfold load2; rw [View.readAt_eq_ld, h2.read_unread, View.ld_unit_zero (S := S2048x128) hz]
theorem load4_eq : load4 v a4 h4 = v := by
  unfold load4; rw [View.readAt_eq_ld, h4.read_unread, View.ld_unit_zero (S := S256x10) hz]
theorem load5_eq : load5 n a5 h5 = n := by
  unfold load5; rw [View.readAt_eq_ld, h5.read_unread, View.ld_unit_zero (S := S256x10) hz]

theorem values_B (hc : ¬cond0_0 i) : sout0_B_0 (F := Ideal) c i a1 h1 a2 h2 a3 h3 a4 h4 a5 h5 hc x0 x1 v n = keptValues i x0 x1 v n := by
  unfold sout0_B_0
  rw [View.read_writes_eq_canon _ _ _ (scover0_B_0 c i a1 h1 a2 h2 a3 h3 a4 h4 a5 h5 hc x0 x1 v n)]
  unfold kernelRun0_B
  dsimp only
  rw [View.canon_unit_zero hz]
  refine Eq.trans (b := keptValues i (load1 x0 a1 h1) (load2 x1 a2 h2) (load4 v a4 h4) (load5 n a5 h5)) ?_ ?_
  · unfold k0_pay3
    dsimp only
    rw [shapeCast_self]
    sl_kernel_rfl
  · rw [load1_eq, load2_eq, load4_eq, load5_eq]

theorem numbers_B (hc : ¬cond0_0 i) : sout0_B_1 (F := Ideal) c i a1 h1 a2 h2 a3 h3 a4 h4 a5 h5 hc x0 x1 v n = keptNumbers i x0 x1 v n := by
  unfold sout0_B_1
  rw [View.read_writes_eq_canon _ _ _ (scover0_B_1 c i a1 h1 a2 h2 a3 h3 a4 h4 a5 h5 hc x0 x1 v n)]
  unfold kernelRun0_B
  dsimp only
  rw [View.canon_unit_zero hz]
  refine Eq.trans (b := keptNumbers i (load1 x0 a1 h1) (load2 x1 a2 h2) (load4 v a4 h4) (load5 n a5 h5)) ?_ ?_
  · unfold k0_pay4
    dsimp only
    rw [shapeCast_self]
    sl_kernel_rfl
  · rw [load1_eq, load2_eq, load4_eq, load5_eq]

theorem result_B (hc : ¬cond0_0 i) : out0_B_2 (F := Ideal) c i a1 h1 a2 h2 a3 h3 a4 h4 a5 h5 hc x0 x1 v n = keptNumbers i x0 x1 v n := by
  unfold out0_B_2
  rw [View.read_writes_eq_canon _ _ _ (cover0_B_2 c i a1 h1 a2 h2 a3 h3 a4 h4 a5 h5 hc x0 x1 v n)]
  unfold kernelRun0_B
  dsimp only
  rw [View.canon_unit_zero hz]
  refine Eq.trans (b := keptNumbers i (load1 x0 a1 h1) (load2 x1 a2 h2) (load4 v a4 h4) (load5 n a5 h5)) ?_ ?_
  · sl_kernel_rfl
  · rw [load1_eq, load2_eq, load4_eq, load5_eq]

/-- Nothing kept: the least value, under the greatest number. -/
abbrev noValues : FVec Ideal S256x10 .f32 := broadcast S256x10 low
abbrev noNumbers : IVec S256x10 32 := broadcast S256x10 2147483647#32

/-- The running values as the first point reads them back. -/
theorem read_values : kernelRun0_A.sl.v156 (F := Ideal) c a4 = noValues := by
  sl_unfold_words
  rw [View.readCov_unit_zero (S := S256x10) _ hz]
  unfold k0_pay7
  dsimp only
  rw [shapeCast_self]

/-- The running numbers as the first point reads them back. -/
theorem read_numbers : kernelRun0_A.sl.v158 (F := Ideal) c a5 = noNumbers := by
  sl_unfold_words
  rw [View.readCov_unit_zero (S := S256x10) _ hz]
  unfold k0_pay8
  dsimp only
  rw [shapeCast_self]

theorem values_A (hc : cond0_0 i) : sout0_A_0 (F := Ideal) c i a1 h1 a2 h2 a3 h3 a4 h4 a5 h5 hc x0 x1 = keptValues i x0 x1 noValues noNumbers := by
  unfold sout0_A_0
  rw [View.read_writes_eq_canon _ _ _ (scover0_A_0 c i a1 h1 a2 h2 a3 h3 a4 h4 a5 h5 hc x0 x1)]
  unfold kernelRun0_A
  dsimp only
  rw [View.canon_cons_unit_zero (S := S256x10) hz]
  refine Eq.trans (b := keptValues i (load1 x0 a1 h1) (load2 x1 a2 h2) (kernelRun0_A.sl.v156 c a4) (kernelRun0_A.sl.v158 c a5)) ?_ ?_
  · unfold k0_pay3
    dsimp only
    rw [shapeCast_self]
    sl_kernel_rfl
  · rw [load1_eq, load2_eq, read_values, read_numbers]

theorem numbers_A (hc : cond0_0 i) : sout0_A_1 (F := Ideal) c i a1 h1 a2 h2 a3 h3 a4 h4 a5 h5 hc x0 x1 = keptNumbers i x0 x1 noValues noNumbers := by
  unfold sout0_A_1
  rw [View.read_writes_eq_canon _ _ _ (scover0_A_1 c i a1 h1 a2 h2 a3 h3 a4 h4 a5 h5 hc x0 x1)]
  unfold kernelRun0_A
  dsimp only
  rw [View.canon_cons_unit_zero (S := S256x10) hz]
  refine Eq.trans (b := keptNumbers i (load1 x0 a1 h1) (load2 x1 a2 h2) (kernelRun0_A.sl.v156 c a4) (kernelRun0_A.sl.v158 c a5)) ?_ ?_
  · unfold k0_pay4
    dsimp only
    rw [shapeCast_self]
    sl_kernel_rfl
  · rw [load1_eq, load2_eq, read_values, read_numbers]

theorem result_A (hc : cond0_0 i) : out0_A_2 (F := Ideal) c i a1 h1 a2 h2 a3 h3 a4 h4 a5 h5 hc x0 x1 = keptNumbers i x0 x1 noValues noNumbers := by
  unfold out0_A_2
  rw [View.read_writes_eq_canon _ _ _ (cover0_A_2 c i a1 h1 a2 h2 a3 h3 a4 h4 a5 h5 hc x0 x1)]
  unfold kernelRun0_A
  dsimp only
  rw [View.canon_unit_zero hz]
  refine Eq.trans (b := keptNumbers i (load1 x0 a1 h1) (load2 x1 a2 h2) (kernelRun0_A.sl.v156 c a4) (kernelRun0_A.sl.v158 c a5)) ?_ ?_
  · sl_kernel_rfl
  · rw [load1_eq, load2_eq, read_values, read_numbers]

end

end Cert.Proof.CandStep

end
-- ==== Proof.CandRounds.lean ====
/- Rounds that pick the best of a row, one after another: over the pairs of a block's lanes, and over the twenty entries kept and found. -/
module

public import proofs.«01_k».proof.Proof.CandStep

@[expose] public section

noncomputable section

namespace Cert.Proof.CandRounds

open Idealize.ShloMosaic Idealize.ShloMosaic.ValueIdx Cert.CandidatesIdeal Cert.CandidatesIdeal.Gen Cert.Proof.Best Cert.Proof.Reads
  Cert.Proof.CandStep

variable {f : ℕ → EReal}

/-- **Rounds.** If each round finds the best of what is left and leaves the rest, the rounds list the first picks. -/
theorem rounds {B : Finset ℕ} {K : ℕ} (hB : K ≤ B.card) (Left : ℕ → Finset ℕ → Prop) (Found : ℕ → ℕ → Prop) (h0 : Left 0 B)
    (hstep : ∀ n S, S ⊆ B → S.Nonempty → Left n S → ∃ x, IsBest f S x ∧ Found n x ∧ Left (n + 1) (S.erase x)) :
    ∀ n ≤ K, ∃ σ : ℕ → ℕ, Chain f B n σ ∧ (∀ k < n, Found k (σ k)) ∧ Left n (B \ picks σ n) := by
  intro n
  induction n with
  | zero => exact fun _ => ⟨fun _ => 0, fun r hr => absurd hr (by omega), fun k hk => absurd hk (by omega), by
      rw [picks_zero, Finset.sdiff_empty]; exact h0⟩
  | succ n ih =>
    intro hn
    obtain ⟨σ, hc, hf, hl⟩ := ih (by omega)
    have hcard : 0 < (B \ picks σ n).card := by
      have := hc.card_picks n le_rfl
      have := Finset.le_card_sdiff (picks σ n) B
      omega
    obtain ⟨x, hx, hfx, hlx⟩ := hstep n (B \ picks σ n) Finset.sdiff_subset (Finset.card_pos.mp hcard) hl
    have hs : ∀ s < n, σ s = Function.update σ n x s := fun s h => (Function.update_of_ne (Nat.ne_of_lt h) _ _).symm
    have hp : picks (Function.update σ n x) n = picks σ n := (picks_congr hs).symm
    refine ⟨Function.update σ n x, (hc.congr hs).snoc ?_, fun k hk => ?_, ?_⟩
    · rw [hp, Function.update_self]; exact hx
    · rcases Nat.lt_succ_iff_lt_or_eq.mp hk with h | rfl
      · rw [← hs k h]; exact hf k h
      · rw [Function.update_self]; exact hfx
    · rw [picks_succ, hp, Function.update_self, Finset.sdiff_insert]; exact hlx

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · rintro rfl; rfl

theorem low_eq : low = (⊥ : EReal) := rfl

section Pairs

theorem next_num (o : IVec S256x1024 32) (s : Pairs) : (s.next o).num = select s.here o s.num := by rw [Pairs.next]
theorem next_shown (o : IVec S256x1024 32) (s : Pairs) : (s.next o).shown = select s.here s.behind s.shown := by rw [Pairs.next]
theorem next_behind (o : IVec S256x1024 32) (s : Pairs) : (s.next o).behind = select s.here (broadcast S256x1024 low) s.behind := by rw [Pairs.next]

variable (first other : Fin 1024 → ℕ) (r : Fin 256)

/-- What is left in a row's pairs is `S`: a pair not picked from shows its first member and hides the other; one picked from shows the
    other, if that is left. -/
def Left (S : Finset ℕ) (s : Pairs) : Prop := ∀ j : Fin 1024,
  (s.num (ix2 r j) = BitVec.ofNat 32 (first j) ∧ s.shown (ix2 r j) = f (first j) ∧ s.behind (ix2 r j) = f (other j)
      ∧ (first j ∈ S ∨ f (first j) = ⊥) ∧ (other j ∈ S ∨ f (other j) = ⊥))
    ∨ (s.num (ix2 r j) = BitVec.ofNat 32 (other j) ∧ s.shown (ix2 r j) = (if other j ∈ S then f (other j) else ⊥)
      ∧ s.behind (ix2 r j) = ⊥ ∧ first j ∉ S)

variable {first other r}

/-- **One round over the pairs.** -/
theorem pairs_step (o : IVec S256x1024 32) (ho : ∀ j, o (ix2 r j) = BitVec.ofNat 32 (other j))
    (hb : ∀ j, Better f (first j) (other j)) (hf31 : ∀ j, first j < 2 ^ 31) (ho31 : ∀ j, other j < 2 ^ 31) (S : Finset ℕ)
    (hne : S.Nonempty) (hreal : ∀ i ∈ S, f i ≠ ⊥) (hcover : ∀ i ∈ S, ∃ j, i = first j ∨ i = other j) (s : Pairs)
    (h : Left (f := f) first other r S s) :
    ∃ x, IsBest f S x ∧ (s.top (ix2 r 0) = f x ∧ s.pick (ix2 r 0) = BitVec.ofNat 32 x) ∧ Left (f := f) first other r (S.erase x) (s.next o) := by
  classical
  have hnum : ∀ j, ∃ c, s.num (ix2 r j) = BitVec.ofNat 32 c ∧ c < 2 ^ 31 ∧ ((c ∈ S ∧ s.shown (ix2 r j) = f c) ∨ s.shown (ix2 r j) = ⊥)
      ∧ ((c = first j ∧ s.shown (ix2 r j) = f c ∧ s.behind (ix2 r j) = f (other j) ∧ (c ∈ S ∨ f c = ⊥) ∧ (other j ∈ S ∨ f (other j) = ⊥))
        ∨ (c = other j ∧ s.shown (ix2 r j) = (if c ∈ S then f c else ⊥) ∧ s.behind (ix2 r j) = ⊥ ∧ first j ∉ S)) := fun j => by
    rcases h j with ⟨h1, h2, h3, h4, h5⟩ | ⟨h1, h2, h3, h4⟩
    · refine ⟨first j, h1, hf31 j, ?_, .inl ⟨rfl, h2, h3, h4, h5⟩⟩
      rcases h4 with h4 | h4
      · exact .inl ⟨h4, h2⟩
      · exact .inr (h2.trans h4)
    · refine ⟨other j, h1, ho31 j, ?_, .inr ⟨rfl, h2, h3, h4⟩⟩
      by_cases hm : other j ∈ S
      · rw [if_pos hm] at h2; exact .inl ⟨hm, h2⟩
      · rw [if_neg hm] at h2; exact .inr h2
  choose col hcol hc31 hholds hcase using hnum
  have hmax : s.top (ix2 r 0) = top fun j : Fin 1024 => s.shown (ix2 r j) := rowMax_apply (R := 256) (W := 1024) s.shown _ _ _ _ r
  obtain ⟨x, hbest, _, htop, hx, hmin⟩ := round (f := f) (fun j : Fin 1024 => s.shown (ix2 r j)) col S hne
    ⟨hne.choose, hne.choose_spec, hreal _ hne.choose_spec⟩ hholds
    (fun i hi => by
      obtain ⟨j, hj⟩ := hcover i hi
      refine ⟨j, ?_⟩
      rcases hcase j with ⟨e, h2, h3, h4, h5⟩ | ⟨e, h2, h3, h4⟩
      · have hfi : f i ≤ f (first j) := by
          rcases hj with rfl | rfl
          · exact le_rfl
          · rcases hb j with h | ⟨h, _⟩
            · exact h.le
            · exact h.symm.le
        have hnb : f (col j) ≠ ⊥ := fun e' => hreal i hi (le_bot_iff.mp (hfi.trans (e ▸ e'.le)))
        refine ⟨h4.resolve_right hnb, h2, ?_⟩
        rcases hj with rfl | rfl
        · exact .inl e
        · exact .inr (e ▸ hb j)
      · have hio : i = other j := hj.resolve_left fun e' => h4 (e' ▸ hi)
        have hc : col j ∈ S := by rw [e, ← hio]; exact hi
        rw [if_pos hc] at h2
        exact ⟨hc, h2, .inl (e.trans hio.symm)⟩)
  have hx31 : x < 2 ^ 31 := by obtain ⟨c, _, e⟩ := hx; exact e ▸ hc31 c
  have hpick : s.pick (ix2 r 0) = BitVec.ofNat 32 x := by
    unfold Pairs.pick
    exact rowPick_apply (R := 256) (W := 1024) s.shown s.top s.num _ _ _ _ r col (fun j _ => hcol j) (fun j _ => hc31 j)
      (by rw [hmax]; exact hx) (by rw [hmax]; exact hmin)
  refine ⟨x, hbest, ⟨hmax.trans htop, hpick⟩, fun j => ?_⟩
  have n1 : (s.next o).num (ix2 r j) = if s.num (ix2 r j) = s.pick (ix2 r 0) then o (ix2 r j) else s.num (ix2 r j) := by
    rw [next_num]
    unfold Pairs.here
    exact rowSelect_apply (R := 256) (W := 1024) s.num s.pick broadcasts_S256x1_S256x1024 o s.num r j
  have n2 : (s.next o).shown (ix2 r j) = if s.num (ix2 r j) = s.pick (ix2 r 0) then s.behind (ix2 r j) else s.shown (ix2 r j) := by
    rw [next_shown]
    unfold Pairs.here
    exact rowSelect_apply (R := 256) (W := 1024) s.num s.pick broadcasts_S256x1_S256x1024 s.behind s.shown r j
  have n3 : (s.next o).behind (ix2 r j) = if s.num (ix2 r j) = s.pick (ix2 r 0) then ⊥ else s.behind (ix2 r j) := by
    rw [next_behind]
    unfold Pairs.here
    exact rowSelect_apply (R := 256) (W := 1024) s.num s.pick broadcasts_S256x1_S256x1024 (broadcast S256x1024 low) s.behind r j
  have hfo : first j ≠ other j := fun e => Better.irrefl _ (e ▸ hb j : Better f (other j) (other j))
  rw [hcol j, hpick] at n1 n2 n3
  by_cases e : col j = x
  · rw [if_pos (by rw [e])] at n1 n2 n3
    refine .inr ⟨n1.trans (ho j), ?_, n3, ?_⟩
    · rw [n2]
      rcases hcase j with ⟨e', h2, h3, h4, h5⟩ | ⟨e', h2, h3, h4⟩
      · rw [h3]
        have hxo : other j ≠ x := fun h => hfo (e'.symm.trans (e.trans h.symm))
        rcases h5 with h5 | h5
        · rw [if_pos (Finset.mem_erase.mpr ⟨hxo, h5⟩)]
        · rw [h5, ite_self]
      · rw [h3, if_neg fun h => (Finset.mem_erase.mp h).1 (e'.symm.trans e)]
    · rcases hcase j with ⟨e', h2, h3, h4, h5⟩ | ⟨e', h2, h3, h4⟩
      · rw [← e', e]; exact Finset.notMem_erase _ _
      · exact fun h => h4 (Finset.mem_of_mem_erase h)
  · have hw : ¬BitVec.ofNat 32 (col j) = BitVec.ofNat 32 x := fun h => e ((ofNat_inj (hc31 j) hx31).mp h)
    rw [if_neg hw] at n1 n2 n3
    rcases hcase j with ⟨e', h2, h3, h4, h5⟩ | ⟨e', h2, h3, h4⟩
    · refine .inl ⟨n1.trans (by rw [e']), n2.trans (by rw [h2, e']), n3.trans h3, ?_, ?_⟩
      · rw [← e']
        rcases h4 with h4 | h4
        · exact .inl (Finset.mem_erase.mpr ⟨e, h4⟩)
        · exact .inr h4
      · rcases h5 with h5 | h5
        · refine .inl (Finset.mem_erase.mpr ⟨fun hox => ?_, h5⟩)
          have hnb : f (col j) ≠ ⊥ := fun hbot => hreal _ h5 (le_bot_iff.mp (by
            rcases hb j with h | ⟨h, _⟩
            · exact h.le.trans (e' ▸ hbot.le)
            · exact h.symm.le.trans (e' ▸ hbot.le)))
          exact ((hbest.2 (col j) (h4.resolve_right hnb) e).asymm (hox ▸ e' ▸ hb j)).elim
        · exact .inr h5
    · refine .inr ⟨n1.trans (by rw [e']), ?_, n3.trans h3, fun h => h4 (Finset.mem_of_mem_erase h)⟩
      rw [n2, h2, ← e']
      by_cases hm : col j ∈ S
      · rw [if_pos hm, if_pos (Finset.mem_erase.mpr ⟨e, hm⟩)]
      · rw [if_neg hm, if_neg fun h => hm (Finset.mem_of_mem_erase h)]

end Pairs

section Twenty

variable {r : Fin 256}

/-- **One round over the twenty entries.** -/
theorem twenty_step (num : IVec S256x20 32) (col : Fin 20 → ℕ) (hnum : ∀ c, num (ix2 r c) = BitVec.ofNat 32 (col c))
    (hc31 : ∀ c, col c < 2 ^ 31) (S : Finset ℕ) (hne : S.Nonempty) (hreal : ∀ i ∈ S, f i ≠ ⊥) (hcover : ∀ i ∈ S, ∃ c, col c = i)
    (s : FVec Ideal S256x20 .f32) (hs : ∀ c, s (ix2 r c) = if col c ∈ S then f (col c) else ⊥) :
    ∃ x, IsBest f S x ∧ (topOf s (ix2 r 0) = f x ∧ pickOf num s (ix2 r 0) = BitVec.ofNat 32 x)
      ∧ ∀ c, nextOf num s (ix2 r c) = if col c ∈ S.erase x then f (col c) else ⊥ := by
  have hmax : topOf s (ix2 r 0) = top fun c : Fin 20 => s (ix2 r c) := rowMax_apply (R := 256) (W := 20) s _ _ _ _ r
  obtain ⟨x, hbest, _, htop, hx, hmin⟩ := round (f := f) (fun c : Fin 20 => s (ix2 r c)) col S hne
    ⟨hne.choose, hne.choose_spec, hreal _ hne.choose_spec⟩
    (fun c => by
      by_cases h : col c ∈ S
      · exact .inl ⟨h, by simp only [hs, if_pos h]⟩
      · exact .inr (by simp only [hs, if_neg h]))
    (fun i hi => by
      obtain ⟨c, e⟩ := hcover i hi
      have h : col c ∈ S := e ▸ hi
      exact ⟨c, h, by simp only [hs, if_pos h], .inl e⟩)
  have hx31 : x < 2 ^ 31 := by obtain ⟨c, _, e⟩ := hx; exact e ▸ hc31 c
  have hpick : pickOf num s (ix2 r 0) = BitVec.ofNat 32 x :=
    rowPick_apply (R := 256) (W := 20) s (topOf s) num _ _ _ _ r col (fun c _ => hnum c) (fun c _ => hc31 c)
      (by rw [hmax]; exact hx) (by rw [hmax]; exact hmin)
  refine ⟨x, hbest, ⟨hmax.trans htop, hpick⟩, fun c => ?_⟩
  refine (rowSelect_apply (R := 256) (W := 20) num (pickOf num s) _ _ _ r c).trans ?_
  rw [hpick, hnum, hs]
  by_cases h : col c = x
  · rw [if_pos (by rw [h]), if_neg (by rw [h]; exact Finset.notMem_erase _ _)]; rfl
  · rw [if_neg fun h' => h ((ofNat_inj (hc31 c) hx31).mp h')]
    by_cases hc : col c ∈ S
    · rw [if_pos hc, if_pos (Finset.mem_erase.mpr ⟨h, hc⟩)]
    · rw [if_neg hc, if_neg fun h' => hc (Finset.mem_erase.mp h').2]

end Twenty

/-- A matrix of ten columns with ten more put after it. -/
theorem joined_apply {α : Type} (v : S256x10.Idx → α) (g : Fin 10 → S256x1.Idx → α)
    (h : Shape.Concatenates ((⟨S256x10, v⟩ :: List.ofFn fun k : Fin 10 => (⟨S256x1, g k⟩ : (s : Shape) × (s.Idx → α))).map (·.1)) S256x20 1)
    (r : Fin 256) :
    (∀ c : Fin 10, concatenate S256x20 1 (⟨S256x10, v⟩ :: List.ofFn fun k : Fin 10 => (⟨S256x1, g k⟩ : (s : Shape) × (s.Idx → α))) h
        (ix2 r (c.castLE (by decide))) = v (ix2 r c))
    ∧ ∀ k : Fin 10, concatenate S256x20 1 (⟨S256x10, v⟩ :: List.ofFn fun k : Fin 10 => (⟨S256x1, g k⟩ : (s : Shape) × (s.Idx → α))) h
        (ix2 r (k.natAdd 10)) = g k (ix2 r 0) := by
  constructor
  · intro c
    refine concatenate_apply_piece (t := S256x20) 1 _ h (ix2 r (c.castLE (by decide))) 0 (by simp) S256x10 v rfl rfl 0 rfl (ix2 r c) (fun b hb => ?_) ?_
    · match b with
      | 0 => rfl
      | 1 => exact absurd rfl hb
    · exact Nat.zero_add _
  · intro k
    refine concatenate_apply_piece (t := S256x20) 1 _ h (ix2 r (k.natAdd 10)) (k.val + 1) (by have := k.isLt; simp; omega) S256x1 (g k) ?_ rfl (10 + k.val) ?_
      (ix2 r 0) (fun b hb => ?_) ?_
    · rw [List.getElem_cons_succ, List.getElem_ofFn]
    · fin_cases k <;> rfl
    · match b with
      | 0 => rfl
      | 1 => exact absurd rfl hb
    · exact Nat.add_zero _

/-- Ten columns put side by side. -/
theorem columns_apply {α : Type} (g : Fin 10 → S256x1.Idx → α)
    (h : Shape.Concatenates ((List.ofFn fun k : Fin 10 => (⟨S256x1, g k⟩ : (s : Shape) × (s.Idx → α))).map (·.1)) S256x10 1)
    (r : Fin 256) (k : Fin 10) :
    concatenate S256x10 1 (List.ofFn fun k : Fin 10 => (⟨S256x1, g k⟩ : (s : Shape) × (s.Idx → α))) h (ix2 r k) = g k (ix2 r 0) :=
  concatenate_ofFn_unit_apply (1 : Fin S256x10.rank) g h rfl rfl (ix2 r k) k rfl (ix2 r 0) fun b hb => by
    match b with
    | 0 => rfl
    | 1 => exact absurd rfl hb

end Cert.Proof.CandRounds

end
-- ==== Proof.Normalize.lean ====
/- Dividing a row by its length, over the extended reals: by the product with the reciprocal square root of the squared length kept
   above c², or by the quotient with the length kept above c. The two agree, infinite entries included, and give real entries. -/
module

public import Idealize.ShloMosaic.PureOps.Ideal
public import Idealize.ShloMosaic.PureOps.Ideal.Laws
public import Mathlib.Data.EReal.Operations

@[expose] public section

noncomputable section

namespace Cert.Proof.Normalize

open Idealize.ShloMosaic

variable {n : ℕ}

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem isReal_zero : IsReal 0 := ⟨0, EReal.coe_zero.symm⟩

theorem isReal_sum {ι : Type} (T : Finset ι) (g : ι → EReal) (h : ∀ i ∈ T, IsReal (g i)) : IsReal (∑ i ∈ T, g i) := by
  classical
  induction T using Finset.induction_on with
  | empty => exact isReal_zero
  | insert a T ha ih =>
    rw [Finset.sum_insert ha]
    exact (h a (Finset.mem_insert_self a T)).add (ih fun i hi => h i (Finset.mem_insert_of_mem hi))

theorem IsReal.ne_bot {x : EReal} (h : IsReal x) : x ≠ ⊥ := by obtain ⟨r, rfl⟩ := h; exact EReal.coe_ne_bot r

theorem not_isReal {x : EReal} (h : ¬ IsReal x) : x = ⊤ ∨ x = ⊥ := by
  induction x with
  | bot => exact .inr rfl
  | top => exact .inl rfl
  | coe r => exact absurd ⟨r, rfl⟩ h

/-- The squared length. -/
def sq (w : Fin n → EReal) : EReal := ∑ e, w e * w e

theorem mul_self_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- An infinite entry makes the squared length infinite. -/
theorem sq_top {w : Fin n → EReal} {d : Fin n} (h : ¬ IsReal (w d)) : sq w = ⊤ := by
  have hd : w d * w d = ⊤ := by
    rcases not_isReal h with e | e <;> rw [e]
    · exact EReal.top_mul_top
    · exact EReal.bot_mul_bot
  have : w d * w d ≤ sq w := Finset.single_le_sum (f := fun e => w e * w e) (fun e _ => mul_self_nonneg' (w e)) (Finset.mem_univ d)
  rw [hd] at this
  exact top_le_iff.mp this

/-- The row by its length, as the product with the reciprocal square root. -/
def unit (c2 : EReal) (w : Fin n → EReal) (d : Fin n) : EReal := w d * Ideal.rsqrt (max (sq w) c2)

variable {c : ℝ} (hc : 0 < c)
include hc

/-- The two cases: every entry a real, and then so are the products; or an infinite entry, and then every product is zero. -/
theorem unit_cases (w : Fin n → EReal) :
    (∃ k : ℝ, (∀ e, IsReal (w e)) ∧ (∀ d, unit ((c ^ 2 : ℝ) : EReal) w d = w d * (k : EReal))
        ∧ ∀ d, Ideal.div (w d) (max (Ideal.sqrt (sq w)) (c : EReal)) = w d * (k : EReal))
      ∨ ((∃ e, ¬ IsReal (w e)) ∧ (∀ d, unit ((c ^ 2 : ℝ) : EReal) w d = 0)
        ∧ ∀ d, Ideal.div (w d) (max (Ideal.sqrt (sq w)) (c : EReal)) = 0) := by
  by_cases h : ∀ e, IsReal (w e)
  · left
    choose r hr using h
    have hs : sq w = ((∑ e, r e * r e : ℝ) : EReal) := by
      unfold sq
      rw [show ((∑ e, r e * r e : ℝ) : EReal) = ∑ e, ((r e * r e : ℝ) : EReal) from
        map_sum (⟨⟨Real.toEReal, EReal.coe_zero⟩, EReal.coe_add⟩ : ℝ →+ EReal) _ _]
      exact Finset.sum_congr rfl fun e _ => by rw [hr e, EReal.coe_mul]
    have h0 : 0 ≤ ∑ e, r e * r e := Finset.sum_nonneg fun e _ => mul_self_nonneg (r e)
    set N := ∑ e, r e * r e
    have hm : 0 < max N (c ^ 2) := lt_max_of_lt_right (by positivity)
    have hk : max (Real.sqrt N) c = Real.sqrt (max N (c ^ 2)) := by
      have hcs : Real.sqrt (c ^ 2) = c := Real.sqrt_sq hc.le
      rw [Monotone.map_max (f := Real.sqrt) fun _ _ h => Real.sqrt_le_sqrt h, hcs]
    refine ⟨(Real.sqrt (max N (c ^ 2)))⁻¹, fun e => ⟨r e, hr e⟩, fun d => ?_, fun d => ?_⟩
    · unfold unit
      rw [hs, ← EReal.coe_strictMono.monotone.map_max, Ideal.rsqrt_coe, if_neg (not_lt.mpr hm.le), if_neg hm.ne']
    · rw [hs, Ideal.sqrt_coe, if_neg (not_lt.mpr h0), ← EReal.coe_strictMono.monotone.map_max, hk,
        Ideal.div_coe (Real.sqrt_ne_zero'.mpr hm), one_div]
  · right
    push Not at h
    obtain ⟨e, he⟩ := h
    refine ⟨⟨e, he⟩, fun d => ?_, fun d => ?_⟩
    · unfold unit
      rw [sq_top he, max_eq_left le_top, Ideal.rsqrt_top, mul_zero]
    · rw [sq_top he, Ideal.sqrt_top, max_eq_left le_top]
      unfold Ideal.div
      rw [if_neg EReal.top_ne_zero, EReal.inv_top, mul_zero]

/-- **The product is the quotient.** -/
theorem unit_eq_div (w : Fin n → EReal) (d : Fin n) :
    unit ((c ^ 2 : ℝ) : EReal) w d = Ideal.div (w d) (max (Ideal.sqrt (sq w)) (c : EReal)) := by
  rcases unit_cases hc w with ⟨k, _, h1, h2⟩ | ⟨_, h1, h2⟩ <;> rw [h1, h2]

theorem isReal_unit (w : Fin n → EReal) (d : Fin n) : IsReal (unit ((c ^ 2 : ℝ) : EReal) w d) := by
  rcases unit_cases hc w with ⟨k, h, h1, _⟩ | ⟨_, h1, _⟩ <;> rw [h1]
  · exact (h d).mul ⟨k, rfl⟩
  · exact isReal_zero

/-- The product of a row by its length with the row `q` that it was made from by adding `u` is real: an infinite entry of `q` makes the
    row infinite, and then the row by its length is zero. -/
theorem isReal_unit_mul (q u : Fin n → EReal) (d : Fin n) :
    IsReal (unit ((c ^ 2 : ℝ) : EReal) (fun e => q e + u e) d * q d) := by
  rcases unit_cases hc fun e => q e + u e with ⟨k, h, h1, _⟩ | ⟨_, h1, _⟩
  · refine (isReal_unit hc _ d).mul ?_
    by_contra hq
    obtain ⟨r, hr⟩ := h d
    rcases not_isReal hq with e | e
    · rw [e] at hr
      by_cases hu : u d = ⊥
      · rw [hu, EReal.add_bot] at hr; exact EReal.coe_ne_bot r hr.symm
      · rw [EReal.top_add_of_ne_bot hu] at hr; exact EReal.coe_ne_top r hr.symm
    · rw [e, EReal.bot_add] at hr; exact EReal.coe_ne_bot r hr.symm
  · rw [h1, zero_mul]; exact isReal_zero

/-- **A score**: half the sum of the products of the row `q + u` by its length with `q` and with the row `t` by its length. -/
theorem isReal_score (q u t : Fin n → EReal) :
    IsReal ((∑ d, unit ((c ^ 2 : ℝ) : EReal) (fun e => q e + u e) d * q d)
      + ∑ d, unit ((c ^ 2 : ℝ) : EReal) (fun e => q e + u e) d * unit ((c ^ 2 : ℝ) : EReal) t d) :=
  (isReal_sum _ _ fun d _ => isReal_unit_mul hc q u d).add (isReal_sum _ _ fun d _ => (isReal_unit hc _ d).mul (isReal_unit hc t d))

end Cert.Proof.Normalize
-- ==== Proof.CandRow.lean ====
/- One grid point of stage 1, row by row: a block's ten best columns, and the ten best of the columns before it and its own. -/
module

public import proofs.«01_k».proof.Proof.CandRounds
public import proofs.«01_k».proof.Proof.Normalize

@[expose] public section

noncomputable section

namespace Cert.Proof.CandRow

open Idealize.ShloMosaic Idealize.ShloMosaic.ValueIdx Cert.CandidatesIdeal Cert.CandidatesIdeal.Gen Cert.Proof.Best Cert.Proof.Reads
  Cert.Proof.CandStep Cert.Proof.CandRounds Cert.Proof.Table Cert.Proof.Normalize

section Column

variable (q : FVec Ideal ⟨2, ![256, 128]⟩ .f32) (db : FVec Ideal ⟨2, ![100000, 128]⟩ .f32) (r : Fin 256)

/-- The similarity of query row `r` with table row `n`; least past the table's end. -/
def column (n : ℕ) : EReal := if n < 100000 then ∑ e : Fin 128, q (ix2 r e) * row db n e else ⊥

theorem column_of_lt {n : ℕ} (h : n < 100000) : column q db r n = ∑ e : Fin 128, q (ix2 r e) * row db n e := if_pos h

theorem column_of_not_lt {n : ℕ} (h : ¬n < 100000) : column q db r n = ⊥ := if_neg h

theorem column_ne_bot (hq : ∀ i, IsReal (q i)) (hdb : ∀ i, IsReal (db i)) {n : ℕ} (h : n < 100000) : column q db r n ≠ ⊥ := by
  rw [column_of_lt q db r h]
  refine (isReal_sum _ _ fun e _ => (hq _).mul ?_).ne_bot
  rw [show n = (⟨n, h⟩ : Fin 100000).val from rfl, row_of_lt]
  exact hdb _

end Column

/-- The columns of block `b`. -/
def block (b : ℕ) : Finset ℕ := Finset.Ico (b * 2048) (min ((b + 1) * 2048) 100000)

theorem mem_block {b n : ℕ} : n ∈ block b ↔ b * 2048 ≤ n ∧ n < (b + 1) * 2048 ∧ n < 100000 := by
  unfold block; rw [Finset.mem_Ico, lt_min_iff]

theorem card_block {b : ℕ} (hb : b < 49) : 10 ≤ (block b).card := by
  unfold block; rw [Nat.card_Ico]; omega

section Point

variable (i : grid0.Coords) (q : FVec Ideal S256x128 .f32) (x1 : FVec Ideal S2048x128 .f32) (db : FVec Ideal ⟨2, ![100000, 128]⟩ .f32)
  (b : ℕ) (r : Fin 256)

theorem zero_eq : Scalar.ofBits (F := Ideal) .f32 0x00000000#32 = (0 : EReal) := Ideal.ofBits_zero_f32

/-- The lanes' column numbers. -/
theorem lanes_apply (hi : (i 0).val = b) (l : Fin 2048) : k0_pay5 i (ix2 r l) = BitVec.ofNat 32 (b * 2048 + l.val) := by
  unfold k0_pay5
  dsimp only
  show iota .tc S256x2048 32 [1] iota_S256x2048_d1_w32 (ix2 r l) + BitVec.ofNat 32 (i 0).val * 2048#32 = _
  rw [iota_single_apply, hi]
  exact lane_word b l.val

/-- The lanes' similarities. -/
theorem sims_apply (hi : (i 0).val = b) (hb : b < 49) (hx : ∀ (l : Fin 2048) (d : Fin 128), x1 (ix2 l d) = row db (b * 2048 + l.val) d)
    (l : Fin 2048) : k0_pay6 (F := Ideal) i q x1 (ix2 r l) = column q db r (b * 2048 + l.val) := by
  have e1 : FloatOps.matmul (F := Ideal) dot_S256x128_S2048x128_S256x2048_1_1_0_0_n_n none q x1
      (constant S256x2048 .f32 0x00000000#32) (ix2 r l) = ∑ e : Fin 128, q (ix2 r e) * row db (b * 2048 + l.val) e := by
    refine (Ideal.matmul_transposedRhs_apply none q x1 (constant S256x2048 .f32 0x00000000#32) r l).trans ?_
    refine (congrArg (· + _) zero_eq).trans ((zero_add _).trans ?_)
    exact Finset.sum_congr rfl fun e _ => congrArg (q (ix2 r e) * ·) (hx l e)
  have hl : b * 2048 + l.val < 100352 := by have := l.isLt; omega
  unfold k0_pay6
  rw [shapeCast_self]
  show Scalar.select (IntOp.cmpi .slt (k0_pay5 i (ix2 r l)) 100000#32) (FloatOps.matmul (F := Ideal) dot_S256x128_S2048x128_S256x2048_1_1_0_0_n_n
    none q x1 (constant S256x2048 .f32 0x00000000#32) (ix2 r l)) low = _
  rw [e1, lanes_apply i b r hi, lane_slt _ hl]
  by_cases hn : b * 2048 + l.val < 100000
  · rw [if_pos hn, column_of_lt q db r hn]; rfl
  · rw [if_neg hn, column_of_not_lt q db r hn]; rfl

/-- The two columns of pair `j` of block `b`. -/
def lower (b : ℕ) (j : Fin 1024) : ℕ := b * 2048 + j.val
def upper (b : ℕ) (j : Fin 1024) : ℕ := b * 2048 + (1024 + j.val)

/-- The one a pair shows first, by the values `f`; and the other one. -/
def first (f : ℕ → EReal) (b : ℕ) (j : Fin 1024) : ℕ := if f (upper b j) ≤ f (lower b j) then lower b j else upper b j
def other (f : ℕ → EReal) (b : ℕ) (j : Fin 1024) : ℕ := if f (upper b j) ≤ f (lower b j) then upper b j else lower b j

theorem lower_lt {b : ℕ} (hb : b < 49) (j : Fin 1024) : lower b j < 2 ^ 31 := by unfold lower; have := j.isLt; omega
theorem upper_lt {b : ℕ} (hb : b < 49) (j : Fin 1024) : upper b j < 2 ^ 31 := by unfold upper; have := j.isLt; omega

theorem first_lt (f : ℕ → EReal) {b : ℕ} (hb : b < 49) (j : Fin 1024) : first f b j < 2 ^ 31 := by
  unfold first; split
  · exact lower_lt hb j
  · exact upper_lt hb j

theorem other_lt (f : ℕ → EReal) {b : ℕ} (hb : b < 49) (j : Fin 1024) : other f b j < 2 ^ 31 := by
  unfold other; split
  · exact upper_lt hb j
  · exact lower_lt hb j

theorem first_better (f : ℕ → EReal) (b : ℕ) (j : Fin 1024) : Better f (first f b j) (other f b j) := by
  unfold first other
  by_cases h : f (upper b j) ≤ f (lower b j)
  · rw [if_pos h, if_pos h]
    rcases lt_or_eq_of_le h with h | h
    · exact .inl h
    · exact .inr ⟨h.symm, by unfold lower upper; omega⟩
  · rw [if_neg h, if_neg h]
    exact .inl (not_le.mp h)

theorem pairs_cover (f : ℕ → EReal) {b n : ℕ} (h : n ∈ block b) : ∃ j, n = first f b j ∨ n = other f b j := by
  obtain ⟨h1, h2, _⟩ := mem_block.mp h
  have hj : ∃ j : Fin 1024, n = lower b j ∨ n = upper b j := by
    by_cases hl : n < b * 2048 + 1024
    · exact ⟨⟨n - b * 2048, by omega⟩, .inl (by unfold lower; dsimp only; omega)⟩
    · exact ⟨⟨n - b * 2048 - 1024, by omega⟩, .inr (by unfold upper; dsimp only; omega)⟩
  obtain ⟨j, hj⟩ := hj
  refine ⟨j, ?_⟩
  unfold first other
  by_cases hc : f (upper b j) ≤ f (lower b j)
  · rw [if_pos hc, if_pos hc]; exact hj
  · rw [if_neg hc, if_neg hc]; exact hj.symm

/-- A select by a comparison of extended reals. -/
theorem select_oge {α : Type} (x y : EReal) (a c : α) :
    Scalar.select (FloatOps.cmpf (F := Ideal) (φ := .f32) .oge x y) a c = if y ≤ x then a else c := by
  show Scalar.select (BitVec.ofBool (decide (y ≤ x))) a c = _
  by_cases h : y ≤ x <;> simp [h, Scalar.select]

variable (hi : (i 0).val = b) (hb : b < 49) (hx : ∀ (l : Fin 2048) (d : Fin 128), x1 (ix2 l d) = row db (b * 2048 + l.val) d)

include hi hb hx in
theorem half_lower (j : Fin 1024) : k0_pay9 (F := Ideal) i q x1 (ix2 r j) = column q db r (lower b j) := by
  unfold k0_pay9
  refine (extractStridedSlice_apply _ _ slices_S256x2048_o0_0_S256x1024 (ix2 r j) (ix2 r (⟨j.val, by have := j.isLt; omega⟩ : Fin 2048)) fun a => ?_).trans
    (sims_apply i q x1 db b r hi hb hx _)
  match a with
  | 0 => exact (Nat.zero_add _).symm
  | 1 => exact (Nat.zero_add _).symm

include hi hb hx in
theorem half_upper (j : Fin 1024) : k0_pay10 (F := Ideal) i q x1 (ix2 r j) = column q db r (upper b j) := by
  unfold k0_pay10
  refine (extractStridedSlice_apply _ _ slices_S256x2048_o0_1024_S256x1024 (ix2 r j) (ix2 r (⟨1024 + j.val, by have := j.isLt; omega⟩ : Fin 2048)) fun a => ?_).trans
    (sims_apply i q x1 db b r hi hb hx _)
  match a with
  | 0 => exact (Nat.zero_add _).symm
  | 1 => rfl

include hi in
theorem number_lower (j : Fin 1024) : k0_pay11 i (ix2 r j) = BitVec.ofNat 32 (lower b j) := by
  unfold k0_pay11
  refine (extractStridedSlice_apply _ _ slices_S256x2048_o0_0_S256x1024 (ix2 r j) (ix2 r (⟨j.val, by have := j.isLt; omega⟩ : Fin 2048)) fun a => ?_).trans
    (lanes_apply i b r hi _)
  match a with
  | 0 => exact (Nat.zero_add _).symm
  | 1 => exact (Nat.zero_add _).symm

include hi in
theorem number_upper (j : Fin 1024) : k0_pay12 i (ix2 r j) = BitVec.ofNat 32 (upper b j) := by
  unfold k0_pay12
  refine (extractStridedSlice_apply _ _ slices_S256x2048_o0_1024_S256x1024 (ix2 r j) (ix2 r (⟨1024 + j.val, by have := j.isLt; omega⟩ : Fin 2048)) fun a => ?_).trans
    (lanes_apply i b r hi _)
  match a with
  | 0 => exact (Nat.zero_add _).symm
  | 1 => rfl

include hi hb hx in
theorem chosen {α : Type} (u v : S256x1024.Idx → α) (j : Fin 1024) : select (k0_pay13 (F := Ideal) i q x1) u v (ix2 r j)
    = if column q db r (upper b j) ≤ column q db r (lower b j) then u (ix2 r j) else v (ix2 r j) := by
  unfold k0_pay13
  refine (select_oge (k0_pay9 (F := Ideal) i q x1 (ix2 r j)) (k0_pay10 (F := Ideal) i q x1 (ix2 r j)) _ _).trans ?_
  rw [half_lower i q x1 db b r hi hb hx, half_upper i q x1 db b r hi hb hx]

include hi hb hx in
theorem other_apply (j : Fin 1024) : k0_pay17 (F := Ideal) i q x1 (ix2 r j) = BitVec.ofNat 32 (other (column q db r) b j) := by
  unfold k0_pay17
  refine (chosen i q x1 db b r hi hb hx _ _ j).trans ?_
  rw [number_upper i b r hi, number_lower i b r hi]
  unfold other; split <;> rfl

include hi hb hx in
/-- Before the rounds a block's columns are all there. -/
theorem start_left (hreal : ∀ n < 100000, column q db r n ≠ ⊥) :
    Left (f := column q db r) (first (column q db r) b) (other (column q db r) b) r (block b) (start i q x1) := by
  have hmem : ∀ n, b * 2048 ≤ n → n < (b + 1) * 2048 → n ∈ block b ∨ column q db r n = ⊥ := fun n h1 h2 => by
    by_cases hn : n < 100000
    · exact .inl (mem_block.mpr ⟨h1, h2, hn⟩)
    · exact .inr (column_of_not_lt q db r hn)
  intro j
  have hj := j.isLt
  refine .inl ⟨?_, ?_, ?_, hmem _ ?_ ?_, hmem _ ?_ ?_⟩
  · show k0_pay16 (F := Ideal) i q x1 (ix2 r j) = _
    unfold k0_pay16
    refine (chosen i q x1 db b r hi hb hx _ _ j).trans ?_
    rw [number_upper i b r hi, number_lower i b r hi]
    unfold first; split <;> rfl
  · show k0_pay14 (F := Ideal) i q x1 (ix2 r j) = _
    unfold k0_pay14
    refine (chosen i q x1 db b r hi hb hx _ _ j).trans ?_
    rw [half_lower i q x1 db b r hi hb hx, half_upper i q x1 db b r hi hb hx]
    unfold first; split <;> rfl
  · show k0_pay15 (F := Ideal) i q x1 (ix2 r j) = _
    unfold k0_pay15
    refine (chosen i q x1 db b r hi hb hx _ _ j).trans ?_
    rw [half_lower i q x1 db b r hi hb hx, half_upper i q x1 db b r hi hb hx]
    unfold other; split <;> rfl
  all_goals (first | unfold first | unfold other); split <;> (simp only [lower, upper]; omega)

include hi hb hx in
/-- **A block's ten rounds** list its ten best columns. -/
theorem block_picks (hreal : ∀ n < 100000, column q db r n ≠ ⊥) : ∃ β : ℕ → ℕ, Chain (column q db r) (block b) 10 β
    ∧ ∀ k < 10, (pairs i q x1 k).top (ix2 r 0) = column q db r (β k) ∧ (pairs i q x1 k).pick (ix2 r 0) = BitVec.ofNat 32 (β k) := by
  obtain ⟨β, hc, hf, _⟩ := rounds (f := column q db r) (card_block hb)
    (fun n S => Left (f := column q db r) (first (column q db r) b) (other (column q db r) b) r S (pairs i q x1 n))
    (fun n x => (pairs i q x1 n).top (ix2 r 0) = column q db r x ∧ (pairs i q x1 n).pick (ix2 r 0) = BitVec.ofNat 32 x)
    (start_left i q x1 db b r hi hb hx hreal)
    (fun n S hS hne hl => pairs_step (k0_pay17 (F := Ideal) i q x1) (other_apply i q x1 db b r hi hb hx) (first_better _ b) (first_lt _ hb)
      (other_lt _ hb) S hne (fun n hn => hreal n (mem_block.mp (hS hn)).2.2) (fun n hn => pairs_cover _ (hS hn)) (pairs i q x1 n) hl)
    10 le_rfl
  exact ⟨β, hc, hf⟩

/-- Row `r` of the running arrays lists the ten best columns of `A`. -/
def Kept (f : ℕ → EReal) (A : Finset ℕ) (v : FVec Ideal S256x10 .f32) (n : IVec S256x10 32) : Prop := ∃ α : ℕ → ℕ, Chain f A 10 α
  ∧ ∀ k : Fin 10, v (ix2 r k) = f (α k.val) ∧ n (ix2 r k) = BitVec.ofNat 32 (α k.val)

/-- **Ten rounds over twenty entries** that hold, among them, the columns of `T` and nothing else of value. -/
theorem merge (f : ℕ → EReal) (v : FVec Ideal S256x10 .f32) (n : IVec S256x10 32) (T : Finset ℕ) (hT : 10 ≤ T.card) (hreal : ∀ x ∈ T, f x ≠ ⊥)
    (col : Fin 20 → ℕ) (hc31 : ∀ c, col c < 2 ^ 31) (hnum : ∀ c, numbers i q x1 n (ix2 r c) = BitVec.ofNat 32 (col c))
    (hval : ∀ c, values i q x1 v (ix2 r c) = if col c ∈ T then f (col c) else ⊥) (hcover : ∀ x ∈ T, ∃ c, col c = x) :
    ∃ σ : ℕ → ℕ, Chain f T 10 σ ∧ ∀ k : Fin 10, keptValues i q x1 v n (ix2 r k) = f (σ k.val)
      ∧ keptNumbers i q x1 v n (ix2 r k) = BitVec.ofNat 32 (σ k.val) := by
  obtain ⟨σ, hc, hf, _⟩ := rounds (f := f) hT (fun m S => ∀ c, rest i q x1 v n m (ix2 r c) = if col c ∈ S then f (col c) else ⊥)
    (fun m x => topOf (rest i q x1 v n m) (ix2 r 0) = f x ∧ pickOf (numbers i q x1 n) (rest i q x1 v n m) (ix2 r 0) = BitVec.ofNat 32 x)
    hval (fun m S hS hne hl => twenty_step (numbers i q x1 n) col hnum hc31 S hne (fun x hx => hreal x (hS hx)) (fun x hx => hcover x (hS hx))
      (rest i q x1 v n m) hl) 10 le_rfl
  refine ⟨σ, hc, fun k => ⟨?_, ?_⟩⟩
  · unfold keptValues
    exact (columns_apply _ _ r k).trans (hf k.val k.isLt).1
  · unfold keptNumbers
    exact (columns_apply _ _ r k).trans (hf k.val k.isLt).2

/-- The entry of the first ten, or of the last ten. -/
theorem twenty_cases (c : Fin 20) : (∃ k : Fin 10, c = k.castLE (by decide)) ∨ ∃ k : Fin 10, c = k.natAdd 10 := by
  by_cases h : c.val < 10
  · exact .inl ⟨⟨c.val, h⟩, rfl⟩
  · exact .inr ⟨⟨c.val - 10, by have := c.isLt; omega⟩, Fin.ext (by show c.val = 10 + (c.val - 10); omega)⟩

include hi hb hx in
/-- **A later point**: the ten best of the columns before and the block's own. -/
theorem point_next (hreal : ∀ n < 100000, column q db r n ≠ ⊥) (A : Finset ℕ) (hA : ∀ x ∈ A, x < 100000)
    (v : FVec Ideal S256x10 .f32) (n : IVec S256x10 32) (h : Kept r (column q db r) A v n) :
    Kept r (column q db r) (A ∪ block b) (keptValues i q x1 v n) (keptNumbers i q x1 v n) := by
  obtain ⟨α, hα, hv⟩ := h
  obtain ⟨β, hβ, hf⟩ := block_picks i q x1 db b r hi hb hx hreal
  have vj := joined_apply v (fun k : Fin 10 => (pairs i q x1 k.val).top)
    concatenates_S256x10_S256x1_S256x1_S256x1_S256x1_S256x1_S256x1_S256x1_S256x1_S256x1_S256x1_S256x20_d1 r
  have nj := joined_apply n (fun k : Fin 10 => (pairs i q x1 k.val).pick)
    concatenates_S256x10_S256x1_S256x1_S256x1_S256x1_S256x1_S256x1_S256x1_S256x1_S256x1_S256x1_S256x20_d1 r
  have hlt : ∀ x ∈ picks α 10 ∪ picks β 10, x < 100000 := fun x hx => by
    rcases Finset.mem_union.mp hx with h | h
    · exact hA x (hα.picks_subset h)
    · exact (mem_block.mp (hβ.picks_subset h)).2.2
  have hin : ∀ c : Fin 20, (if c.val < 10 then α c.val else β (c.val - 10)) ∈ picks α 10 ∪ picks β 10 := fun c => by
    by_cases h : c.val < 10
    · rw [if_pos h]; exact Finset.mem_union_left _ (mem_picks.mpr ⟨_, h, rfl⟩)
    · rw [if_neg h]; exact Finset.mem_union_right _ (mem_picks.mpr ⟨_, by have := c.isLt; omega, rfl⟩)
  obtain ⟨σ, hσ, hk⟩ := merge i q x1 r (column q db r) v n (picks α 10 ∪ picks β 10)
    ((hα.card_picks 10 le_rfl).symm.le.trans (Finset.card_le_card Finset.subset_union_left)) (fun x hx => hreal x (hlt x hx))
    (fun c => if c.val < 10 then α c.val else β (c.val - 10)) (fun c => by have := hlt _ (hin c); omega)
    (fun c => by
      rcases twenty_cases c with ⟨k, rfl⟩ | ⟨k, rfl⟩
      · exact (nj.1 k).trans (((hv k).2).trans (by rw [if_pos (show (k.castLE (by decide) : Fin 20).val < 10 from k.isLt)]; rfl))
      · refine (nj.2 k).trans ((hf k.val k.isLt).2.trans ?_)
        rw [if_neg (show ¬(k.natAdd 10 : Fin 20).val < 10 by show ¬(10 + k.val < 10); omega)]
        show _ = BitVec.ofNat 32 (β (10 + k.val - 10))
        rw [Nat.add_sub_cancel_left])
    (fun c => by
      rw [if_pos (hin c)]
      rcases twenty_cases c with ⟨k, rfl⟩ | ⟨k, rfl⟩
      · exact (vj.1 k).trans (((hv k).1).trans (by rw [if_pos (show (k.castLE (by decide) : Fin 20).val < 10 from k.isLt)]; rfl))
      · refine (vj.2 k).trans ((hf k.val k.isLt).1.trans ?_)
        rw [if_neg (show ¬(k.natAdd 10 : Fin 20).val < 10 by show ¬(10 + k.val < 10); omega)]
        show _ = column q db r (β (10 + k.val - 10))
        rw [Nat.add_sub_cancel_left])
    (fun x hx => by
      rcases Finset.mem_union.mp hx with h | h
      · obtain ⟨s, hs, e⟩ := mem_picks.mp h
        exact ⟨⟨s, by omega⟩, by rw [if_pos hs]; exact e⟩
      · obtain ⟨s, hs, e⟩ := mem_picks.mp h
        exact ⟨⟨10 + s, by omega⟩, by dsimp only; rw [if_neg (by omega), Nat.add_sub_cancel_left]; exact e⟩)
  exact ⟨σ, Chain.union hα hβ hσ, hk⟩

include hi hb hx in
/-- **The first point**: the ten best of the block's own columns. -/
theorem point_first (hreal : ∀ n < 100000, column q db r n ≠ ⊥) :
    Kept r (column q db r) (block b) (keptValues i q x1 noValues noNumbers) (keptNumbers i q x1 noValues noNumbers) := by
  obtain ⟨β, hβ, hf⟩ := block_picks i q x1 db b r hi hb hx hreal
  have vj := joined_apply noValues (fun k : Fin 10 => (pairs i q x1 k.val).top)
    concatenates_S256x10_S256x1_S256x1_S256x1_S256x1_S256x1_S256x1_S256x1_S256x1_S256x1_S256x1_S256x20_d1 r
  have nj := joined_apply noNumbers (fun k : Fin 10 => (pairs i q x1 k.val).pick)
    concatenates_S256x10_S256x1_S256x1_S256x1_S256x1_S256x1_S256x1_S256x1_S256x1_S256x1_S256x1_S256x20_d1 r
  have hlt : ∀ x ∈ picks β 10, x < 100000 := fun x hx => (mem_block.mp (hβ.picks_subset hx)).2.2
  have hβin : ∀ k : Fin 10, β k.val ∈ picks β 10 := fun k => mem_picks.mpr ⟨_, k.isLt, rfl⟩
  have low31 : (2147483647 : ℕ) ∉ picks β 10 := fun h => absurd (hlt _ h) (by omega)
  have early : ∀ k : Fin 10, (if (k.castLE (by decide) : Fin 20).val < 10 then 2147483647 else β ((k.castLE (by decide) : Fin 20).val - 10)) = 2147483647 :=
    fun k => if_pos k.isLt
  have late : ∀ k : Fin 10, (if (k.natAdd 10 : Fin 20).val < 10 then 2147483647 else β ((k.natAdd 10 : Fin 20).val - 10)) = β k.val := fun k => by
    rw [if_neg (show ¬(k.natAdd 10 : Fin 20).val < 10 by show ¬(10 + k.val < 10); omega)]
    exact congrArg β (Nat.add_sub_cancel_left 10 k.val)
  obtain ⟨σ, hσ, hk⟩ := merge i q x1 r (column q db r) noValues noNumbers (picks β 10)
    (hβ.card_picks 10 le_rfl).symm.le (fun x hx => hreal x (hlt x hx))
    (fun c => if c.val < 10 then 2147483647 else β (c.val - 10))
    (fun c => by
      rcases twenty_cases c with ⟨k, rfl⟩ | ⟨k, rfl⟩
      · rw [early]; norm_num
      · have := hlt _ (hβin k)
        rw [late]; omega)
    (fun c => by
      rcases twenty_cases c with ⟨k, rfl⟩ | ⟨k, rfl⟩
      · rw [early]; exact nj.1 k
      · rw [late]; exact (nj.2 k).trans (hf k.val k.isLt).2)
    (fun c => by
      rcases twenty_cases c with ⟨k, rfl⟩ | ⟨k, rfl⟩
      · rw [early, if_neg low31]; exact vj.1 k
      · rw [late, if_pos (hβin k)]; exact (vj.2 k).trans (hf k.val k.isLt).1)
    (fun x hx => by
      obtain ⟨s, hs, e⟩ := mem_picks.mp hx
      exact ⟨⟨10 + s, by omega⟩, by dsimp only; rw [if_neg (by omega), Nat.add_sub_cancel_left]; exact e⟩)
  exact ⟨σ, Chain.of_picks hβ hσ, hk⟩

end Point

end Cert.Proof.CandRow

end
-- ==== Proof.TopRow.lean ====
/- The host's greatest entries of each row, read by a chain of picks from the row. -/
module

public import proofs.«01_k».proof.Proof.Best
public import Idealize.ShloMosaic.Lib.IdealHost
public import Idealize.ShloMosaic.Lib.Pipeline.Value

@[expose] public section

noncomputable section

namespace Cert.Proof.TopRow

open Idealize.ShloMosaic Idealize.ShloMosaic.ValueIdx Cert.Proof.Best

variable {R n k : ℕ}

theorem along_row (r : Fin R) (c c' : Fin n) :
    Shape.Idx.along (s := ⟨2, ![R, n]⟩) (ix2 r c) (1 : Fin 2) c' = ix2 r c' := by
  funext a
  match a with
  | 0 => exact Function.update_of_ne (show (0 : Fin 2) ≠ 1 by decide) _ _
  | 1 => exact Function.update_self _ _ _

/-- The comparison the sort is made by. -/
theorem before_eq (a b : EReal) : (FloatOps.cmpfTotal (F := Ideal) (φ := .f32) .gt a b == 1#1) = decide (b < a) := by
  show (BitVec.ofBool (decide (a > b)) == 1#1) = decide (b < a)
  by_cases h : b < a
  · rw [decide_eq_true h]; rfl
  · rw [decide_eq_false h]; rfl

/-- The position a sort of a row's entries puts at one place. -/
def place (x : FVec Ideal ⟨2, ![R, n]⟩ .f32) (j : (⟨2, ![R, n]⟩ : Shape).Idx) : Fin n :=
  sortedFrom (fun c c' : Fin n => FloatOps.cmpfTotal (F := Ideal) (φ := .f32) .gt
    (x (Shape.Idx.along (s := ⟨2, ![R, n]⟩) j (1 : Fin 2) c)) (x (Shape.Idx.along (s := ⟨2, ![R, n]⟩) j (1 : Fin 2) c')) == 1#1) (j 1)

/-- The index such a sort reads. -/
def source (x : FVec Ideal ⟨2, ![R, n]⟩ .f32) (j : (⟨2, ![R, n]⟩ : Shape).Idx) : (⟨2, ![R, n]⟩ : Shape).Idx :=
  Shape.Idx.along (s := ⟨2, ![R, n]⟩) j (1 : Fin 2) (place x j)

theorem values_eq (x : FVec Ideal ⟨2, ![R, n]⟩ .f32) (h : (⟨2, ![R, n]⟩ : Shape).Slices (fun _ => 0) ⟨2, ![R, k]⟩) :
    (Host.topK (s := ⟨2, ![R, n]⟩) ⟨2, ![R, k]⟩ 1 (FloatOps.cmpfTotal (F := Ideal) (φ := .f32) .gt) x h).1
      = extractStridedSlice ⟨2, ![R, k]⟩ (fun _ => 0)
        (fun j => x (source x j)) h := rfl

theorem indices_eq (x : FVec Ideal ⟨2, ![R, n]⟩ .f32) (h : (⟨2, ![R, n]⟩ : Shape).Slices (fun _ => 0) ⟨2, ![R, k]⟩) :
    (Host.topK (s := ⟨2, ![R, n]⟩) ⟨2, ![R, k]⟩ 1 (FloatOps.cmpfTotal (F := Ideal) (φ := .f32) .gt) x h).2
      = extractStridedSlice ⟨2, ![R, k]⟩ (fun _ => 0)
        (fun j => iotaInDim ⟨2, ![R, n]⟩ 32 (1 : Fin 2) (source x j)) h := rfl

/-- **The `k` greatest of a row** are the chain's, in its order, with their positions. -/
theorem topK_apply (hkn : k ≤ n) (x : FVec Ideal ⟨2, ![R, n]⟩ .f32) (h : (⟨2, ![R, n]⟩ : Shape).Slices (fun _ => 0) ⟨2, ![R, k]⟩)
    (r : Fin R) (f : ℕ → EReal) (hf : ∀ c : Fin n, f c.val = x (ix2 r c)) {σ : ℕ → ℕ} (hσ : Chain f (Finset.range n) k σ) (i : Fin k) :
    (Host.topK (s := ⟨2, ![R, n]⟩) ⟨2, ![R, k]⟩ 1 (FloatOps.cmpfTotal (F := Ideal) (φ := .f32) .gt) x h).1 (ix2 r i) = f (σ i.val)
      ∧ (Host.topK (s := ⟨2, ![R, n]⟩) ⟨2, ![R, k]⟩ 1 (FloatOps.cmpfTotal (F := Ideal) (φ := .f32) .gt) x h).2 (ix2 r i)
        = BitVec.ofNat 32 (σ i.val) := by
  have at_ : ∀ a : Fin 2, ((ix2 r (i.castLE hkn) : (⟨2, ![R, n]⟩ : Shape).Idx) a).val
      = 0 + ((ix2 r i : (⟨2, ![R, k]⟩ : Shape).Idx) (a.cast h.1.symm)).val := fun a => by
    match a with
    | 0 => exact (Nat.zero_add _).symm
    | 1 => exact (Nat.zero_add _).symm
  have pos : place x (ix2 r (i.castLE hkn)) = ⟨σ i.val, Finset.mem_range.mp (hσ.mem i.isLt)⟩ := by
    refine Fin.ext (Eq.trans ?_ (hσ.sortedFrom_eq hkn (fun c => x (ix2 r c)) hf i))
    unfold place
    congr 2
    funext c c'
    rw [before_eq, along_row, along_row]
  have src : source x (ix2 r (i.castLE hkn)) = ix2 r (⟨σ i.val, Finset.mem_range.mp (hσ.mem i.isLt)⟩ : Fin n) :=
    (along_row r _ _).trans (congrArg (fun c => ix2 r c) pos)
  constructor
  · refine (congrFun (values_eq x h) (ix2 r i)).trans ?_
    rw [extractStridedSlice_apply _ _ h (ix2 r i) (ix2 r (i.castLE hkn)) at_, src, ← hf]
  · refine (congrFun (indices_eq x h) (ix2 r i)).trans ?_
    rw [extractStridedSlice_apply _ _ h (ix2 r i) (ix2 r (i.castLE hkn)) at_, src]
    rfl

end Cert.Proof.TopRow
-- ==== Proof.Cand.lean ====
/- What the candidates call leaves: in each row, the ten best columns of the similarities with the table's rows, which is what the
   host's top ten of those similarities are; and what the precondition says. -/
module

public import proofs.«01_k».proof.Proof.CandRow
public import proofs.«01_k».proof.Proof.TopRow
public import proofs.«01_k».proof.Proof.Gen.CandidatesReferenceIdeal.Run
public import proofs.«01_k».proof.Proof.Gen.Pre_finite
public import Idealize.ShloMosaic.Lib.ReduceAll

@[expose] public section

noncomputable section

namespace Cert.Proof.Cand

open Idealize.ShloMosaic Idealize.ShloMosaic.ValueIdx Cert.Proof.Best Cert.Proof.Table Cert.Proof.Normalize Cert.Proof.CandStep Cert.Proof.CandRow

section Kernel

open Cert.CandidatesIdeal Cert.CandidatesIdeal.Gen Cert.CandidatesIdeal.Value

variable (m : (ℓ : Loc nD τ sig) → Buf (Elt Ideal) ℓ) (c : Dev nD)

/-- The queries, as launched. -/
abbrev queries : FVec Ideal S256x128 .f32 := m ((c.tc : Thread nD τ).loc main_arg0)
/-- The table, as launched. -/
abbrev table : FVec Ideal S100000x128 .f32 := m ((c.tc : Thread nD τ).loc main_arg1)

/-- The call finds the table padded. -/
theorem padded_eq : V m c main_v0 = pad S100352x128 ![0, 0] ![352, 0] ![0, 0] (table m c)
    (sitofp (F := Ideal) .f32 (constantI S_ 32 0#32)) pads_S100000x128_S100352x128_03520_000 h_S_ := by
  unfold V
  simp only [hostOps0, hostOps0_1, List.flatten_cons, List.flatten_nil, List.append_nil, List.cons_append, List.nil_append,
    StableHlo.TRef.unary, StableHlo.TRef.binary, StableHlo.TRef.toBuf, StableHlo.TRef.ofBuf, cast_eq]
  after_results

theorem points (t : Fin cfg0.N) : t.val < 49 := lt_of_lt_of_eq t.isLt (show cfg0.N = 49 from N_0)

theorem coord (t : Fin cfg0.N) : (grid0.coords t 0).val = t.val :=
  (by decide +kernel : ∀ t : Fin grid0.N, (grid0.coords t 0).val = t.val) t

theorem index0 (t : Fin cfg0.N) : win0_0.index t 0 = 0 ∧ win0_0.index t 1 = 0 :=
  (by decide +kernel : ∀ t : Fin grid0.N, win0_0.index t 0 = 0 ∧ win0_0.index t 1 = 0) t

theorem index1 (t : Fin cfg0.N) : win0_1.index t 0 = t.val ∧ win0_1.index t 1 = 0 :=
  (by decide +kernel : ∀ t : Fin grid0.N, win0_1.index t 0 = t.val ∧ win0_1.index t 1 = 0) t

theorem block0 (t : Fin cfg0.N) : (iblk m c 0 t : FVec Ideal S256x128 .f32) = queries m c := by
  funext j
  unfold iblk
  rw [View.read_apply]
  refine (congrFun (V_main_arg0 m c) _).trans (congrArg (queries m c) (funext fun a => Fin.ext ?_))
  match a with
  | 0 => show win0_0.index t 0 * 256 + 1 * (j 0).val = (j 0).val; rw [(index0 t).1]; omega
  | 1 => show win0_0.index t 1 * 128 + 1 * (j 1).val = (j 1).val; rw [(index0 t).2]; omega

theorem block1 (t : Fin cfg0.N) (l : Fin 2048) (d : Fin 128) :
    (iblk m c 1 t : FVec Ideal S2048x128 .f32) (ix2 l d) = row (table m c) (t.val * 2048 + l.val) d := by
  have hn : t.val * 2048 + l.val < 100352 := by have := points t; have := l.isLt; omega
  unfold iblk
  rw [View.read_apply]
  refine (congrFun (padded_eq m c) _).trans (Eq.trans (congrArg _ (funext fun a => Fin.ext ?_))
    (padded_apply (table m c) (sitofp (F := Ideal) .f32 (constantI S_ 32 0#32)) (fun _ => by
      show ((((0#32 : BitVec 32).toInt : ℝ) : EReal)) = 0
      simp) pads_S100000x128_S100352x128_03520_000 h_S_ ⟨t.val * 2048 + l.val, hn⟩ d))
  match a with
  | 0 => show win0_1.index t 0 * 2048 + 1 * l.val = t.val * 2048 + l.val; rw [(index1 t).1]; omega
  | 1 => show win0_1.index t 1 * 128 + 1 * d.val = d.val; rw [(index1 t).2]; omega

/-- The columns of the blocks up to block `n`. -/
def upTo (n : ℕ) : Finset ℕ := Finset.range (min ((n + 1) * 2048) 100000)

theorem mem_upTo {n x : ℕ} : x ∈ upTo n ↔ x < (n + 1) * 2048 ∧ x < 100000 := by
  unfold upTo; rw [Finset.mem_range, lt_min_iff]

theorem upTo_zero : upTo 0 = block 0 := by
  ext x; rw [mem_upTo, mem_block]; omega

theorem upTo_succ (n : ℕ) : upTo (n + 1) = upTo n ∪ block (n + 1) := by
  ext x; rw [Finset.mem_union, mem_upTo, mem_upTo, mem_block]; omega

theorem upTo_last : upTo 48 = Finset.range 100000 := by
  ext x; rw [mem_upTo, Finset.mem_range]; omega

variable (hq : ∀ i, IsReal (queries m c i)) (hdb : ∀ i, IsReal (table m c i))

include hq hdb in
/-- After point `n` the running arrays list the ten best columns of the blocks so far, and the result holds their numbers. -/
theorem kept_after (r : Fin 256) : ∀ (n : ℕ) (h : 0 + n < cfg0.N),
    Kept r (column (queries m c) (table m c) r) (upTo n) (Pipeline.accAt (fun n h => stAt0 m c n h junk0) (stAt0 m c) 0 n h).2.1
        (Pipeline.accAt (fun n h => stAt0 m c n h junk0) (stAt0 m c) 0 n h).2.2
      ∧ (Pipeline.accAt (fun n h => stAt0 m c n h junk0) (stAt0 m c) 0 n h).1
        = (Pipeline.accAt (fun n h => stAt0 m c n h junk0) (stAt0 m c) 0 n h).2.2 := by
  have hreal : ∀ n < 100000, column (queries m c) (table m c) r n ≠ ⊥ := fun n hn => column_ne_bot _ _ r hq hdb hn
  intro n
  induction n with
  | zero =>
    intro h
    rw [Pipeline.accAt_zero, stAt0_A m c ⟨0, h⟩ junk0 (Nat.zero_mod 49)]
    dsimp only
    rw [result_A, values_A, numbers_A, block0, upTo_zero]
    exact ⟨point_first _ (queries m c) _ (table m c) 0 r (coord ⟨0, h⟩) (by decide) (block1 m c ⟨0, h⟩) hreal, rfl⟩
  | succ n ih =>
    intro h
    have hN : cfg0.N = 49 := N_0
    obtain ⟨h1, h2⟩ := ih (Nat.lt_of_succ_lt h)
    have hne : ¬(0 + (n + 1)) % 49 = 0 := by omega
    have hco : (grid0.coords (⟨0 + (n + 1), h⟩ : Fin cfg0.N) 0).val = n + 1 := (coord ⟨0 + (n + 1), h⟩).trans (Nat.zero_add _)
    have hbl : ∀ (l : Fin 2048) (d : Fin 128), (iblk m c 1 (⟨0 + (n + 1), h⟩ : Fin cfg0.N) : FVec Ideal S2048x128 .f32) (ix2 l d)
        = row (table m c) ((n + 1) * 2048 + l.val) d := fun l d =>
      (block1 m c ⟨0 + (n + 1), h⟩ l d).trans (by show row _ ((0 + (n + 1)) * 2048 + l.val) d = _; rw [Nat.zero_add])
    rw [Pipeline.accAt_succ, stAt0_B m c ⟨0 + (n + 1), h⟩ _ hne]
    dsimp only
    rw [result_B, values_B, numbers_B, block0, upTo_succ]
    exact ⟨point_next _ (queries m c) _ (table m c) (n + 1) r hco (by omega) hbl hreal (upTo n) (fun x hx => (mem_upTo.mp hx).2) _ _ h1, rfl⟩

/-- The result is the one the last point leaves. -/
theorem read_last (Q : Vec Ideal S256x10 .i32 → Prop)
    (h : ∀ hN : 0 + 48 < cfg0.N, Q (Pipeline.accAt (fun n h => stAt0 m c n h junk0) (stAt0 m c) 0 48 hN).1) : Q (G2 m c) := by
  rw [G2_last]
  exact h _

/-- Row `r` of the numbers lists the ten best columns of the table. -/
def Lists (q : FVec Ideal S256x128 .f32) (db : FVec Ideal S100000x128 .f32) (r : Fin 256) (s : Vec Ideal S256x10 .i32) : Prop :=
  ∃ σ : ℕ → ℕ, Chain (column q db r) (Finset.range 100000) 10 σ ∧ ∀ k : Fin 10, s (ix2 r k) = BitVec.ofNat 32 (σ k.val)

theorem lists_of_kept (q : FVec Ideal S256x128 .f32) (db : FVec Ideal S100000x128 .f32) (r : Fin 256)
    (s : Vec Ideal S256x10 .i32 × Vec Ideal S256x10 .f32 × Vec Ideal S256x10 .i32)
    (h : Kept r (column q db r) (upTo 48) s.2.1 s.2.2 ∧ s.1 = s.2.2) : Lists q db r s.1 := by
  obtain ⟨⟨σ, h1, h2⟩, h3⟩ := h
  rw [upTo_last] at h1
  exact ⟨σ, h1, fun k => (congrFun h3 (ix2 r k)).trans (h2 k).2⟩

include hq hdb in
/-- **What the call leaves.** -/
theorem kernel_row (r : Fin 256) : Lists (queries m c) (table m c) r (G2 m c) :=
  read_last m c (Lists (queries m c) (table m c) r) fun hN => lists_of_kept _ _ r _ (kept_after m c hq hdb r 48 hN)

end Kernel

section Reference

open Cert.CandidatesReferenceIdeal Cert.CandidatesReferenceIdeal.Gen

variable (a0 : FVec Ideal S256x128 .f32) (a1 : FVec Ideal S100000x128 .f32)

/-- The similarities of all query rows with all table rows. -/
def sims : FVec Ideal S256x100000 .f32 :=
  Host.dotGeneral dot_S256x128_S128x100000_S256x100000_1_0_0_1_n_n none a0 (transpose S128x100000 [1, 0] a1 transposes_S100000x128_S128x100000_1_0)

theorem sims_apply (r : Fin 256) (n : Fin 100000) : sims a0 a1 (ix2 r n) = column a0 a1 r n.val := by
  rw [column_of_lt a0 a1 r n.isLt]
  refine (StackMember.dotGeneral_plain_apply none a0 _ r n).trans (Finset.sum_congr rfl fun e _ => congrArg (a0 (ix2 r e) * ·) ?_)
  refine Eq.trans ?_ (row_of_lt a1 n e).symm
  exact transpose_apply _ _ _ (ix2 e n) (ix2 n e) fun a => by
    match a with
    | 0 => rfl
    | 1 => rfl

/-- The kernel's candidates are the host's. -/
theorem agree (m : (ℓ : Loc Cert.CandidatesIdeal.nD Cert.CandidatesIdeal.τ Cert.CandidatesIdeal.sig) → Buf (Elt Ideal) ℓ)
    (c : Dev Cert.CandidatesIdeal.nD) (hq : ∀ i, IsReal (queries m c i)) (hdb : ∀ i, IsReal (table m c i)) :
    Cert.CandidatesIdeal.Value.G2 m c
      = (Host.topK S256x10 1 (FloatOps.cmpfTotal (F := Ideal) (φ := .f32) .gt) (sims (queries m c) (table m c)) sliceFits_S256x100000_S256x10).2 := by
  funext j
  obtain ⟨r, k, rfl⟩ : ∃ (r : Fin 256) (k : Fin 10), j = ix2 r k := ⟨j 0, j 1, eq_ix2 j⟩
  obtain ⟨σ, h1, h2⟩ := kernel_row m c hq hdb r
  exact (h2 k).trans (TopRow.topK_apply (R := 256) (n := 100000) (k := 10) (by decide) (sims (queries m c) (table m c))
    sliceFits_S256x100000_S256x10 r (column (queries m c) (table m c) r) (fun n => (sims_apply _ _ r n).symm) h1 k).2.symm

end Reference

section Precondition

open Cert.Pre_finite Cert.Pre_finite.Gen

theorem inf_eq : FloatOps.ofBits (F := Ideal) .f32 0x7F800000#32 = (⊤ : EReal) := by
  show Ideal.ofBits .f32 0x7F800000#32 = ⊤
  simp [Ideal.ofBits, Ideal.ieee]

/-- A magnitude below infinity is a real number's. -/
theorem isReal_of_lt (x : EReal) (h : FloatOps.cmpf (F := Ideal) (φ := .f32) .olt (max x (-x)) ⊤ = 1#1) : IsReal x := by
  by_contra hn
  have hd : decide (max x (-x) < ⊤) = true := by
    by_contra hc
    rw [Bool.not_eq_true] at hc
    have h' : BitVec.ofBool (decide (max x (-x) < ⊤)) = 1#1 := h
    rw [hc] at h'
    exact absurd h' (by decide)
  have hlt : max x (-x) < ⊤ := of_decide_eq_true hd
  rcases not_isReal hn with rfl | rfl
  · exact absurd hlt (by simp)
  · exact absurd hlt (by simp)

theorem real_of_pre (a0 : FVec Ideal S256x128 .f32) (a1 : FVec Ideal S100000x128 .f32)
    (h : Cert.Pre_finite.fn (F := Ideal) a0 a1 = fun _ => 1#1) : (∀ i, IsReal (a0 i)) ∧ ∀ i, IsReal (a1 i) := by
  have e := congrFun h (Shape.Idx.first h_S_)
  unfold Cert.Pre_finite.fn at e
  obtain ⟨e0, e1⟩ := (by decide : ∀ x y : BitVec 1, x &&& y = 1#1 → x = 1#1 ∧ y = 1#1) _ _ e
  haveI : Subsingleton S_.Idx := ⟨fun a b => funext fun d => d.elim0⟩
  have key : ∀ {s : Shape} (a : FVec Ideal s .f32) (hb : S_.BroadcastsInDim s ![]) (i : s.Idx),
      cmpf .olt (Host.absf a) (broadcastInDim s ![] hb (constant (F := Ideal) S_ .f32 0x7F800000#32)) i = 1#1 → IsReal (a i) := fun a hb i hi => by
    refine isReal_of_lt (a i) (Eq.trans ?_ hi)
    show _ = FloatOps.cmpf (F := Ideal) (φ := .f32) .olt (max (a i) (-a i)) (broadcastInDim _ ![] hb (constant (F := Ideal) S_ .f32 0x7F800000#32) i)
    rw [broadcastInDim_scalar_apply]
    exact congrArg _ inf_eq.symm
  exact ⟨fun i => key a0 bcast_S_S256x128 i (Host.reduce_andi_all _ _ _ _ _ e0 i), fun i => key a1 bcast_S_S100000x128 i (Host.reduce_andi_all _ _ _ _ _ e1 i)⟩

end Precondition

end Cert.Proof.Cand

end
-- ==== Proof.Chosen.lean ====
/- The claims about the candidates call: its frames (generated legs), its rewritten constant, and that it leaves its reference's column
   numbers (Proof/Cand.lean). -/
module

public import proofs.«01_k».proof.Defs
public import proofs.«01_k».proof.Proof.Gen.Candidates
public import proofs.«01_k».proof.Proof.Gen.Candidates.Frame
public import proofs.«01_k».proof.Proof.Gen.CandidatesIdeal
public import proofs.«01_k».proof.Proof.Gen.CandidatesReferenceIdeal
public import proofs.«01_k».proof.Proof.Cand
public import Idealize.ShloMosaic.Adequacy
public import Idealize.ShloMosaic.Init
public import Idealize.ShloMosaic.Lib.Quiescent

@[expose] public section

noncomputable section

namespace Cert.Proof.Chosen

open Idealize.ShloMosaic Idealize.SL.Sem

theorem frame_kernel : Cert.quiescent_Candidates := fun m ρ _ => Cert.Candidates.Gen.frame m ρ

theorem frame_ideal : Cert.quiescent_CandidatesIdeal := fun m ρ _ => Cert.CandidatesIdeal.Gen.frame m ρ

theorem frame_reference : Cert.quiescent_CandidatesReferenceIdeal := fun m ρ _ =>
  (θ_run _ _ _).mono (fun r h => ⟨fun c => (h c).2, sem_eq_zero_of_no_sems (by decide) r.2⟩)
    (Cert.CandidatesReferenceIdeal.Value.run m ρ)

theorem rewrites : Cert.preserves_Candidates_CandidatesIdeal :=
  IdealRules.named_const.statement Cert.CandidatesIdeal.κ "lowest" .f32 0xFF61B1E6#32 _ rfl

/-- The kernel and the reference choose the same columns. -/
theorem agree : Cert.algebraic_CandidatesIdeal_CandidatesReferenceIdeal_pre_finite := fun m ρ m' ρ' hpre hargs =>
  ⟨fun c => Cert.CandidatesIdeal.Value.G2 m c, Cert.CandidatesIdeal.Value.run (F := Ideal) m ρ,
    (θ_run _ _ _).mono (fun _ h c => ⟨(h c).1.trans (by
        rw [(hargs c).1, (hargs c).2]
        exact (Cand.agree m c (Cand.real_of_pre _ _ (hpre c)).1 (Cand.real_of_pre _ _ (hpre c)).2).symm), (h c).2⟩)
      (Cert.CandidatesReferenceIdeal.Value.run m' ρ')⟩

end Cert.Proof.Chosen

end
-- ==== Proof.TauStep.lean ====
/- What the threshold's body leaves in its running array and in its result at one grid point, as nine rounds over the pairs of a block's
   lanes followed by nine rounds over the eighteen entries kept and found. -/
module

public import proofs.«01_k».proof.Proof.Gen.ThresholdIdeal.Value
public import proofs.«01_k».proof.Proof.Table

@[expose] public section

noncomputable section

namespace Cert.Proof.TauStep

open Cert.ThresholdIdeal Cert.ThresholdIdeal.Gen Idealize.ShloMosaic Idealize.ShloMosaic.TcCoe Idealize.ShloMosaic.Tactic

/-- The value written over a taken entry. -/
abbrev low : Ideal .f32 := Named.named κ "lowest" 0xFF61B1E6#32

/-- The pairs of lanes in the middle of the rounds: the value each shows and the value behind it. -/
structure Pairs where
  shown : FVec Ideal S2560x1024 .f32
  behind : FVec Ideal S2560x1024 .f32

/-- The greatest value shown in each row. -/
def Pairs.top (s : Pairs) : FVec Ideal S2560x1 .f32 :=
  shapeCast S2560x1 (multiReduction .maximumf [1] S2560 s.shown 0xFF800000#32 reduces_S2560x1024_S2560 (.inl rfl) rfl) shapeCasts_S2560_S2560x1

/-- Where it is shown. -/
def Pairs.here (s : Pairs) : IVec S2560x1024 1 := cmpf .oeq s.shown (broadcastTo S2560x1024 s.top broadcasts_S2560x1_S2560x1024)

/-- The pairs that show it show what was behind. -/
def Pairs.next (s : Pairs) : Pairs where
  shown := select s.here s.behind s.shown
  behind := select s.here (broadcast S2560x1024 low) s.behind

/-- After some rounds. -/
def Pairs.after (s : Pairs) : ℕ → Pairs
  | 0 => s
  | n + 1 => (Pairs.after s n).next

/-- The greatest of each row's eighteen entries. -/
def topOf (s : FVec Ideal S2560x18 .f32) : FVec Ideal S2560x1 .f32 :=
  shapeCast S2560x1 (multiReduction .maximumf [1] S2560 s 0xFF800000#32 reduces_S2560x18_S2560 (.inl rfl) rfl) shapeCasts_S2560_S2560x1

/-- The entries that hold it are written over. -/
def nextOf (s : FVec Ideal S2560x18 .f32) : FVec Ideal S2560x18 .f32 :=
  select (cmpf .oeq s (broadcastTo S2560x18 (topOf s) broadcasts_S2560x1_S2560x18)) (broadcast S2560x18 low) s

/-- After some rounds. -/
def afterOf (s : FVec Ideal S2560x18 .f32) : ℕ → FVec Ideal S2560x18 .f32
  | 0 => s
  | n + 1 => nextOf (afterOf s n)

variable (i : grid0.Coords) (x0 : Vec Ideal S2560x128 .f32) (x1 : Vec Ideal S2048x128 .f32) (v : Vec Ideal S2560x9 .f32)

/-- A block's pairs before the rounds. -/
def start : Pairs where
  shown := k0_pay6 i x0 x1
  behind := k0_pay7 i x0 x1

/-- The pairs after some rounds. -/
def pairs (r : ℕ) : Pairs := (start i x0 x1).after r

/-- The nine values kept and the nine found. -/
def values : FVec Ideal S2560x18 .f32 :=
  concatenate S2560x18 1 (⟨S2560x9, v⟩ :: List.ofFn fun k : Fin 9 => (⟨S2560x1, (pairs i x0 x1 k.val).top⟩ : (s : Shape) × (s.Idx → Ideal .f32)))
    concatenates_S2560x9_S2560x1_S2560x1_S2560x1_S2560x1_S2560x1_S2560x1_S2560x1_S2560x1_S2560x1_S2560x18_d1

/-- The eighteen entries after some rounds. -/
def rest (r : ℕ) : FVec Ideal S2560x18 .f32 := afterOf (values i x0 x1 v) r

/-- The nine values kept next. -/
def keptValues : FVec Ideal S2560x9 .f32 :=
  concatenate S2560x9 1 (List.ofFn fun k : Fin 9 => (⟨S2560x1, topOf (rest i x0 x1 v k.val)⟩ : (s : Shape) × (s.Idx → Ideal .f32)))
    concatenates_S2560x1_S2560x1_S2560x1_S2560x1_S2560x1_S2560x1_S2560x1_S2560x1_S2560x1_S2560x9_d1

/-- The last column of an array of nine. -/
def lastColumn (w : FVec Ideal S2560x9 .f32) : FVec Ideal S2560x1 .f32 := fun j =>
  w ((Rect.unit (s := S2560x9) ![0, 8] S2560x1.size inb_S2560x9_S2560x1_0_8).toLoadRect.idx j)

theorem hz : (![0, 0] : Fin 2 → Nat) = fun _ => 0 := funext fun a => by fin_cases a <;> rfl

section
variable (c : Dev nD) (a1 : Memref sig .tc .vmem S2560x128 .f32) (h1 : a1.IsWhole)
    (a2 : Memref sig .tc .vmem S2048x128 .f32) (h2 : a2.IsWhole) (a3 : Memref sig .tc .vmem S2560x1 .f32) (h3 : a3.IsWhole)
    (a4 : Memref sig .tc .vmem S2560x9 .f32) (h4 : a4.IsWhole)

abbrev load1 : Vec Ideal S2560x128 .f32 :=
  a1.view.readAt (Elt Ideal) (Rect.unit (s := S2560x128) ![0, 0] S2560x128.size inb_S2560x128_S2560x128_0_0).toLoadRect (h1.unread x0)
abbrev load2 : Vec Ideal S2048x128 .f32 :=
  a2.view.readAt (Elt Ideal) (Rect.unit (s := S2048x128) ![0, 0] S2048x128.size inb_S2048x128_S2048x128_0_0).toLoadRect (h2.unread x1)
abbrev load4 : Vec Ideal S2560x9 .f32 :=
  a4.view.readAt (Elt Ideal) (Rect.unit (s := S2560x9) ![0, 0] S2560x9.size inb_S2560x9_S2560x9_0_0).toLoadRect (h4.unread v)

theorem load1_eq : load1 x0 a1 h1 = x0 := by
  unfold load1; rw [View.readAt_eq_ld, h1.read_unread, View.ld_unit_zero (S := S2560x128) hz]
theorem load2_eq : load2 x1 a2 h2 = x1 := by
  unfold load2; rw [View.readAt_eq_ld, h2.read_unread, View.ld_unit_zero (S := S2048x128) hz]
theorem load4_eq : load4 v a4 h4 = v := by
  unfold load4; rw [View.readAt_eq_ld, h4.read_unread, View.ld_unit_zero (S := S2560x9) hz]

theorem values_B (hc : ¬cond0_0 i) : sout0_B_0 (F := Ideal) c i a1 h1 a2 h2 a3 h3 a4 h4 hc x0 x1 v = keptValues i x0 x1 v := by
  unfold sout0_B_0
  rw [View.read_writes_eq_canon _ _ _ (scover0_B_0 c i a1 h1 a2 h2 a3 h3 a4 h4 hc x0 x1 v)]
  unfold kernelRun0_B
  dsimp only
  unfold kernelRun0_B.sl.HS0_1
  rw [View.canon_unit_zero (S := S2560x9) hz]
  refine Eq.trans (b := keptValues i (load1 x0 a1 h1) (load2 x1 a2 h2) (load4 v a4 h4)) ?_ ?_
  · unfold k0_pay1
    dsimp only
    rw [shapeCast_self]
    sl_kernel_rfl
  · rw [load1_eq, load2_eq, load4_eq]

theorem result_B (hc : ¬cond0_0 i) : out0_B_2 (F := Ideal) c i a1 h1 a2 h2 a3 h3 a4 h4 hc x0 x1 v = lastColumn (keptValues i x0 x1 v) := by
  unfold out0_B_2
  rw [View.read_writes_eq_canon _ _ _ (cover0_B_2 c i a1 h1 a2 h2 a3 h3 a4 h4 hc x0 x1 v)]
  unfold kernelRun0_B
  dsimp only
  rw [View.canon_unit_zero hz]
  sl_unfold_words
  rw [View.readCov_eq_canon', View.canon_unit_zero (S := S2560x9) hz]
  refine Eq.trans (b := lastColumn (keptValues i (load1 x0 a1 h1) (load2 x1 a2 h2) (load4 v a4 h4))) ?_ ?_
  · unfold k0_pay1
    dsimp only
    rw [shapeCast_self]
    sl_kernel_rfl
  · rw [load1_eq, load2_eq, load4_eq]

/-- Nothing kept: the least value. -/
abbrev noValues : FVec Ideal S2560x9 .f32 := broadcast S2560x9 low

theorem read_first : kernelRun0_A.sl.v75 (F := Ideal) c a4 = noValues := by
  unfold kernelRun0_A.sl.v75 kernelRun0_A.sl.HS0_1
  rw [View.readCov_unit_zero (S := S2560x9) _ hz]
  unfold k0_pay3
  dsimp only
  rw [shapeCast_self]

theorem values_A (hc : cond0_0 i) : sout0_A_0 (F := Ideal) c i a1 h1 a2 h2 a3 h3 a4 h4 hc x0 x1 = keptValues i x0 x1 noValues := by
  unfold sout0_A_0
  rw [View.read_writes_eq_canon _ _ _ (scover0_A_0 c i a1 h1 a2 h2 a3 h3 a4 h4 hc x0 x1)]
  unfold kernelRun0_A
  dsimp only
  unfold kernelRun0_A.sl.HS0_2
  rw [View.canon_cons_unit_zero (S := S2560x9) hz]
  refine Eq.trans (b := keptValues i (load1 x0 a1 h1) (load2 x1 a2 h2) (kernelRun0_A.sl.v75 (F := Ideal) c a4)) ?_ ?_
  · unfold k0_pay1
    dsimp only
    rw [shapeCast_self]
    sl_kernel_rfl
  · rw [load1_eq, load2_eq, read_first]

theorem result_A (hc : cond0_0 i) : out0_A_2 (F := Ideal) c i a1 h1 a2 h2 a3 h3 a4 h4 hc x0 x1 = lastColumn (keptValues i x0 x1 noValues) := by
  unfold out0_A_2
  rw [View.read_writes_eq_canon _ _ _ (cover0_A_2 c i a1 h1 a2 h2 a3 h3 a4 h4 hc x0 x1)]
  unfold kernelRun0_A
  dsimp only
  rw [View.canon_unit_zero hz]
  unfold kernelRun0_A.sl.v131 kernelRun0_A.sl.HS0_2
  rw [View.readCov_eq_canon', View.canon_cons_unit_zero (S := S2560x9) hz]
  refine Eq.trans (b := lastColumn (keptValues i (load1 x0 a1 h1) (load2 x1 a2 h2) (kernelRun0_A.sl.v75 (F := Ideal) c a4))) ?_ ?_
  · unfold k0_pay1
    rw [shapeCast_self]
    sl_kernel_rfl
  · rw [load1_eq, load2_eq, read_first]

end

end Cert.Proof.TauStep

end
-- ==== Proof.Peel.lean ====
/- Rounds that peel the greatest value off a row, whatever entries hold it. When the greatest values are distinct, the rounds find them
   all. Two rows are peeled: a row of pairs that show the greater of two values and hide the smaller, and a plain row. -/
module

public import proofs.«01_k».proof.Proof.Best

@[expose] public section

noncomputable section

namespace Cert.Proof.Peel

open Cert.Proof.Best

/-- **Rounds.** `E k` are the values there before round `k`, `m k` the greatest, which the round takes away; a value above `τ` is then
    gone, and no other value is lost. -/
structure Rounds (τ : EReal) (E : ℕ → Set EReal) (m : ℕ → EReal) : Prop where
  greatest : ∀ k, IsGreatest (E k) (m k)
  within : ∀ k, E (k + 1) ⊆ insert ⊥ (E k)
  keeps : ∀ k, ∀ x ∈ E k, x ≠ m k → x ∈ E (k + 1)
  drops : ∀ k, τ < m k → m k ∉ E (k + 1)

section
variable {τ : EReal} {E : ℕ → Set EReal} {m : ℕ → EReal}

theorem Rounds.within_first (h : Rounds τ E m) : ∀ k, E k ⊆ insert ⊥ (E 0)
  | 0 => Set.subset_insert _ _
  | k + 1 => fun _ hx => by
    rcases h.within k hx with rfl | hx
    · exact .inl rfl
    · exact h.within_first k hx

theorem Rounds.stays (h : Rounds τ E m) {x : EReal} (hx : x ∈ E 0) : ∀ k, (∀ r < k, m r ≠ x) → x ∈ E k
  | 0, _ => hx
  | k + 1, hk => h.keeps k x (h.stays hx k fun r hr => hk r (Nat.lt_succ_of_lt hr)) (hk k (Nat.lt_succ_self k)).symm

/-- The values above `τ` that are left grow fewer by one in each round. -/
theorem Rounds.count (h : Rounds τ E m) (T : Finset EReal) (hT : ∀ x, x ∈ T ↔ x ∈ E 0 ∧ τ < x) : ∀ k, ∃ S : Finset EReal,
    (∀ x, x ∈ S ↔ x ∈ E k ∧ τ < x) ∧ S.card = T.card - k
  | 0 => ⟨T, hT, rfl⟩
  | k + 1 => by
    classical
    obtain ⟨S, hS, hc⟩ := h.count T hT k
    refine ⟨S.erase (m k), fun x => ?_, ?_⟩
    · rw [Finset.mem_erase, hS]
      constructor
      · rintro ⟨hne, hx, hτ⟩; exact ⟨h.keeps k x hx hne, hτ⟩
      · rintro ⟨hx, hτ⟩
        refine ⟨fun e => h.drops k (e ▸ hτ) (e ▸ hx), ?_, hτ⟩
        rcases h.within k hx with rfl | hx
        · exact absurd hτ not_lt_bot
        · exact hx
    · rcases S.eq_empty_or_nonempty with rfl | ⟨x, hx⟩
      · rw [Finset.erase_eq_of_notMem (Finset.notMem_empty _), Finset.card_empty]
        rw [Finset.card_empty] at hc
        omega
      · have hm : m k ∈ S := (hS _).mpr ⟨(h.greatest k).1, ((hS x).mp hx).2.trans_le ((h.greatest k).2 ((hS x).mp hx).1)⟩
        rw [Finset.card_erase_of_mem hm, hc]
        omega

/-- After enough rounds nothing above `τ` is left. -/
theorem Rounds.le_of_card (h : Rounds τ E m) (T : Finset EReal) (hT : ∀ x, x ∈ T ↔ x ∈ E 0 ∧ τ < x) (n : ℕ) (hn : T.card ≤ n) : m n ≤ τ := by
  obtain ⟨S, hS, hc⟩ := h.count T hT n
  by_contra hlt
  have : 0 < S.card := Finset.card_pos.mpr ⟨m n, (hS _).mpr ⟨(h.greatest n).1, not_le.mp hlt⟩⟩
  omega

/-- **What the rounds find**: of the values from `τ` on, those that are there. -/
theorem Rounds.finds (h : Rounds τ E m) (T : Finset EReal) (hT : ∀ x, x ∈ T ↔ x ∈ E 0 ∧ τ < x) (n : ℕ) (hn : T.card ≤ n) {x : EReal} (hτ : τ ≤ x) (hx : ⊥ < x) :
    (∃ k < n + 1, m k = x) ↔ x ∈ E 0 := by
  constructor
  · rintro ⟨k, _, rfl⟩
    rcases h.within_first k (h.greatest k).1 with e | hm
    · exact absurd (e ▸ hx) not_lt_bot
    · exact hm
  · intro hE
    by_contra hno
    have hno' : ∀ k < n + 1, m k ≠ x := fun k hk e => hno ⟨k, hk, e⟩
    have hxn := h.stays hE n fun k hk => hno' k (Nat.lt_succ_of_lt hk)
    exact hno' n (Nat.lt_succ_self n) (le_antisymm ((h.le_of_card T hT n hn).trans hτ) ((h.greatest n).2 hxn))

/-- **What the last round finds**: `τ`, when exactly the rounds before it have a value above `τ`. -/
theorem Rounds.last (h : Rounds τ E m) (T : Finset EReal) (hT : ∀ x, x ∈ T ↔ x ∈ E 0 ∧ τ < x) (n : ℕ) (hn : T.card = n) (hτ : ⊥ < τ → τ ∈ E 0) : m n = τ := by
  refine le_antisymm (h.le_of_card T hT n hn.le) ?_
  rcases eq_bot_or_bot_lt τ with rfl | hb
  · exact bot_le
  · refine (h.greatest n).2 (h.stays (hτ hb) n fun k hk e => ?_)
    obtain ⟨S, hS, hc⟩ := h.count T hT k
    have : 0 < S.card := by omega
    obtain ⟨x, hx⟩ := Finset.card_pos.mp this
    exact absurd (((hS x).mp hx).2.trans_le ((h.greatest k).2 ((hS x).mp hx).1)) (e ▸ lt_irrefl _)

end

variable {W : ℕ}

theorem isGreatest_top (hW : 0 < W) (s : Fin W → EReal) : IsGreatest (Set.range s) (top s) := by
  haveI : Nonempty (Fin W) := ⟨⟨0, hW⟩⟩
  obtain ⟨c, _, hc⟩ := Finset.exists_mem_eq_sup (Finset.univ : Finset (Fin W)) Finset.univ_nonempty s
  exact ⟨⟨c, hc.symm⟩, by rintro _ ⟨c, rfl⟩; exact Finset.le_sup (f := s) (Finset.mem_univ c)⟩

/-! ## A plain row -/

/-- The entries that hold the greatest value are lowered. -/
def lowered (s : Fin W → EReal) (c : Fin W) : EReal := if s c = top s then ⊥ else s c

theorem plain_rounds (hW : 0 < W) (τ : EReal) (s : ℕ → Fin W → EReal) (hs : ∀ k, s (k + 1) = lowered (s k)) :
    Rounds τ (fun k => Set.range (s k)) fun k => top (s k) where
  greatest k := isGreatest_top hW (s k)
  within k := by
    rintro _ ⟨c, rfl⟩
    show s (k + 1) c ∈ _
    rw [hs]
    unfold lowered
    split
    · exact .inl rfl
    · exact .inr ⟨c, rfl⟩
  keeps k := by
    rintro _ ⟨c, rfl⟩ hne
    refine ⟨c, ?_⟩
    show s (k + 1) c = _
    rw [hs]
    exact if_neg hne
  drops k hτ := by
    rintro ⟨c, hc⟩
    have hc : s (k + 1) c = top (s k) := hc
    rw [hs] at hc
    unfold lowered at hc
    split at hc
    · exact absurd (hc ▸ hτ) not_lt_bot
    · contradiction

/-! ## A row of pairs -/

/-- The values of the pairs: those shown and those behind. -/
def all (s : (Fin W → EReal) × (Fin W → EReal)) : Set EReal := Set.range s.1 ∪ Set.range s.2

/-- The pairs that show the greatest value show what is behind. -/
def turned (s : (Fin W → EReal) × (Fin W → EReal)) : (Fin W → EReal) × (Fin W → EReal) :=
  (fun j => if s.1 j = top s.1 then s.2 j else s.1 j, fun j => if s.1 j = top s.1 then ⊥ else s.2 j)

/-- No pair hides a value greater than it shows, and no value above `τ` is there twice. -/
structure Apart (τ : EReal) (s : (Fin W → EReal) × (Fin W → EReal)) : Prop where
  le : ∀ j, s.2 j ≤ s.1 j
  shown : ∀ j k, τ < s.1 j → s.1 j = s.1 k → j = k
  behind : ∀ j k, τ < s.2 j → s.2 j = s.2 k → j = k
  cross : ∀ j k, τ < s.1 j → s.1 j ≠ s.2 k

/-- Where an entry of the turned row comes from. -/
theorem turned_shown (s : (Fin W → EReal) × (Fin W → EReal)) (j : Fin W) :
    (s.1 j = top s.1 ∧ (turned s).1 j = s.2 j) ∨ (s.1 j ≠ top s.1 ∧ (turned s).1 j = s.1 j) := by
  by_cases h : s.1 j = top s.1
  · exact .inl ⟨h, if_pos h⟩
  · exact .inr ⟨h, if_neg h⟩

theorem turned_behind (s : (Fin W → EReal) × (Fin W → EReal)) (j : Fin W) :
    (s.1 j = top s.1 ∧ (turned s).2 j = ⊥) ∨ (s.1 j ≠ top s.1 ∧ (turned s).2 j = s.2 j) := by
  by_cases h : s.1 j = top s.1
  · exact .inl ⟨h, if_pos h⟩
  · exact .inr ⟨h, if_neg h⟩

theorem Apart.turned {τ : EReal} {s : (Fin W → EReal) × (Fin W → EReal)} (h : Apart τ s) : Apart τ (turned s) where
  le j := by
    rcases turned_behind s j with ⟨_, e⟩ | ⟨hj, e⟩
    · rw [e]; exact bot_le
    · rw [e, ((turned_shown s j).resolve_left fun h' => hj h'.1).2]; exact h.le j
  shown j k hτ e := by
    rcases turned_shown s j with ⟨hj, ej⟩ | ⟨hj, ej⟩ <;> rcases turned_shown s k with ⟨hk, ek⟩ | ⟨hk, ek⟩ <;> rw [ej] at hτ e <;> rw [ek] at e
    · exact h.behind j k hτ e
    · exact absurd e.symm (h.cross k j (e ▸ hτ))
    · exact absurd e (h.cross j k hτ)
    · exact h.shown j k hτ e
  behind j k hτ e := by
    rcases turned_behind s j with ⟨hj, ej⟩ | ⟨hj, ej⟩ <;> rcases turned_behind s k with ⟨hk, ek⟩ | ⟨hk, ek⟩ <;> rw [ej] at hτ e <;> rw [ek] at e
    · exact absurd hτ not_lt_bot
    · exact absurd hτ not_lt_bot
    · exact absurd (e ▸ hτ) not_lt_bot
    · exact h.behind j k hτ e
  cross j k hτ e := by
    rcases turned_shown s j with ⟨hj, ej⟩ | ⟨hj, ej⟩ <;> rcases turned_behind s k with ⟨hk, ek⟩ | ⟨hk, ek⟩ <;> rw [ej] at hτ e <;> rw [ek] at e
    · exact absurd (e ▸ hτ) not_lt_bot
    · exact hk (h.behind j k hτ e ▸ hj)
    · exact absurd (e ▸ hτ) not_lt_bot
    · exact h.cross j k hτ e

theorem pair_rounds (hW : 0 < W) (τ : EReal) (s : ℕ → (Fin W → EReal) × (Fin W → EReal)) (hs : ∀ k, s (k + 1) = turned (s k))
    (h0 : Apart τ (s 0)) : Rounds τ (fun k => all (s k)) fun k => top (s k).1 := by
  have hA : ∀ k, Apart τ (s k) := fun k => by
    induction k with
    | zero => exact h0
    | succ k ih => rw [hs]; exact ih.turned
  refine ⟨fun k => ⟨.inl (isGreatest_top hW (s k).1).1, ?_⟩, fun k => ?_, fun k => ?_, fun k hτ => ?_⟩
  · rintro _ (⟨j, rfl⟩ | ⟨j, rfl⟩)
    · exact (isGreatest_top hW (s k).1).2 ⟨j, rfl⟩
    · exact ((hA k).le j).trans ((isGreatest_top hW (s k).1).2 ⟨j, rfl⟩)
  · show all (s (k + 1)) ⊆ _
    rw [hs]
    rintro _ (⟨j, rfl⟩ | ⟨j, rfl⟩)
    · rcases turned_shown (s k) j with ⟨_, e⟩ | ⟨_, e⟩ <;> rw [e]
      · exact .inr (.inr ⟨j, rfl⟩)
      · exact .inr (.inl ⟨j, rfl⟩)
    · rcases turned_behind (s k) j with ⟨_, e⟩ | ⟨_, e⟩ <;> rw [e]
      · exact .inl rfl
      · exact .inr (.inr ⟨j, rfl⟩)
  · show ∀ x ∈ all (s k), x ≠ top (s k).1 → x ∈ all (s (k + 1))
    rw [hs]
    rintro _ (⟨j, rfl⟩ | ⟨j, rfl⟩) hne
    · rcases turned_shown (s k) j with ⟨h, _⟩ | ⟨_, e⟩
      · exact absurd h hne
      · exact .inl ⟨j, e⟩
    · rcases turned_shown (s k) j with ⟨_, e⟩ | ⟨h, _⟩
      · exact .inl ⟨j, e⟩
      · exact .inr ⟨j, ((turned_behind (s k) j).resolve_left fun h' => h h'.1).2⟩
  · show top (s k).1 ∉ all (s (k + 1))
    rw [hs]
    obtain ⟨i, hi⟩ := (isGreatest_top hW (s k).1).1
    have hτi : τ < (s k).1 i := hi ▸ hτ
    rintro (⟨j, hj⟩ | ⟨j, hj⟩)
    · rcases turned_shown (s k) j with ⟨_, e⟩ | ⟨h, e⟩
      · exact (hA k).cross i j hτi (hi.trans (hj.symm.trans e))
      · exact h (e.symm.trans hj)
    · rcases turned_behind (s k) j with ⟨_, e⟩ | ⟨h, e⟩
      · exact absurd ((e.symm.trans hj) ▸ hτ) not_lt_bot
      · exact (hA k).cross i j hτi (hi.trans (hj.symm.trans e))

end Cert.Proof.Peel

end
-- ==== Proof.Ninth.lean ====
/- The ninth greatest of a row whose nine greatest strictly decrease: exactly eight columns hold more, each its own value. -/
module

public import proofs.«01_k».proof.Proof.Best

@[expose] public section

noncomputable section

namespace Cert.Proof.Ninth

open Cert.Proof.Best

variable {f : ℕ → EReal} {τ : EReal}

theorem exists_best (S : Finset ℕ) (h : S.Nonempty) : ∃ x, IsBest f S x := by
  classical
  obtain ⟨y, hy, hmax⟩ := S.exists_max_image f h
  have hne : (S.filter fun x => f x = f y).Nonempty := ⟨y, Finset.mem_filter.mpr ⟨hy, rfl⟩⟩
  obtain ⟨hx, hfx⟩ := Finset.mem_filter.mp (Finset.min'_mem _ hne)
  refine ⟨_, hx, fun j hj hj' => ?_⟩
  rcases lt_or_eq_of_le (hmax j hj) with hlt | heq
  · exact .inl (hlt.trans_eq hfx.symm)
  · exact .inr ⟨hfx.trans heq.symm, lt_of_le_of_ne (Finset.min'_le _ j (Finset.mem_filter.mpr ⟨hj, heq⟩)) hj'.symm⟩

/-- The first picks exist. -/
theorem exists_chain (S : Finset ℕ) : ∀ k ≤ S.card, ∃ σ, Chain f S k σ
  | 0, _ => ⟨fun _ => 0, fun _ hr => absurd hr (Nat.not_lt_zero _)⟩
  | k + 1, hk => by
    obtain ⟨σ, hσ⟩ := exists_chain S k (Nat.le_of_succ_le hk)
    have hcard : 0 < (S \ picks σ k).card := by
      have := hσ.card_picks k le_rfl
      have := Finset.le_card_sdiff (picks σ k) S
      omega
    obtain ⟨x, hx⟩ := exists_best (f := f) _ (Finset.card_pos.mp hcard)
    have hs : ∀ s < k, σ s = Function.update σ k x s := fun s h => (Function.update_of_ne (Nat.ne_of_lt h) _ _).symm
    refine ⟨Function.update σ k x, (hσ.congr hs).snoc ?_⟩
    rw [(picks_congr hs).symm, Function.update_self]
    exact hx

/-- `τ` is a value of `f`, and the eight columns of `T` are the only ones to hold more, with distinct values. -/
structure Ninth (f : ℕ → EReal) (τ : EReal) (T : Finset ℕ) : Prop where
  card : T.card = 8
  mem : ∀ n, n ∈ T ↔ τ < f n
  inj : ∀ n n', τ < f n → f n = f n' → n = n'
  attained : ∃ n < 100000, f n = τ

theorem Ninth.of_chain (hbot : ∀ n, ¬n < 100000 → f n = ⊥) {σ : ℕ → ℕ} (h : Chain f (Finset.range 100000) 9 σ)
    (hd : ∀ k < 8, f (σ (k + 1)) < f (σ k)) : Ninth f (f (σ 8)) (picks σ 8) := by
  have anti : ∀ s t, s < t → t < 9 → f (σ t) < f (σ s) := fun s t hst ht => by
    refine lt_of_le_of_lt ?_ (hd s (by omega))
    rcases Nat.lt_or_eq_of_le (Nat.succ_le_of_lt hst) with hl | rfl
    · rcases h.better ht hl with hb | ⟨hb, _⟩
      · exact hb.le
      · exact hb.symm.le
    · exact le_rfl
  have mem : ∀ n, n ∈ picks σ 8 ↔ f (σ 8) < f n := fun n => by
    rw [mem_picks]
    constructor
    · rintro ⟨s, hs, rfl⟩; exact anti s 8 hs (by omega)
    · intro hn
      have hlt : n < 100000 := by
        by_contra hc
        rw [hbot n hc] at hn
        exact not_lt_bot hn
      by_cases hp : n ∈ picks σ 9
      · obtain ⟨s, hs, rfl⟩ := mem_picks.mp hp
        rcases Nat.lt_succ_iff_lt_or_eq.mp hs with hs | rfl
        · exact ⟨s, hs, rfl⟩
        · exact absurd hn (lt_irrefl _)
      · rcases h.rest (by omega : 8 < 9) (Finset.mem_range.mpr hlt) hp with hb | ⟨hb, _⟩
        · exact absurd hn hb.asymm
        · exact absurd hn hb.not_lt
  refine ⟨h.card_picks 8 (by omega), mem, fun n n' hn he => ?_, σ 8, Finset.mem_range.mp (h.mem (by omega)), rfl⟩
  obtain ⟨s, hs, rfl⟩ := mem_picks.mp ((mem n).mpr hn)
  obtain ⟨t, ht, rfl⟩ := mem_picks.mp ((mem n').mpr (he ▸ hn))
  rcases Nat.lt_trichotomy s t with hst | rfl | hst
  · exact absurd he (anti s t hst (by omega)).ne'
  · rfl
  · exact absurd he (anti t s hst (by omega)).ne

variable {T : Finset ℕ}

/-- Of any values of `f` at most eight are greater than the ninth. -/
theorem Ninth.some (h : Ninth f τ T) (E : Set EReal) (hE : ∀ x ∈ E, τ < x → ∃ n, f n = x) :
    ∃ V : Finset EReal, (∀ x, x ∈ V ↔ x ∈ E ∧ τ < x) ∧ V.card ≤ 8 := by
  classical
  refine ⟨(T.image f).filter (· ∈ E), fun x => ?_, ((Finset.card_filter_le _ _).trans Finset.card_image_le).trans h.card.le⟩
  rw [Finset.mem_filter, Finset.mem_image]
  constructor
  · rintro ⟨⟨n, hn, rfl⟩, hx⟩; exact ⟨hx, (h.mem n).mp hn⟩
  · rintro ⟨hx, hτ⟩
    obtain ⟨n, rfl⟩ := hE x hx hτ
    exact ⟨⟨n, (h.mem n).mpr hτ, rfl⟩, hx⟩

/-- Of all values of `f` exactly eight are. -/
theorem Ninth.all (h : Ninth f τ T) (E : Set EReal) (hE : ∀ x, τ < x → (x ∈ E ↔ ∃ n, f n = x)) :
    ∃ V : Finset EReal, (∀ x, x ∈ V ↔ x ∈ E ∧ τ < x) ∧ V.card = 8 := by
  classical
  refine ⟨T.image f, fun x => ?_, (Finset.card_image_of_injOn fun n hn n' _ e => h.inj n n' ((h.mem n).mp hn) e).trans h.card⟩
  rw [Finset.mem_image]
  constructor
  · rintro ⟨n, hn, rfl⟩; exact ⟨(hE _ ((h.mem n).mp hn)).mpr ⟨n, rfl⟩, (h.mem n).mp hn⟩
  · rintro ⟨hx, hτ⟩
    obtain ⟨n, rfl⟩ := (hE x hτ).mp hx
    exact ⟨n, (h.mem n).mpr hτ, rfl⟩

end Cert.Proof.Ninth

end
-- ==== Proof.TauRow.lean ====
/- One grid point of the threshold, row by row: of the values from the ninth greatest on, the running array keeps those met so far; after
   the last block its last column is the ninth greatest. -/
module

public import proofs.«01_k».proof.Proof.TauStep
public import proofs.«01_k».proof.Proof.Peel
public import proofs.«01_k».proof.Proof.Ninth
public import proofs.«01_k».proof.Proof.Reads

@[expose] public section

noncomputable section

namespace Cert.Proof.TauRow

open Idealize.ShloMosaic Idealize.ShloMosaic.ValueIdx Cert.ThresholdIdeal Cert.ThresholdIdeal.Gen Cert.Proof.Best Cert.Proof.Reads
  Cert.Proof.TauStep Cert.Proof.Peel Cert.Proof.Ninth Cert.Proof.Table

section Column

variable (g : FVec Ideal ⟨2, ![2560, 128]⟩ .f32) (db : FVec Ideal ⟨2, ![100000, 128]⟩ .f32) (r : Fin 2560)

/-- The similarity of row `r` with table row `n`; least past the table's end. -/
def column (n : ℕ) : EReal := if n < 100000 then ∑ e : Fin 128, g (ix2 r e) * row db n e else ⊥

theorem column_of_lt {n : ℕ} (h : n < 100000) : column g db r n = ∑ e : Fin 128, g (ix2 r e) * row db n e := if_pos h

theorem column_of_not_lt (n : ℕ) (h : ¬n < 100000) : column g db r n = ⊥ := if_neg h

end Column

/-! ## The rounds of a row -/

section Rounds

variable (r : Fin 2560)

/-- Row `r` of the pairs. -/
def line (s : Pairs) : (Fin 1024 → EReal) × (Fin 1024 → EReal) := (fun j => s.shown (ix2 r j), fun j => s.behind (ix2 r j))

theorem next_shown (s : Pairs) : s.next.shown = select s.here s.behind s.shown := by rw [Pairs.next]
theorem next_behind (s : Pairs) : s.next.behind = select s.here (broadcast S2560x1024 low) s.behind := by rw [Pairs.next]

theorem top_apply (s : Pairs) : s.top (ix2 r 0) = top (line r s).1 := rowMax_apply (R := 2560) (W := 1024) s.shown _ _ _ _ r

/-- A select where a row's entries equal a column's entry. -/
theorem where_apply {W : ℕ} (s : FVec Ideal ⟨2, ![2560, W]⟩ .f32) (m : FVec Ideal ⟨2, ![2560, 1]⟩ .f32)
    (hb : (⟨2, ![2560, 1]⟩ : Shape).Broadcasts ⟨2, ![2560, W]⟩) (x y : FVec Ideal ⟨2, ![2560, W]⟩ .f32) (c : Fin W) :
    select (cmpf .oeq s (broadcastTo ⟨2, ![2560, W]⟩ m hb)) x y (ix2 r c)
      = if s (ix2 r c) = m (ix2 r 0) then x (ix2 r c) else y (ix2 r c) := by
  show Scalar.select (FloatOps.cmpf (F := Ideal) (φ := .f32) .oeq (s (ix2 r c)) (broadcastTo _ m hb (ix2 r c))) _ _ = _
  rw [spread_apply, select_oeq]

theorem line_next (s : Pairs) : line r s.next = turned (line r s) := by
  refine Prod.ext (funext fun j => ?_) (funext fun j => ?_)
  · show s.next.shown (ix2 r j) = _
    rw [next_shown]
    unfold Pairs.here
    refine (where_apply (W := 1024) r s.shown s.top _ s.behind s.shown j).trans ?_
    rw [top_apply]; rfl
  · show s.next.behind (ix2 r j) = _
    rw [next_behind]
    unfold Pairs.here
    refine (where_apply (W := 1024) r s.shown s.top _ (broadcast S2560x1024 low) s.behind j).trans ?_
    rw [top_apply]; rfl

/-- Row `r` of the eighteen entries. -/
def entries (s : FVec Ideal S2560x18 .f32) (c : Fin 18) : EReal := s (ix2 r c)

theorem topOf_apply (s : FVec Ideal S2560x18 .f32) : topOf s (ix2 r 0) = top (entries r s) := rowMax_apply (R := 2560) (W := 18) s _ _ _ _ r

theorem entries_next (s : FVec Ideal S2560x18 .f32) : entries r (nextOf s) = lowered (entries r s) := by
  funext c
  refine (where_apply (W := 18) r s (topOf s) _ (broadcast S2560x18 low) s c).trans ?_
  rw [topOf_apply]; rfl

end Rounds

/-- A matrix of nine columns with nine more put after it. -/
theorem joined_apply {α : Type} (v : S2560x9.Idx → α) (g : Fin 9 → S2560x1.Idx → α)
    (h : Shape.Concatenates ((⟨S2560x9, v⟩ :: List.ofFn fun k : Fin 9 => (⟨S2560x1, g k⟩ : (s : Shape) × (s.Idx → α))).map (·.1)) S2560x18 1)
    (r : Fin 2560) :
    (∀ c : Fin 9, concatenate S2560x18 1 (⟨S2560x9, v⟩ :: List.ofFn fun k : Fin 9 => (⟨S2560x1, g k⟩ : (s : Shape) × (s.Idx → α))) h
        (ix2 r (c.castLE (by decide))) = v (ix2 r c))
    ∧ ∀ k : Fin 9, concatenate S2560x18 1 (⟨S2560x9, v⟩ :: List.ofFn fun k : Fin 9 => (⟨S2560x1, g k⟩ : (s : Shape) × (s.Idx → α))) h
        (ix2 r (k.natAdd 9)) = g k (ix2 r 0) := by
  constructor
  · intro c
    refine concatenate_apply_piece (t := S2560x18) 1 _ h (ix2 r (c.castLE (by decide))) 0 (by simp) S2560x9 v rfl rfl 0 rfl (ix2 r c) (fun b hb => ?_) ?_
    · match b with
      | 0 => rfl
      | 1 => exact absurd rfl hb
    · exact Nat.zero_add _
  · intro k
    refine concatenate_apply_piece (t := S2560x18) 1 _ h (ix2 r (k.natAdd 9)) (k.val + 1) (by have := k.isLt; simp; omega) S2560x1 (g k) ?_ rfl (9 + k.val) ?_
      (ix2 r 0) (fun b hb => ?_) ?_
    · rw [List.getElem_cons_succ, List.getElem_ofFn]
    · fin_cases k <;> rfl
    · match b with
      | 0 => rfl
      | 1 => exact absurd rfl hb
    · exact Nat.add_zero _

/-- Nine columns put side by side. -/
theorem columns_apply {α : Type} (g : Fin 9 → S2560x1.Idx → α)
    (h : Shape.Concatenates ((List.ofFn fun k : Fin 9 => (⟨S2560x1, g k⟩ : (s : Shape) × (s.Idx → α))).map (·.1)) S2560x9 1)
    (r : Fin 2560) (k : Fin 9) :
    concatenate S2560x9 1 (List.ofFn fun k : Fin 9 => (⟨S2560x1, g k⟩ : (s : Shape) × (s.Idx → α))) h (ix2 r k) = g k (ix2 r 0) :=
  concatenate_ofFn_unit_apply (1 : Fin S2560x9.rank) g h rfl rfl (ix2 r k) k rfl (ix2 r 0) fun b hb => by
    match b with
    | 0 => rfl
    | 1 => exact absurd rfl hb

/-- The entry of the first nine, or of the last nine. -/
theorem eighteen_cases (c : Fin 18) : (∃ k : Fin 9, c = k.castLE (by decide)) ∨ ∃ k : Fin 9, c = k.natAdd 9 := by
  by_cases h : c.val < 9
  · exact .inl ⟨⟨c.val, h⟩, rfl⟩
  · exact .inr ⟨⟨c.val - 9, by have := c.isLt; omega⟩, Fin.ext (by show c.val = 9 + (c.val - 9); omega)⟩

section Point

variable (i : grid0.Coords) (g : FVec Ideal S2560x128 .f32) (x1 : FVec Ideal S2048x128 .f32) (db : FVec Ideal ⟨2, ![100000, 128]⟩ .f32)
  (b : ℕ) (r : Fin 2560)

theorem zero_eq : Scalar.ofBits (F := Ideal) .f32 0x00000000#32 = (0 : EReal) := Ideal.ofBits_zero_f32

/-- The lanes' similarities. -/
theorem sims_apply (hi : (i 1).val = b) (hb : b < 49) (hx : ∀ (l : Fin 2048) (d : Fin 128), x1 (ix2 l d) = row db (b * 2048 + l.val) d)
    (l : Fin 2048) : k0_pay2 (F := Ideal) i g x1 (ix2 r l) = column g db r (b * 2048 + l.val) := by
  have e1 : FloatOps.matmul (F := Ideal) dot_S2560x128_S2048x128_S2560x2048_1_1_0_0_n_n none g x1
      (constant S2560x2048 .f32 0x00000000#32) (ix2 r l) = ∑ e : Fin 128, g (ix2 r e) * row db (b * 2048 + l.val) e := by
    refine (Ideal.matmul_transposedRhs_apply none g x1 (constant S2560x2048 .f32 0x00000000#32) r l).trans ?_
    refine (congrArg (· + _) zero_eq).trans ((zero_add _).trans ?_)
    exact Finset.sum_congr rfl fun e _ => congrArg (g (ix2 r e) * ·) (hx l e)
  have e2 : iota .tc S2560x2048 32 [1] iota_S2560x2048_d1_w32 (ix2 r l) + BitVec.ofNat 32 (i 1).val * 2048#32
      = BitVec.ofNat 32 (b * 2048 + l.val) := by
    rw [iota_single_apply, hi]
    exact lane_word b l.val
  have hl : b * 2048 + l.val < 100352 := by have := l.isLt; omega
  unfold k0_pay2
  rw [shapeCast_self]
  show Scalar.select (IntOp.cmpi .slt (iota .tc S2560x2048 32 [1] iota_S2560x2048_d1_w32 (ix2 r l) + BitVec.ofNat 32 (i 1).val * 2048#32) 100000#32)
    (FloatOps.matmul (F := Ideal) dot_S2560x128_S2048x128_S2560x2048_1_1_0_0_n_n none g x1 (constant S2560x2048 .f32 0x00000000#32) (ix2 r l)) low = _
  rw [e1, e2, lane_slt _ hl]
  by_cases hn : b * 2048 + l.val < 100000
  · rw [if_pos hn, column_of_lt g db r hn]; rfl
  · rw [if_neg hn, column_of_not_lt g db r _ hn]; rfl

/-- The two columns of pair `j` of block `b`. -/
def lower (b : ℕ) (j : Fin 1024) : ℕ := b * 2048 + j.val
def upper (b : ℕ) (j : Fin 1024) : ℕ := b * 2048 + (1024 + j.val)

theorem member (n : ℕ) : (b * 2048 ≤ n ∧ n < (b + 1) * 2048) ↔ ∃ j : Fin 1024, n = lower b j ∨ n = upper b j := by
  unfold lower upper
  constructor
  · rintro ⟨h1, h2⟩
    by_cases hl : n < b * 2048 + 1024
    · exact ⟨⟨n - b * 2048, by omega⟩, .inl (by dsimp only; omega)⟩
    · exact ⟨⟨n - b * 2048 - 1024, by omega⟩, .inr (by dsimp only; omega)⟩
  · rintro ⟨j, h⟩
    have := j.isLt
    omega

/-- A pair's columns are no other's. -/
theorem same {j k : Fin 1024} {n : ℕ} (hj : n = lower b j ∨ n = upper b j) (hk : n = lower b k ∨ n = upper b k) : j = k := by
  unfold lower upper at hj hk
  have := j.isLt
  have := k.isLt
  exact Fin.ext (by omega)

variable (f : ℕ → EReal)

/-- A block's pairs in a row: the greater of two columns' values, and the smaller. -/
def sorted : (Fin 1024 → EReal) × (Fin 1024 → EReal) :=
  (fun j => max (f (lower b j)) (f (upper b j)), fun j => min (f (lower b j)) (f (upper b j)))

theorem sorted_shown (j : Fin 1024) : ∃ n, (n = lower b j ∨ n = upper b j) ∧ (sorted b f).1 j = f n := by
  rcases max_choice (f (lower b j)) (f (upper b j)) with h | h
  · exact ⟨_, .inl rfl, h⟩
  · exact ⟨_, .inr rfl, h⟩

theorem sorted_behind (j : Fin 1024) : ∃ n, (n = lower b j ∨ n = upper b j) ∧ (sorted b f).2 j = f n := by
  rcases min_choice (f (lower b j)) (f (upper b j)) with h | h
  · exact ⟨_, .inl rfl, h⟩
  · exact ⟨_, .inr rfl, h⟩

/-- The pairs hold the block's values. -/
theorem sorted_all (x : EReal) : x ∈ all (sorted b f) ↔ ∃ n, (b * 2048 ≤ n ∧ n < (b + 1) * 2048) ∧ f n = x := by
  constructor
  · rintro (⟨j, rfl⟩ | ⟨j, rfl⟩)
    · obtain ⟨n, hn, e⟩ := sorted_shown b f j
      exact ⟨n, (member b n).mpr ⟨j, hn⟩, e.symm⟩
    · obtain ⟨n, hn, e⟩ := sorted_behind b f j
      exact ⟨n, (member b n).mpr ⟨j, hn⟩, e.symm⟩
  · rintro ⟨n, hn, rfl⟩
    obtain ⟨j, hj⟩ := (member b n).mp hn
    rcases le_total (f (lower b j)) (f (upper b j)) with h | h <;> rcases hj with rfl | rfl
    · exact .inr ⟨j, min_eq_left h⟩
    · exact .inl ⟨j, max_eq_right h⟩
    · exact .inl ⟨j, max_eq_left h⟩
    · exact .inr ⟨j, min_eq_right h⟩

variable {f} {τ : EReal} {T : Finset ℕ}

theorem sorted_apart (hN : Ninth f τ T) : Apart τ (sorted b f) where
  le j := min_le_max
  shown j k hτ e := by
    obtain ⟨n, hn, h1⟩ := sorted_shown b f j
    obtain ⟨n', hn', h2⟩ := sorted_shown b f k
    rw [h1] at hτ e; rw [h2] at e
    obtain rfl := hN.inj n n' hτ e
    exact same b hn hn'
  behind j k hτ e := by
    obtain ⟨n, hn, h1⟩ := sorted_behind b f j
    obtain ⟨n', hn', h2⟩ := sorted_behind b f k
    rw [h1] at hτ e; rw [h2] at e
    obtain rfl := hN.inj n n' hτ e
    exact same b hn hn'
  cross j k hτ e := by
    obtain ⟨n, hn, h1⟩ := sorted_shown b f j
    obtain ⟨n', hn', h2⟩ := sorted_behind b f k
    have e' := e
    have hτ' := hτ
    rw [h1] at hτ' e'; rw [h2] at e'
    obtain rfl := hN.inj n n' hτ' e'
    obtain rfl := same b hn hn'
    have h : f (lower b j) = f (upper b j) := by
      have e : max (f (lower b j)) (f (upper b j)) = min (f (lower b j)) (f (upper b j)) := e
      exact le_antisymm ((le_max_left _ _).trans (e.le.trans (min_le_right _ _))) ((le_max_right _ _).trans (e.le.trans (min_le_left _ _)))
    have hl : τ < f (lower b j) := by
      have hτ : τ < max (f (lower b j)) (f (upper b j)) := hτ
      rwa [← h, max_self] at hτ
    have := hN.inj _ _ hl h
    unfold lower upper at this
    omega

variable (hi : (i 1).val = b) (hb : b < 49) (hx : ∀ (l : Fin 2048) (d : Fin 128), x1 (ix2 l d) = row db (b * 2048 + l.val) d)

include hi hb hx in
theorem half_lower (j : Fin 1024) : k0_pay4 (F := Ideal) i g x1 (ix2 r j) = column g db r (lower b j) := by
  unfold k0_pay4
  refine (extractStridedSlice_apply _ _ slices_S2560x2048_o0_0_S2560x1024 (ix2 r j) (ix2 r (⟨j.val, by have := j.isLt; omega⟩ : Fin 2048)) fun a => ?_).trans
    (sims_apply i g x1 db b r hi hb hx _)
  match a with
  | 0 => exact (Nat.zero_add _).symm
  | 1 => exact (Nat.zero_add _).symm

include hi hb hx in
theorem half_upper (j : Fin 1024) : k0_pay5 (F := Ideal) i g x1 (ix2 r j) = column g db r (upper b j) := by
  unfold k0_pay5
  refine (extractStridedSlice_apply _ _ slices_S2560x2048_o0_1024_S2560x1024 (ix2 r j) (ix2 r (⟨1024 + j.val, by have := j.isLt; omega⟩ : Fin 2048)) fun a => ?_).trans
    (sims_apply i g x1 db b r hi hb hx _)
  match a with
  | 0 => exact (Nat.zero_add _).symm
  | 1 => rfl

include hi hb hx in
theorem line_start : line r (start i g x1) = sorted b (column g db r) := by
  refine Prod.ext (funext fun j => ?_) (funext fun j => ?_)
  · show k0_pay6 (F := Ideal) i g x1 (ix2 r j) = max _ _
    unfold k0_pay6
    show max (k0_pay4 (F := Ideal) i g x1 (ix2 r j)) (k0_pay5 (F := Ideal) i g x1 (ix2 r j)) = _
    rw [half_lower i g x1 db b r hi hb hx, half_upper i g x1 db b r hi hb hx]
  · show k0_pay7 (F := Ideal) i g x1 (ix2 r j) = min _ _
    unfold k0_pay7
    show min (k0_pay4 (F := Ideal) i g x1 (ix2 r j)) (k0_pay5 (F := Ideal) i g x1 (ix2 r j)) = _
    rw [half_lower i g x1 db b r hi hb hx, half_upper i g x1 db b r hi hb hx]

variable (hN : Ninth (column g db r) τ T)

include hi hb hx hN in
/-- **A block's nine rounds** find its values from the ninth greatest on. -/
theorem block_found {x : EReal} (hτ : τ ≤ x) (hx0 : ⊥ < x) : (∃ k : Fin 9, (pairs i g x1 k.val).top (ix2 r 0) = x)
    ↔ ∃ n, (b * 2048 ≤ n ∧ n < (b + 1) * 2048) ∧ column g db r n = x := by
  have h0 := line_start i g x1 db b r hi hb hx
  have hR := pair_rounds (by decide : 0 < 1024) τ (fun k => line r (pairs i g x1 k)) (fun k => line_next r (pairs i g x1 k))
    (by show Apart τ (line r (start i g x1)); rw [h0]; exact sorted_apart b hN)
  have e0 : all (line r (pairs i g x1 0)) = all (sorted b (column g db r)) := congrArg all h0
  obtain ⟨V, hV, hc⟩ := hN.some (all (line r (pairs i g x1 0))) fun y hy _ => by
    rw [e0, sorted_all] at hy
    exact hy.imp fun n h => h.2
  refine Iff.trans ?_ ((hR.finds V hV 8 hc hτ hx0).trans (by show x ∈ all (line r (pairs i g x1 0)) ↔ _; rw [e0, sorted_all]))
  constructor
  · rintro ⟨k, e⟩; exact ⟨k.val, k.isLt, (top_apply r _).symm.trans e⟩
  · rintro ⟨k, hk, e⟩; exact ⟨⟨k, hk⟩, (top_apply r _).trans e⟩

/-- Of the values from `τ` on, row `r` of the running array holds those of the first `N` columns. -/
def Kept (f : ℕ → EReal) (τ : EReal) (N : ℕ) (v : FVec Ideal S2560x9 .f32) : Prop := ∀ x, τ ≤ x → ⊥ < x →
  ((∃ k : Fin 9, v (ix2 r k) = x) ↔ ∃ n < N, f n = x)

theorem kept_none (f : ℕ → EReal) (τ : EReal) : Kept r f τ (0 * 2048) noValues := fun x _ hx => by
  constructor
  · rintro ⟨k, e⟩
    exact absurd ((show (⊥ : EReal) = x from e) ▸ hx) (lt_irrefl _)
  · rintro ⟨n, hn, _⟩; omega

variable (v : FVec Ideal S2560x9 .f32) (hv : Kept r (column g db r) τ (b * 2048) v)

include hi hb hx hN hv in
/-- The eighteen entries hold the values of the blocks so far. -/
theorem entries_hold {x : EReal} (hτ : τ ≤ x) (hx0 : ⊥ < x) : x ∈ Set.range (entries r (rest i g x1 v 0))
    ↔ ∃ n < (b + 1) * 2048, column g db r n = x := by
  have vj := joined_apply v (fun k : Fin 9 => (pairs i g x1 k.val).top)
    concatenates_S2560x9_S2560x1_S2560x1_S2560x1_S2560x1_S2560x1_S2560x1_S2560x1_S2560x1_S2560x1_S2560x18_d1 r
  have e1 : x ∈ Set.range (entries r (rest i g x1 v 0)) ↔ (∃ k : Fin 9, v (ix2 r k) = x) ∨ ∃ k : Fin 9, (pairs i g x1 k.val).top (ix2 r 0) = x := by
    constructor
    · rintro ⟨c, e⟩
      rcases eighteen_cases c with ⟨k, rfl⟩ | ⟨k, rfl⟩
      · exact .inl ⟨k, (vj.1 k).symm.trans e⟩
      · exact .inr ⟨k, (vj.2 k).symm.trans e⟩
    · rintro (⟨k, e⟩ | ⟨k, e⟩)
      · exact ⟨k.castLE (by decide), (vj.1 k).trans e⟩
      · exact ⟨k.natAdd 9, (vj.2 k).trans e⟩
  rw [e1, hv x hτ hx0, block_found i g x1 db b r hi hb hx hN hτ hx0]
  constructor
  · rintro (⟨n, h, e⟩ | ⟨n, h, e⟩)
    · exact ⟨n, by omega, e⟩
    · exact ⟨n, h.2, e⟩
  · rintro ⟨n, h, e⟩
    by_cases hn : n < b * 2048
    · exact .inl ⟨n, hn, e⟩
    · exact .inr ⟨n, ⟨by omega, h⟩, e⟩

theorem merged : Rounds τ (fun k => Set.range (entries r (rest i g x1 v k))) fun k => top (entries r (rest i g x1 v k)) :=
  plain_rounds (by decide : 0 < 18) τ (fun k => entries r (rest i g x1 v k)) fun k => entries_next r (rest i g x1 v k)

theorem kept_apply (k : Fin 9) : keptValues i g x1 v (ix2 r k) = top (entries r (rest i g x1 v k.val)) := by
  unfold keptValues
  exact (columns_apply _ _ r k).trans (topOf_apply r _)

include hi hb hx hN hv in
/-- **One point**: the running array then holds the block's values too. -/
theorem point : Kept r (column g db r) τ ((b + 1) * 2048) (keptValues i g x1 v) := fun x hτ hx0 => by
  obtain ⟨V, hV, hc⟩ := hN.some (Set.range (entries r (rest i g x1 v 0))) fun y hy hτy => by
    obtain ⟨n, _, e⟩ := (entries_hold i g x1 db b r hi hb hx hN v hv hτy.le (bot_le.trans_lt hτy)).mp hy
    exact ⟨n, e⟩
  rw [← entries_hold i g x1 db b r hi hb hx hN v hv hτ hx0]
  refine Iff.trans ?_ ((merged i g x1 r v).finds V hV 8 hc hτ hx0)
  constructor
  · rintro ⟨k, e⟩; exact ⟨k.val, k.isLt, (kept_apply i g x1 r v k).symm.trans e⟩
  · rintro ⟨k, hk, e⟩; exact ⟨⟨k, hk⟩, (kept_apply i g x1 r v ⟨k, hk⟩).trans e⟩

include hi hb hx hN hv in
/-- **The last point** leaves the ninth greatest in the last column. -/
theorem point_last (h48 : b = 48) : keptValues i g x1 v (ix2 r 8) = τ := by
  have far : ∀ n x, ⊥ < x → column g db r n = x → n < (b + 1) * 2048 := fun n x hx0 e => by
    by_contra hc
    rw [column_of_not_lt g db r n (by omega)] at e
    exact absurd (e ▸ hx0) (lt_irrefl _)
  obtain ⟨V, hV, hc⟩ := hN.all (Set.range (entries r (rest i g x1 v 0))) fun y hτy => by
    rw [entries_hold i g x1 db b r hi hb hx hN v hv hτy.le (bot_le.trans_lt hτy)]
    exact ⟨fun ⟨n, _, e⟩ => ⟨n, e⟩, fun ⟨n, e⟩ => ⟨n, far n y (bot_le.trans_lt hτy) e, e⟩⟩
  refine (kept_apply i g x1 r v 8).trans ((merged i g x1 r v).last V hV 8 hc fun hb0 => ?_)
  refine (entries_hold i g x1 db b r hi hb hx hN v hv le_rfl hb0).mpr ?_
  obtain ⟨n, _, e⟩ := hN.attained
  exact ⟨n, far n τ hb0 e, e⟩

end Point

end Cert.Proof.TauRow

end
-- ==== Proof.Tau.lean ====
/- What the threshold call leaves: in each row, the ninth greatest similarity with the table's rows, which is the last of the host's top
   nine; and what the precondition says. -/
module

public import proofs.«01_k».proof.Proof.TauRow
public import proofs.«01_k».proof.Proof.TopRow
public import proofs.«01_k».proof.Proof.Gen.ThresholdReferenceIdeal.Run
public import proofs.«01_k».proof.Proof.Gen.Pre_distinct
public import Idealize.ShloMosaic.Lib.ReduceAll

@[expose] public section

noncomputable section

namespace Cert.Proof.Tau

open Idealize.ShloMosaic Idealize.ShloMosaic.ValueIdx Cert.Proof.Best Cert.Proof.Table Cert.Proof.Ninth Cert.Proof.TauStep Cert.Proof.TauRow

section Kernel

open Cert.ThresholdIdeal Cert.ThresholdIdeal.Gen Cert.ThresholdIdeal.Value

variable (m : (ℓ : Loc nD τ sig) → Buf (Elt Ideal) ℓ) (c : Dev nD)

/-- The candidates' rows, as launched. -/
abbrev rows : FVec Ideal S2560x128 .f32 := m ((c.tc : Thread nD τ).loc main_arg0)
/-- The table, as launched. -/
abbrev table : FVec Ideal S100000x128 .f32 := m ((c.tc : Thread nD τ).loc main_arg1)

/-- The call finds the table padded. -/
theorem padded_eq : V m c main_v0 = pad S100352x128 ![0, 0] ![352, 0] ![0, 0] (table m c)
    (sitofp (F := Ideal) .f32 (constantI S_ 32 0#32)) pads_S100000x128_S100352x128_03520_000 h_S_ := by
  unfold V
  simp only [hostOps0, hostOps0_1, List.flatten_cons, List.flatten_nil, List.append_nil, List.cons_append, List.nil_append,
    StableHlo.TRef.unary, StableHlo.TRef.binary, StableHlo.TRef.toBuf, StableHlo.TRef.ofBuf, cast_eq]
  after_results

theorem points (t : Fin cfg0.N) : t.val < 49 := lt_of_lt_of_eq t.isLt (show cfg0.N = 49 from N_0)

theorem coord (t : Fin cfg0.N) : (grid0.coords t 1).val = t.val :=
  (by decide +kernel : ∀ t : Fin grid0.N, (grid0.coords t 1).val = t.val) t

theorem index0 (t : Fin cfg0.N) : win0_0.index t 0 = 0 ∧ win0_0.index t 1 = 0 :=
  (by decide +kernel : ∀ t : Fin grid0.N, win0_0.index t 0 = 0 ∧ win0_0.index t 1 = 0) t

theorem index1 (t : Fin cfg0.N) : win0_1.index t 0 = t.val ∧ win0_1.index t 1 = 0 :=
  (by decide +kernel : ∀ t : Fin grid0.N, win0_1.index t 0 = t.val ∧ win0_1.index t 1 = 0) t

theorem block0 (t : Fin cfg0.N) : (iblk m c 0 t : FVec Ideal S2560x128 .f32) = rows m c := by
  funext j
  unfold iblk
  rw [View.read_apply]
  refine (congrFun (V_main_arg0 m c) _).trans (congrArg (rows m c) (funext fun a => Fin.ext ?_))
  match a with
  | 0 => show win0_0.index t 0 * 2560 + 1 * (j 0).val = (j 0).val; rw [(index0 t).1]; omega
  | 1 => show win0_0.index t 1 * 128 + 1 * (j 1).val = (j 1).val; rw [(index0 t).2]; omega

theorem block1 (t : Fin cfg0.N) (l : Fin 2048) (d : Fin 128) :
    (iblk m c 1 t : FVec Ideal S2048x128 .f32) (ix2 l d) = row (table m c) (t.val * 2048 + l.val) d := by
  have hn : t.val * 2048 + l.val < 100352 := by have := points t; have := l.isLt; omega
  unfold iblk
  rw [View.read_apply]
  refine (congrFun (padded_eq m c) _).trans (Eq.trans (congrArg _ (funext fun a => Fin.ext ?_))
    (padded_apply (table m c) (sitofp (F := Ideal) .f32 (constantI S_ 32 0#32)) (fun _ => by
      show ((((0#32 : BitVec 32).toInt : ℝ) : EReal)) = 0
      simp) pads_S100000x128_S100352x128_03520_000 h_S_ ⟨t.val * 2048 + l.val, hn⟩ d))
  match a with
  | 0 => show win0_1.index t 0 * 2048 + 1 * l.val = t.val * 2048 + l.val; rw [(index1 t).1]; omega
  | 1 => show win0_1.index t 1 * 128 + 1 * d.val = d.val; rw [(index1 t).2]; omega

/-- What holds of row `r` after point `n`: the running array keeps the values met so far, the result is its last column, and after the
    last point that is the ninth greatest value. -/
def After (g : FVec Ideal S2560x128 .f32) (db : FVec Ideal S100000x128 .f32) (r : Fin 2560) (σ : EReal) (n : ℕ)
    (s : Vec Ideal S2560x1 .f32 × Vec Ideal S2560x9 .f32) : Prop :=
  Kept r (column g db r) σ ((n + 1) * 2048) s.2 ∧ s.1 = lastColumn s.2 ∧ (n = 48 → s.2 (ix2 r 8) = σ)

theorem after_point (r : Fin 2560) {σ : EReal} {T : Finset ℕ} (hN : Ninth (column (rows m c) (table m c) r) σ T) :
    ∀ (n : ℕ) (h : 0 + n < cfg0.N), After (rows m c) (table m c) r σ n (Pipeline.accAt (fun n h => stAt0 m c n h junk0) (stAt0 m c) 0 n h) := by
  intro n
  induction n with
  | zero =>
    intro h
    rw [Pipeline.accAt_zero, stAt0_A m c ⟨0, h⟩ junk0 (Nat.zero_mod 49)]
    unfold After
    dsimp only
    rw [result_A, values_A, block0]
    exact ⟨point _ (rows m c) _ (table m c) 0 r (coord ⟨0, h⟩) (by decide) (block1 m c ⟨0, h⟩) hN noValues (kept_none r _ σ), rfl,
      fun h => absurd h (by decide)⟩
  | succ n ih =>
    intro h
    have hcount : cfg0.N = 49 := N_0
    obtain ⟨h1, _, _⟩ := ih (Nat.lt_of_succ_lt h)
    have hne : ¬(0 + (n + 1)) % 49 = 0 := by omega
    have hco : (grid0.coords (⟨0 + (n + 1), h⟩ : Fin cfg0.N) 1).val = n + 1 := (coord ⟨0 + (n + 1), h⟩).trans (Nat.zero_add _)
    have hbl : ∀ (l : Fin 2048) (d : Fin 128), (iblk m c 1 (⟨0 + (n + 1), h⟩ : Fin cfg0.N) : FVec Ideal S2048x128 .f32) (ix2 l d)
        = row (table m c) ((n + 1) * 2048 + l.val) d := fun l d =>
      (block1 m c ⟨0 + (n + 1), h⟩ l d).trans (by show row _ ((0 + (n + 1)) * 2048 + l.val) d = _; rw [Nat.zero_add])
    rw [Pipeline.accAt_succ, stAt0_B m c ⟨0 + (n + 1), h⟩ _ hne]
    unfold After
    dsimp only
    rw [result_B, values_B, block0]
    exact ⟨point _ (rows m c) _ (table m c) (n + 1) r hco (by omega) hbl hN _ h1, rfl,
      point_last _ (rows m c) _ (table m c) (n + 1) r hco (by omega) hbl hN _ h1⟩

/-- The result is the one the last point leaves. -/
theorem read_last (Q : Vec Ideal S2560x1 .f32 → Prop)
    (h : ∀ hN : 0 + 48 < cfg0.N, Q (Pipeline.accAt (fun n h => stAt0 m c n h junk0) (stAt0 m c) 0 48 hN).1) : Q (G2 m c) := by
  rw [G2_last]
  exact h _

theorem lastColumn_apply (w : FVec Ideal S2560x9 .f32) (r : Fin 2560) : lastColumn w (ix2 r 0) = w (ix2 r 8) := by
  unfold lastColumn
  refine congrArg w (funext fun a => Fin.ext ?_)
  match a with
  | 0 => show 0 + 1 * r.val = r.val; omega
  | 1 => rfl

theorem ninth_of_after (g : FVec Ideal S2560x128 .f32) (db : FVec Ideal S100000x128 .f32) (r : Fin 2560) (σ : EReal)
    (s : Vec Ideal S2560x1 .f32 × Vec Ideal S2560x9 .f32) (h : After g db r σ 48 s) : s.1 (ix2 r 0) = σ := by
  obtain ⟨_, h2, h3⟩ := h
  exact (congrFun h2 (ix2 r 0)).trans ((lastColumn_apply s.2 r).trans (h3 rfl))

/-- **What the call leaves.** -/
theorem kernel_row (r : Fin 2560) {σ : EReal} {T : Finset ℕ} (hN : Ninth (column (rows m c) (table m c) r) σ T) : G2 m c (ix2 r 0) = σ :=
  read_last m c (fun s => s (ix2 r 0) = σ) fun h => ninth_of_after _ _ r σ _ (after_point m c r hN 48 h)

end Kernel

section Reference

open Cert.ThresholdReferenceIdeal Cert.ThresholdReferenceIdeal.Gen

variable (a0 : FVec Ideal S2560x128 .f32) (a1 : FVec Ideal S100000x128 .f32)

/-- The similarities of all the rows with all table rows. -/
def sims : FVec Ideal S2560x100000 .f32 :=
  Host.dotGeneral dot_S2560x128_S128x100000_S2560x100000_1_0_0_1_n_n none a0 (transpose S128x100000 [1, 0] a1 transposes_S100000x128_S128x100000_1_0)

theorem sims_apply (r : Fin 2560) (n : Fin 100000) : sims a0 a1 (ix2 r n) = column a0 a1 r n.val := by
  rw [column_of_lt a0 a1 r n.isLt]
  refine (StackMember.dotGeneral_plain_apply none a0 _ r n).trans (Finset.sum_congr rfl fun e _ => congrArg (a0 (ix2 r e) * ·) ?_)
  refine Eq.trans ?_ (row_of_lt a1 n e).symm
  exact transpose_apply _ _ _ (ix2 e n) (ix2 n e) fun a => by
    match a with
    | 0 => rfl
    | 1 => rfl

/-- The nine greatest similarities of each row. -/
def best : FVec Ideal S2560x9 .f32 :=
  (Host.topK S2560x9 1 (FloatOps.cmpfTotal (F := Ideal) (φ := .f32) .gt) (sims a0 a1) sliceFits_S2560x100000_S2560x9).1

theorem best_apply (r : Fin 2560) {σ : ℕ → ℕ} (h : Chain (column a0 a1 r) (Finset.range 100000) 9 σ) (k : Fin 9) :
    best a0 a1 (ix2 r k) = column a0 a1 r (σ k.val) :=
  (TopRow.topK_apply (R := 2560) (n := 100000) (k := 9) (by decide) (sims a0 a1) sliceFits_S2560x100000_S2560x9 r (column a0 a1 r)
    (fun n => (sims_apply a0 a1 r n).symm) h k).1

/-- The kernel's thresholds are the host's. -/
theorem agree (m : (ℓ : Loc Cert.ThresholdIdeal.nD Cert.ThresholdIdeal.τ Cert.ThresholdIdeal.sig) → Buf (Elt Ideal) ℓ)
    (c : Dev Cert.ThresholdIdeal.nD)
    (hd : ∀ (r : Fin 2560) (k : Fin 8), best (rows m c) (table m c) (ix2 r k.succ) < best (rows m c) (table m c) (ix2 r k.castSucc)) :
    Cert.ThresholdIdeal.Value.G2 m c = extractStridedSlice S2560x1 ![0, 8] (best (rows m c) (table m c)) slices_S2560x9_S2560x1_0_8 := by
  funext j
  obtain ⟨r, k, rfl⟩ : ∃ (r : Fin 2560) (k : Fin 1), j = ix2 r k := ⟨j 0, j 1, eq_ix2 j⟩
  obtain rfl : k = 0 := Subsingleton.elim _ _
  obtain ⟨σ, hσ⟩ := exists_chain (f := column (rows m c) (table m c) r) (Finset.range 100000) 9 (by rw [Finset.card_range]; decide)
  have hN := Ninth.of_chain (column_of_not_lt (rows m c) (table m c) r) hσ fun k hk => by
    have := hd r ⟨k, hk⟩
    rwa [best_apply _ _ r hσ, best_apply _ _ r hσ] at this
  refine (kernel_row m c r hN).trans ((best_apply _ _ r hσ 8).symm.trans (extractStridedSlice_apply _ _ _ _ (ix2 r 8) fun a => ?_).symm)
  match a with
  | 0 => exact (Nat.zero_add _).symm
  | 1 => rfl

end Reference

section Precondition

open Cert.Pre_distinct Cert.Pre_distinct.Gen

theorem lt_of_ogt (x y : EReal) (h : FloatOps.cmpf (F := Ideal) (φ := .f32) .ogt x y = 1#1) : y < x := by
  by_contra hn
  have h' : BitVec.ofBool (decide (y < x)) = 1#1 := h
  rw [decide_eq_false hn] at h'
  exact absurd h' (by decide)

theorem distinct_of_pre (a0 : FVec Ideal S2560x128 .f32) (a1 : FVec Ideal S100000x128 .f32)
    (h : Cert.Pre_distinct.fn (F := Ideal) a0 a1 = fun _ => 1#1) (r : Fin 2560) (k : Fin 8) :
    best a0 a1 (ix2 r k.succ) < best a0 a1 (ix2 r k.castSucc) := by
  have e := congrFun h (Shape.Idx.first h_S_)
  unfold Cert.Pre_distinct.fn at e
  haveI : Subsingleton S_.Idx := ⟨fun a b => funext fun d => d.elim0⟩
  have e1 := lt_of_ogt _ _ (Host.reduce_andi_all _ _ _ _ _ e (ix2 r k))
  have l : extractStridedSlice S2560x8 ![0, 0] (best a0 a1) slices_S2560x9_S2560x8_0_0 (ix2 r k) = best a0 a1 (ix2 r k.castSucc) :=
    extractStridedSlice_apply _ _ _ _ _ fun a => by
      match a with
      | 0 => exact (Nat.zero_add _).symm
      | 1 => exact (Nat.zero_add _).symm
  have u : extractStridedSlice S2560x8 ![0, 1] (best a0 a1) slices_S2560x9_S2560x8_0_1 (ix2 r k) = best a0 a1 (ix2 r k.succ) :=
    extractStridedSlice_apply _ _ _ _ _ fun a => by
      match a with
      | 0 => exact (Nat.zero_add _).symm
      | 1 => exact Nat.add_comm _ _
  exact u.symm.trans_lt (lt_of_lt_of_eq e1 l)

end Precondition

end Cert.Proof.Tau

end
-- ==== Proof.Bounded.lean ====
/- The claims about the threshold call: its frames (generated legs), its rewritten constant, and that it leaves its reference's
   thresholds (Proof/Tau.lean). -/
module

public import proofs.«01_k».proof.Defs
public import proofs.«01_k».proof.Proof.Gen.Threshold
public import proofs.«01_k».proof.Proof.Gen.Threshold.Frame
public import proofs.«01_k».proof.Proof.Gen.ThresholdIdeal
public import proofs.«01_k».proof.Proof.Gen.ThresholdReferenceIdeal
public import proofs.«01_k».proof.Proof.Tau
public import Idealize.ShloMosaic.Adequacy
public import Idealize.ShloMosaic.Init
public import Idealize.ShloMosaic.Lib.Quiescent

@[expose] public section

noncomputable section

namespace Cert.Proof.Bounded

open Idealize.ShloMosaic Idealize.SL.Sem

theorem frame_kernel : Cert.quiescent_Threshold := fun m ρ _ => Cert.Threshold.Gen.frame m ρ

theorem frame_ideal : Cert.quiescent_ThresholdIdeal := fun m ρ _ => Cert.ThresholdIdeal.Gen.frame m ρ

theorem frame_reference : Cert.quiescent_ThresholdReferenceIdeal := fun m ρ _ =>
  (θ_run _ _ _).mono (fun r h => ⟨fun c => (h c).2, sem_eq_zero_of_no_sems (by decide) r.2⟩)
    (Cert.ThresholdReferenceIdeal.Value.run m ρ)

theorem rewrites : Cert.preserves_Threshold_ThresholdIdeal :=
  IdealRules.named_const.statement Cert.ThresholdIdeal.κ "lowest" .f32 0xFF61B1E6#32 _ rfl

/-- The kernel and the reference find the same thresholds. -/
theorem agree : Cert.algebraic_ThresholdIdeal_ThresholdReferenceIdeal_pre_distinct := fun m ρ m' ρ' hpre hargs =>
  ⟨fun c => Cert.ThresholdIdeal.Value.G2 m c, Cert.ThresholdIdeal.Value.run (F := Ideal) m ρ,
    (θ_run _ _ _).mono (fun _ h c => ⟨(h c).1.trans (by
        rw [(hargs c).1, (hargs c).2]
        exact (Tau.agree m c (Tau.distinct_of_pre _ _ (hpre c))).symm), (h c).2⟩)
      (Cert.ThresholdReferenceIdeal.Value.run m' ρ')⟩

end Cert.Proof.Bounded

end
-- ==== Proof.Agg.lean ====
/- What the aggregation call leaves: at (r, d), the sum over the table's rows of the row's similarity with row r of the queries,
   where it reaches the threshold, times the row's entry d. -/
module

public import proofs.«01_k».proof.Proof.Gen.AggregateIdeal.Value
public import proofs.«01_k».proof.Proof.Gen.AggregateReferenceIdeal.Run
public import proofs.«01_k».proof.Proof.Table
public import Idealize.ShloMosaic.Lib.IdealHost

@[expose] public section

noncomputable section

namespace Cert.Proof.Agg

open Idealize.ShloMosaic Idealize.ShloMosaic.ValueIdx Cert.Proof.Table

section Terms

variable (g : FVec Ideal ⟨2, ![2560, 128]⟩ .f32) (db : FVec Ideal ⟨2, ![100000, 128]⟩ .f32) (tau : FVec Ideal ⟨2, ![2560, 1]⟩ .f32)

/-- The similarity of query row `r` with table row `n`. -/
def sim (r : Fin 2560) (n : ℕ) : EReal := ∑ e : Fin 128, g (ix2 r e) * row db n e

/-- What row `n` adds at (r, d). -/
def part (r : Fin 2560) (d : Fin 128) (n : ℕ) : EReal :=
  if n < 100000 then Scalar.select (Ideal.cmp .oge (sim g db r n) (tau (ix2 r 0))) (sim g db r n) 0 * row db n d else 0

end Terms

section Kernel

open Cert.AggregateIdeal Cert.AggregateIdeal.Gen Cert.AggregateIdeal.Value

theorem zero_eq : Scalar.ofBits (F := Ideal) .f32 0x00000000#32 = (0 : EReal) := Ideal.ofBits_zero_f32

/-- One step: what the block's lanes add to the accumulator. -/
theorem step_apply (i : grid0.Coords) (x0 : FVec Ideal S2560x128 .f32) (x1 : FVec Ideal S2048x128 .f32) (x2 : FVec Ideal S2560x1 .f32)
    (acc : FVec Ideal S2560x128 .f32) (db : FVec Ideal ⟨2, ![100000, 128]⟩ .f32) (b : ℕ) (hi : (i 1).val = b) (hb : b < 49)
    (hx : ∀ (l : Fin 2048) (d : Fin 128), x1 (ix2 l d) = row db (b * 2048 + l.val) d) (r : Fin 2560) (d : Fin 128) :
    k0_pay2 (F := Ideal) i x0 x1 x2 x1 acc (ix2 r d) = acc (ix2 r d) + ∑ l : Fin 2048, part x0 db x2 r d (b * 2048 + l.val) := by
  have e1 : ∀ l : Fin 2048, FloatOps.matmul (F := Ideal) dot_S2560x128_S2048x128_S2560x2048_1_1_0_0_n_n none x0 x1
      (constant S2560x2048 .f32 0x00000000#32) (ix2 r l) = sim x0 db r (b * 2048 + l.val) := fun l => by
    refine (Ideal.matmul_transposedRhs_apply none x0 x1 (constant S2560x2048 .f32 0x00000000#32) r l).trans ?_
    refine (congrArg (· + _) zero_eq).trans ((zero_add _).trans ?_)
    exact Finset.sum_congr rfl fun e _ => congrArg (x0 (ix2 r e) * ·) (hx l e)
  have e2 : ∀ w : FVec Ideal S2560x2048 .f32, FloatOps.matmul (F := Ideal) dot_S2560x2048_S2048x128_S2560x128_1_0_0_1_n_n (some .fp32) w x1
      (constant S2560x128 .f32 0x00000000#32) (ix2 r d) = ∑ l : Fin 2048, w (ix2 r l) * row db (b * 2048 + l.val) d := fun w => by
    refine (Ideal.matmul_plain_apply (some .fp32) w x1 (constant S2560x128 .f32 0x00000000#32) r d).trans ?_
    refine (congrArg (· + _) zero_eq).trans ((zero_add _).trans ?_)
    exact Finset.sum_congr rfl fun l _ => congrArg (w (ix2 r l) * ·) (hx l d)
  unfold k0_pay2
  dsimp only
  rw [shapeCast_self, shapeCast_self]
  refine congrArg (acc (ix2 r d) + ·) ((e2 _).trans (Finset.sum_congr rfl fun l _ => ?_))
  have hl : b * 2048 + l.val < 100352 := by have := l.isLt; omega
  have hw : IntOp.cmpi .slt (BitVec.ofNat 32 l.val + BitVec.ofNat 32 (i 1).val * 2048#32) 100000#32
      = if b * 2048 + l.val < 100000 then 1#1 else 0#1 := by
    rw [hi, lane_word, lane_slt _ hl]
  unfold part
  show Scalar.select (Ideal.cmp .oge (FloatOps.matmul (F := Ideal) dot_S2560x128_S2048x128_S2560x2048_1_1_0_0_n_n none x0 x1
      (constant S2560x2048 .f32 0x00000000#32) (ix2 r l)) (broadcastTo S2560x2048 x2 broadcasts_S2560x1_S2560x2048 (ix2 r l))
      &&& IntOp.cmpi .slt (iota .tc S2560x2048 32 [1] iota_S2560x2048_d1_w32 (ix2 r l) + BitVec.ofNat 32 (i 1).val * 2048#32) 100000#32)
      (FloatOps.matmul (F := Ideal) dot_S2560x128_S2048x128_S2560x2048_1_1_0_0_n_n none x0 x1
      (constant S2560x2048 .f32 0x00000000#32) (ix2 r l)) (Scalar.ofBits .f32 0x00000000#32) * _ = _
  rw [e1 l, iota_single_apply, Reads.spread_apply, zero_eq]
  refine (congrArg (fun c => Scalar.select (Ideal.cmp .oge (sim x0 db r (b * 2048 + l.val)) (x2 (ix2 r 0)) &&& c) (sim x0 db r (b * 2048 + l.val)) 0
    * row db (b * 2048 + l.val) d) hw).trans ?_
  by_cases hn : b * 2048 + l.val < 100000
  · rw [if_pos hn, if_pos hn]
    congr 2
    exact (by decide : ∀ c : BitVec 1, c &&& 1#1 = c) _
  · rw [if_neg hn, if_neg hn, row_of_not_lt db _ hn, mul_zero]

variable (m : (ℓ : Loc nD τ sig) → Buf (Elt Ideal) ℓ) (c : Dev nD)

/-- The queries, as launched. -/
abbrev queries : FVec Ideal S2560x128 .f32 := m ((c.tc : Thread nD τ).loc main_arg0)
/-- The table, as launched. -/
abbrev table : FVec Ideal S100000x128 .f32 := m ((c.tc : Thread nD τ).loc main_arg1)
/-- The thresholds, as launched. -/
abbrev bounds : FVec Ideal S2560x1 .f32 := m ((c.tc : Thread nD τ).loc main_arg2)

/-- The call finds the table padded. -/
theorem padded_eq : V m c main_v0 = pad S100352x128 ![0, 0] ![352, 0] ![0, 0] (table m c)
    (sitofp (F := Ideal) .f32 (constantI S_ 32 0#32)) pads_S100000x128_S100352x128_03520_000 h_S_ := by
  unfold V
  simp only [hostOps0, hostOps0_1, List.flatten_cons, List.flatten_nil, List.append_nil, List.cons_append, List.nil_append,
    StableHlo.TRef.unary, StableHlo.TRef.binary, StableHlo.TRef.toBuf, StableHlo.TRef.ofBuf, cast_eq]
  after_results

theorem points (t : Fin cfg0.N) : t.val < 49 := lt_of_lt_of_eq t.isLt (show cfg0.N = 49 from N_0)

theorem coord (t : Fin cfg0.N) : (grid0.coords t 1).val = t.val :=
  (by decide +kernel : ∀ t : Fin grid0.N, (grid0.coords t 1).val = t.val) t

theorem index0 (t : Fin cfg0.N) : win0_0.index t 0 = 0 ∧ win0_0.index t 1 = 0 :=
  (by decide +kernel : ∀ t : Fin grid0.N, win0_0.index t 0 = 0 ∧ win0_0.index t 1 = 0) t

theorem index1 (t : Fin cfg0.N) : win0_1.index t 0 = t.val ∧ win0_1.index t 1 = 0 :=
  (by decide +kernel : ∀ t : Fin grid0.N, win0_1.index t 0 = t.val ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem block0 (t : Fin cfg0.N) : (iblk m c 0 t : FVec Ideal S2560x128 .f32) = queries m c := by
  funext j
  unfold iblk
  rw [View.read_apply]
  refine (congrFun (V_main_arg0 m c) _).trans (congrArg (queries m c) (funext fun a => Fin.ext ?_))
  match a with
  | 0 => show win0_0.index t 0 * 2560 + 1 * (j 0).val = (j 0).val; rw [(index0 t).1]; omega
  | 1 => show win0_0.index t 1 * 128 + 1 * (j 1).val = (j 1).val; rw [(index0 t).2]; omega

theorem block2 (t : Fin cfg0.N) : (iblk m c 2 t : FVec Ideal S2560x1 .f32) = bounds m c := by
  funext j
  unfold iblk
  rw [View.read_apply]
  refine (congrFun (V_main_arg2 m c) _).trans (congrArg (bounds m c) (funext fun a => Fin.ext ?_))
  match a with
  | 0 => show win0_2.index t 0 * 2560 + 1 * (j 0).val = (j 0).val; rw [(index2 t).1]; omega
  | 1 => show win0_2.index t 1 * 1 + 1 * (j 1).val = (j 1).val; rw [(index2 t).2]; omega

theorem block1 (t : Fin cfg0.N) (l : Fin 2048) (d : Fin 128) :
    (iblk m c 1 t : FVec Ideal S2048x128 .f32) (ix2 l d) = row (table m c) (t.val * 2048 + l.val) d := by
  have hn : t.val * 2048 + l.val < 100352 := by have := points t; have := l.isLt; omega
  unfold iblk
  rw [View.read_apply]
  refine (congrFun (padded_eq m c) _).trans (Eq.trans (congrArg _ (funext fun a => Fin.ext ?_))
    (padded_apply (table m c) (sitofp (F := Ideal) .f32 (constantI S_ 32 0#32)) (fun _ => by
      show ((((0#32 : BitVec 32).toInt : ℝ) : EReal)) = 0
      simp) pads_S100000x128_S100352x128_03520_000 h_S_ ⟨t.val * 2048 + l.val, hn⟩ d))
  match a with
  | 0 => show win0_1.index t 0 * 2048 + 1 * l.val = t.val * 2048 + l.val; rw [(index1 t).1]; omega
  | 1 => show win0_1.index t 1 * 128 + 1 * d.val = d.val; rw [(index1 t).2]; omega

/-- **What the call leaves.** -/
theorem kernel_apply (r : Fin 2560) (d : Fin 128) :
    G3 m c (ix2 r d) = ∑ n : Fin 100000, part (queries m c) (table m c) (bounds m c) r d n.val := by
  have hrun : run3Of (ix2 r d) = 0 := by
    show 1 * (r.val / 2560 - 0) + 1 * (d.val / 128 - 0) = 0
    have := r.isLt; have := d.isLt; omega
  have hN : cfg0.N = 49 := N_0
  have hloc : loc3Of (ix2 r d) = ix2 r d := by
    funext a; apply Fin.ext
    match a with
    | 0 => show r.val % 2560 = r.val; exact Nat.mod_eq_of_lt r.isLt
    | 1 => show d.val % 128 = d.val; exact Nat.mod_eq_of_lt d.isLt
  have hb : 49 * run3Of (ix2 r d) + 48 < cfg0.N := by rw [hrun, hN]; omega
  have step : ∀ (n : ℕ) (h : n < cfg0.N) (acc : FVec Ideal S2560x128 .f32) (i : S2560x128.Idx), k0_pay2 (F := Ideal) (grid0.coords ⟨n, h⟩) (iblk m c 0 ⟨n, h⟩) (iblk m c 1 ⟨n, h⟩)
      (iblk m c 2 ⟨n, h⟩) (iblk m c 1 ⟨n, h⟩) acc i = acc i + ∑ l : Fin 2048, part (queries m c) (table m c) (bounds m c) (i 0) (i 1) (n * 2048 + l.val) := fun n h acc i => by
    obtain ⟨a, b, rfl⟩ : ∃ (a : Fin 2560) (b : Fin 128), i = ix2 a b := ⟨i 0, i 1, eq_ix2 i⟩
    refine (step_apply (grid0.coords ⟨n, h⟩) (iblk m c 0 ⟨n, h⟩) (iblk m c 1 ⟨n, h⟩) (iblk m c 2 ⟨n, h⟩) acc (table m c) n (coord ⟨n, h⟩)
      (points ⟨n, h⟩) (block1 m c ⟨n, h⟩) a b).trans ?_
    rw [block0, block2]
  unfold G3
  rw [dif_pos hb, hloc]
  refine (Pipeline.accAt_add_apply (reset3 m c) (step3 m c) (fun _ => (0 : EReal))
    (fun n i => ∑ l : Fin 2048, part (queries m c) (table m c) (bounds m c) (i 0) (i 1) (n * 2048 + l.val)) (49 * run3Of (ix2 r d)) 48
    (fun h i => ?_) (fun n h acc i _ _ => step n h acc i) 48 le_rfl hb (ix2 r d)).trans ?_
  · refine (step _ h (k0_pay1 (F := Ideal)) i).trans ?_
    exact congrArg (· + _) zero_eq
  · rw [hrun, zero_add]
    refine Eq.trans (Finset.sum_congr rfl fun s _ => ?_) (sum_rows (fun n => part (queries m c) (table m c) (bounds m c) r d n) fun n hn => if_neg hn)
    rw [Nat.mul_zero, Nat.zero_add]

end Kernel

section Reference

open Cert.AggregateReferenceIdeal Cert.AggregateReferenceIdeal.Gen

variable (a0 : FVec Ideal S2560x128 .f32) (a1 : FVec Ideal S100000x128 .f32) (a2 : FVec Ideal S2560x1 .f32)

/-- The similarities of all query rows with all table rows. -/
def sims : FVec Ideal S2560x100000 .f32 :=
  Host.dotGeneral dot_S2560x128_S128x100000_S2560x100000_1_0_0_1_n_n none a0 (transpose S128x100000 [1, 0] a1 transposes_S100000x128_S128x100000_1_0)

theorem sims_apply (r : Fin 2560) (n : Fin 100000) : sims a0 a1 (ix2 r n) = sim a0 a1 r n.val := by
  refine (StackMember.dotGeneral_plain_apply none a0 _ r n).trans (Finset.sum_congr rfl fun e _ => congrArg (a0 (ix2 r e) * ·) ?_)
  refine Eq.trans ?_ (row_of_lt a1 n e).symm
  exact transpose_apply _ _ _ (ix2 e n) (ix2 n e) fun a => by
    match a with
    | 0 => rfl
    | 1 => rfl

/-- The similarities that reach the threshold, zero in place of the others. -/
def kept : FVec Ideal S2560x100000 .f32 :=
  select (cmpf .oge (sims a0 a1) (broadcastInDim S2560x100000 ![0, 1] bcast_S2560x1_S2560x100000_0_1 a2)) (sims a0 a1)
    (broadcastInDim S2560x100000 ![] bcast_S_S2560x100000 (id (constant (F := Ideal) S_ .f32 0x00000000#32)))

theorem reference_apply (r : Fin 2560) (d : Fin 128) :
    Host.dotGeneral dot_S2560x100000_S100000x128_S2560x128_1_0_0_1_n_n none (kept a0 a1 a2) a1 (ix2 r d)
      = ∑ n : Fin 100000, part a0 a1 a2 r d n.val := by
  refine (StackMember.dotGeneral_plain_apply none (kept a0 a1 a2) a1 r d).trans (Finset.sum_congr rfl fun n _ => ?_)
  unfold part
  rw [if_pos n.isLt, row_of_lt]
  refine congrArg (· * a1 (ix2 n d)) ?_
  have hb : broadcastInDim S2560x100000 ![0, 1] bcast_S2560x1_S2560x100000_0_1 a2 (ix2 r n) = a2 (ix2 r 0) :=
    broadcastInDim_apply _ _ _ (ix2 r n) (ix2 r 0) fun a => by
      match a with
      | 0 => rfl
      | 1 => rfl
  have hz : broadcastInDim S2560x100000 ![] bcast_S_S2560x100000 (id (constant (F := Ideal) S_ .f32 0x00000000#32)) (ix2 r n) = (0 : EReal) :=
    (broadcastInDim_scalar_apply _ _ _).trans zero_eq
  have h : kept a0 a1 a2 (ix2 r n) = Scalar.select (Ideal.cmp .oge (sims a0 a1 (ix2 r n)) (broadcastInDim S2560x100000 ![0, 1] bcast_S2560x1_S2560x100000_0_1 a2 (ix2 r n)))
    (sims a0 a1 (ix2 r n)) (broadcastInDim S2560x100000 ![] bcast_S_S2560x100000 (id (constant (F := Ideal) S_ .f32 0x00000000#32)) (ix2 r n)) := rfl
  rw [h, hb, hz, sims_apply]

theorem agree (m : (ℓ : Loc Cert.AggregateIdeal.nD Cert.AggregateIdeal.τ Cert.AggregateIdeal.sig) → Buf (Elt Ideal) ℓ)
    (c : Dev Cert.AggregateIdeal.nD) : Cert.AggregateIdeal.Value.G3 m c
      = Host.dotGeneral dot_S2560x100000_S100000x128_S2560x128_1_0_0_1_n_n none (kept (queries m c) (table m c) (bounds m c)) (table m c) := by
  funext j
  obtain ⟨r, d, rfl⟩ : ∃ (r : Fin 2560) (d : Fin 128), j = ix2 r d := ⟨j 0, j 1, eq_ix2 j⟩
  exact (kernel_apply m c r d).trans (reference_apply (queries m c) (table m c) (bounds m c) r d).symm

end Reference

end Cert.Proof.Agg

end
-- ==== Proof.Aggregated.lean ====
/- The claims about the aggregation call: its frames (generated legs), and that it leaves its reference's sums (Proof/Agg.lean). -/
module

public import proofs.«01_k».proof.Defs
public import proofs.«01_k».proof.Proof.Gen.Aggregate
public import proofs.«01_k».proof.Proof.Gen.Aggregate.Frame
public import proofs.«01_k».proof.Proof.Gen.AggregateIdeal
public import proofs.«01_k».proof.Proof.Gen.AggregateReferenceIdeal
public import proofs.«01_k».proof.Proof.Agg
public import Idealize.ShloMosaic.Adequacy
public import Idealize.ShloMosaic.Init
public import Idealize.ShloMosaic.Lib.Quiescent

@[expose] public section

noncomputable section

namespace Cert.Proof.Aggregated

open Idealize.ShloMosaic Idealize.SL.Sem

theorem frame_kernel : Cert.quiescent_Aggregate := fun m ρ _ => Cert.Aggregate.Gen.frame m ρ

theorem frame_ideal : Cert.quiescent_AggregateIdeal := fun m ρ _ => Cert.AggregateIdeal.Gen.frame m ρ

theorem frame_reference : Cert.quiescent_AggregateReferenceIdeal := fun m ρ _ =>
  (θ_run _ _ _).mono (fun r h => ⟨fun c => (h c).2, sem_eq_zero_of_no_sems (by decide) r.2⟩)
    (Cert.AggregateReferenceIdeal.Value.run m ρ)

/-- The kernel and the reference leave the same sums. -/
theorem agree : Cert.algebraic_AggregateIdeal_AggregateReferenceIdeal := fun m ρ m' ρ' _ hargs =>
  ⟨fun c => Cert.AggregateIdeal.Value.G3 m c, Cert.AggregateIdeal.Value.run (F := Ideal) m ρ,
    (θ_run _ _ _).mono (fun _ h c => ⟨(h c).1.trans (by
        rw [(hargs c).1, (hargs c).2.1, (hargs c).2.2]
        exact (Agg.agree m c).symm), (h c).2⟩) (Cert.AggregateReferenceIdeal.Value.run m' ρ')⟩

end Cert.Proof.Aggregated

end
-- ==== Proof.RankScore.lean ====
/- The ranking kernel's score matrix, read entry by entry: half the sum of the products of the refined row by its length with the query
   row and with the merged query row by its length. -/
module

public import proofs.«01_k».proof.Proof.Gen.RankingIdeal.Value
public import proofs.«01_k».proof.Proof.Reads
public import proofs.«01_k».proof.Proof.Normalize
public import Idealize.ShloMosaic.Lib.Pipeline.ValueKit.Tiles

@[expose] public section

noncomputable section

namespace Cert.Proof.RankScore

open Idealize.ShloMosaic Idealize.ShloMosaic.ValueIdx Cert.RankingIdeal Cert.RankingIdeal.Gen Cert.Proof.Best Cert.Proof.Reads
  Cert.Proof.Normalize

/-- The reference's lower bound of a length. -/
def eps : ℝ := 2305843 / 2305843009213693952

theorem eps_pos : 0 < eps := by unfold eps; norm_num

/-- Its square is the kernel's named constant. -/
theorem eps_sq : Named.named (F := Ideal) Cert.RankingIdeal.κ "eps_sq" (φ := .f32) 0x179ABE15#32 = ((eps ^ 2 : ℝ) : EReal) := by
  show ((5316911940649 / 5316911983139663491615228241121378304 : ℝ) : EReal) = _
  congr 1
  unfold eps
  norm_num

/-- The word of one half. -/
theorem half_eq : FloatOps.ofBits (F := Ideal) .f32 0x3F000000#32 = ((1 / 2 : ℝ) : EReal) := by
  show Ideal.ofBits .f32 0x3F000000#32 = _
  simp [Ideal.ofBits, Ideal.ieee, -EReal.coe_mul]
  norm_num

/-- Every row by its length, as the kernel writes it. -/
def unitV (w : FVec Ideal S256x128 .f32) : FVec Ideal S256x128 .f32 :=
  mulf w (broadcastTo S256x128 (rsqrt (maximumf (shapeCast S256x1 (multiReduction .add [1] S256 (mulf w w) 0x00000000#32
    reduces_S256x128_S256 (.inl rfl) rfl) shapeCasts_S256_S256x1)
      (broadcast S256x1 (Named.named Cert.RankingIdeal.κ "eps_sq" (φ := .f32) 0x179ABE15#32)))) broadcasts_S256x1_S256x128)

theorem unitV_apply (w : FVec Ideal S256x128 .f32) (r : Fin 256) (d : Fin 128) :
    unitV w (ix2 r d) = unit ((eps ^ 2 : ℝ) : EReal) (fun e => w (ix2 r e)) d := by
  unfold unitV Normalize.unit Normalize.sq
  rw [mulf_apply]
  refine congrArg (w (ix2 r d) * ·) ?_
  refine (spread_apply (R := 256) (W := 128) _ _ r d).trans ?_
  refine congrArg Ideal.rsqrt (congrArg₂ max ?_ eps_sq)
  exact rowSum_apply (R := 256) (W := 128) (mulf w w) _ _ _ _ r

/-- One column of scores, as the kernel writes it. -/
def scoreV (q t : FVec Ideal S256x128 .f32) (g : FVec Ideal S256x1x128 .f32) : FVec Ideal S256x1 .f32 :=
  mulf (broadcast S256x1 (Scalar.ofBits .f32 0x3F000000#32)) (addf
    (shapeCast S256x1 (multiReduction .add [1] S256 (mulf (unitV (addf q (shapeCast S256x128 g shapeCasts_S256x1x128_S256x128))) q) 0x00000000#32
      reduces_S256x128_S256 (.inl rfl) rfl) shapeCasts_S256_S256x1)
    (shapeCast S256x1 (multiReduction .add [1] S256 (mulf (unitV (addf q (shapeCast S256x128 g shapeCasts_S256x1x128_S256x128))) (unitV t)) 0x00000000#32
      reduces_S256x128_S256 (.inl rfl) rfl) shapeCasts_S256_S256x1))

/-- A score from the query row `q`, the aggregated row `u` and the merged row `t`. -/
def score (q u t : Fin 128 → EReal) : EReal :=
  ((1 / 2 : ℝ) : EReal) * ((∑ d, unit ((eps ^ 2 : ℝ) : EReal) (fun e => q e + u e) d * q d)
    + ∑ d, unit ((eps ^ 2 : ℝ) : EReal) (fun e => q e + u e) d * unit ((eps ^ 2 : ℝ) : EReal) t d)

theorem isReal_score' (q u t : Fin 128 → EReal) : IsReal (score q u t) :=
  IsReal.mul ⟨_, rfl⟩ (isReal_score eps_pos q u t)

theorem plane_apply (g : FVec Ideal S256x1x128 .f32) (r : Fin 256) (d : Fin 128) :
    shapeCast S256x128 g shapeCasts_S256x1x128_S256x128 (ix2 r d) = g (ix3 r 0 d) := by
  refine shapeCast_apply g _ (ix2 r d) (ix3 r 0 d) ?_
  rw [Shape.rowMajor_val_two, Shape.rowMajor_val_three]
  show (r.val * 1 + 0) * 128 + d.val = r.val * 128 + d.val
  omega

theorem scoreV_apply (q t : FVec Ideal S256x128 .f32) (g : FVec Ideal S256x1x128 .f32) (r : Fin 256) :
    scoreV q t g (ix2 r 0) = score (fun e => q (ix2 r e)) (fun e => g (ix3 r 0 e)) (fun e => t (ix2 r e)) := by
  have hu : ∀ d, unitV (addf q (shapeCast S256x128 g shapeCasts_S256x1x128_S256x128)) (ix2 r d)
      = unit ((eps ^ 2 : ℝ) : EReal) (fun e => q (ix2 r e) + g (ix3 r 0 e)) d := fun d => by
    rw [unitV_apply]
    congr 1
    funext e
    rw [addf_apply, plane_apply]
  unfold scoreV score
  rw [mulf_apply, addf_apply]
  refine congrArg₂ (· * ·) half_eq (congrArg₂ (· + ·) ?_ ?_)
  · refine (rowSum_apply (R := 256) (W := 128) _ _ _ _ _ r).trans (Finset.sum_congr rfl fun d _ => ?_)
    rw [mulf_apply, hu]
  · refine (rowSum_apply (R := 256) (W := 128) _ _ _ _ _ r).trans (Finset.sum_congr rfl fun d _ => ?_)
    rw [mulf_apply, hu, unitV_apply]

theorem slab_inb (k : Fin 10) : ∀ i, (![0, k.val, 0] : Fin 3 → ℕ) i + S256x1x128.size i ≤ S256x10x128.size i := by
  intro i
  match i with
  | 0 => exact le_refl _
  | 1 => exact k.isLt
  | 2 => exact le_refl _

/-- The rows of one rank `k`, a query each. -/
def slab (x : Vec Ideal S256x10x128 .f32) (k : Fin 10) : Vec Ideal S256x1x128 .f32 :=
  View.ld x (Rect.unit (s := S256x10x128) ![0, k.val, 0] S256x1x128.size (slab_inb k))

theorem slab_apply (x : Vec Ideal S256x10x128 .f32) (k : Fin 10) (r : Fin 256) (d : Fin 128) : slab x k (ix3 r 0 d) = x (ix3 r k d) := by
  unfold slab
  refine congrArg x (funext fun a => Fin.ext ?_)
  rw [Rect.idx_unit_val]
  match a with
  | 0 => exact Nat.zero_add _
  | 1 => exact Nat.add_zero _
  | 2 => exact Nat.zero_add _

variable (x0 : Vec Ideal S256x128 .f32) (x1 x2 : Vec Ideal S256x10x128 .f32) (x3 : Vec Ideal S256x10 .i32)

theorem whole_eq : View.ld x0 r0_0 = x0 := View.ld_unit_zero (S := S256x128) (funext fun a => match a with | 0 => rfl | 1 => rfl) _ x0

/-- The score matrix. -/
def scores : FVec Ideal S256x10 .f32 :=
  k0_pay28 (k0_pay40 x0 x1 x2 x3) (k0_pay41 x0 x1 x2 x3) (k0_pay42 x0 x1 x2 x3) (k0_pay43 x0 x1 x2 x3) (k0_pay44 x0 x1 x2 x3)
    (k0_pay45 x0 x1 x2 x3) (k0_pay46 x0 x1 x2 x3) (k0_pay47 x0 x1 x2 x3) (k0_pay48 x0 x1 x2 x3) (k0_pay49 x0 x1 x2 x3)
    (k0_pay50 x0 x1 x2 x3) (k0_pay51 x0 x1 x2 x3)

/-- One column of the score matrix. -/
def column (k : Fin 10) : FVec Ideal S256x1 .f32 := scoreV (View.ld x0 r0_0) (k0_pay37 x0 x1 x2 x3) (slab x2 k)

theorem columns_concat : Shape.Concatenates ((List.ofFn fun k : Fin 10 => (⟨S256x1, column x0 x1 x2 x3 k⟩ :
    (s : Shape) × (s.Idx → Ideal .f32))).map (·.1)) S256x10 1 := by
  show Shape.Concatenates (List.replicate 10 S256x1) S256x10 1
  decide

theorem scores_eq : scores x0 x1 x2 x3 = concatenate S256x10 1 (List.ofFn fun k : Fin 10 => (⟨S256x1, column x0 x1 x2 x3 k⟩ :
    (s : Shape) × (s.Idx → Ideal .f32))) (columns_concat x0 x1 x2 x3) := rfl

theorem scores_apply (r : Fin 256) (m : Fin 10) : scores x0 x1 x2 x3 (ix2 r m)
    = score (fun e => x0 (ix2 r e)) (fun e => x2 (ix3 r m e)) (fun e => k0_pay37 x0 x1 x2 x3 (ix2 r e)) := by
  rw [scores_eq, concatenate_ofFn_unit_apply (1 : Fin S256x10.rank) (column x0 x1 x2 x3) _ rfl rfl (ix2 r m) m rfl (ix2 r 0) ?_]
  · unfold column
    rw [scoreV_apply, whole_eq]
    simp only [slab_apply]
  · intro b hb
    match b with
    | 0 => rfl
    | 1 => exact absurd rfl hb

/-- The merged row: the largest of the query's entry and those of its first nine rows. -/
theorem merged_apply (r : Fin 256) (d : Fin 128) : k0_pay37 x0 x1 x2 x3 (ix2 r d)
    = Finset.univ.sup (Fin.cons (x0 (ix2 r d)) fun k : Fin 9 => x1 (ix3 r (k.castLE (by decide)) d) : Fin 10 → EReal) := by
  have h : k0_pay37 x0 x1 x2 x3 (ix2 r d) = max (max (max (max (max (max (max (max (max (View.ld x0 r0_0 (ix2 r d))
      (shapeCast S256x128 (slab x1 0) shapeCasts_S256x1x128_S256x128 (ix2 r d)))
      (shapeCast S256x128 (slab x1 1) shapeCasts_S256x1x128_S256x128 (ix2 r d)))
      (shapeCast S256x128 (slab x1 2) shapeCasts_S256x1x128_S256x128 (ix2 r d)))
      (shapeCast S256x128 (slab x1 3) shapeCasts_S256x1x128_S256x128 (ix2 r d)))
      (shapeCast S256x128 (slab x1 4) shapeCasts_S256x1x128_S256x128 (ix2 r d)))
      (shapeCast S256x128 (slab x1 5) shapeCasts_S256x1x128_S256x128 (ix2 r d)))
      (shapeCast S256x128 (slab x1 6) shapeCasts_S256x1x128_S256x128 (ix2 r d)))
      (shapeCast S256x128 (slab x1 7) shapeCasts_S256x1x128_S256x128 (ix2 r d)))
      (shapeCast S256x128 (slab x1 8) shapeCasts_S256x1x128_S256x128 (ix2 r d)) := rfl
  rw [h, whole_eq]
  simp only [plane_apply, slab_apply]
  refine le_antisymm ?_ (Finset.sup_le fun k _ => ?_)
  · have key : ∀ k : Fin 10, (Fin.cons (x0 (ix2 r d)) fun k : Fin 9 => x1 (ix3 r (k.castLE (by decide)) d) : Fin 10 → EReal) k
      ≤ Finset.univ.sup (Fin.cons (x0 (ix2 r d)) fun k : Fin 9 => x1 (ix3 r (k.castLE (by decide)) d) : Fin 10 → EReal) :=
      fun k => Finset.le_sup (Finset.mem_univ k)
    exact max_le (max_le (max_le (max_le (max_le (max_le (max_le (max_le (max_le (key 0) (key 1)) (key 2)) (key 3)) (key 4))
      (key 5)) (key 6)) (key 7)) (key 8)) (key 9)
  · refine Fin.cases ?_ (fun k => ?_) k
    · simp only [Fin.cons_zero]
      simp only [le_max_iff, le_refl, true_or]
    · simp only [Fin.cons_succ]
      fin_cases k <;> simp [le_max_iff]

end Cert.Proof.RankScore
-- ==== Proof.RankTop.lean ====
/- The three rounds of the ranking kernel: each takes the greatest remaining score of a row, the first of equals, and strikes it. -/
module

public import proofs.«01_k».proof.Proof.RankScore

@[expose] public section

noncomputable section

namespace Cert.Proof.RankTop

open Idealize.ShloMosaic Idealize.ShloMosaic.ValueIdx Cert.RankingIdeal Cert.RankingIdeal.Gen Cert.Proof.Best Cert.Proof.Reads
  Cert.Proof.RankScore

/-- The column numbers. -/
def colV : IVec S256x10 32 := iota .tc S256x10 32 [1] iota_S256x10_d1_w32

theorem colV_apply (r : Fin 256) (c : Fin 10) : colV (ix2 r c) = BitVec.ofNat 32 c.val := by
  unfold colV
  rw [iota_single_apply]

/-- The greatest score of each row. -/
def maxV (s : FVec Ideal S256x10 .f32) : FVec Ideal S256x1 .f32 :=
  shapeCast S256x1 (multiReduction .maximumf [1] S256 s 0xFF800000#32 reduces_S256x10_S256 (.inl rfl) rfl) shapeCasts_S256_S256x1

/-- The first column holding it. -/
def pickV (s : FVec Ideal S256x10 .f32) : IVec S256x1 32 :=
  shapeCast S256x1 (multiReductionI .minsi [1] S256 (select (cmpf .oeq s (broadcastTo S256x10 (maxV s) broadcasts_S256x1_S256x10))
    colV (broadcast S256x10 2147483647#32)) 2147483647#32 reduces_S256x10_S256 rfl) shapeCasts_S256_S256x1

/-- The scores with the picked column struck. -/
def nextV (s : FVec Ideal S256x10 .f32) : FVec Ideal S256x10 .f32 :=
  select (cmpi .eq colV (broadcastTo S256x10 (pickV s) broadcasts_S256x1_S256x10))
    (broadcast S256x10 (Named.named Cert.RankingIdeal.κ "lowest" (φ := .f32) 0xFF61B1E6#32)) s

/-- The identifiers in the picked column. -/
def idV (a : IVec S256x10 32) (p : IVec S256x1 32) : IVec S256x1 32 :=
  shapeCast S256x1 (multiReductionI .add [1] S256 (select (cmpi .eq colV (broadcastTo S256x10 p broadcasts_S256x1_S256x10)) a
    (broadcast S256x10 0#32)) 0#32 reduces_S256x10_S256 rfl) shapeCasts_S256_S256x1

/-- A sum of words all but one of which are zero. -/
theorem fold_addi_single {W : ℕ} (T : Finset (Fin W)) (x : Fin W) (v : Fin W → BitVec 32) :
    T.fold IntOp.addi 0#32 (fun c => if c = x then v c else 0#32) = if x ∈ T then v x else 0#32 := by
  classical
  induction T using Finset.induction_on with
  | empty => rfl
  | insert a T ha ih =>
    rw [Finset.fold_insert ha, ih]
    show (if a = x then v a else 0#32) + (if x ∈ T then v x else 0#32) = _
    by_cases h : a = x
    · subst h
      rw [if_pos rfl, if_neg ha, if_pos (Finset.mem_insert_self _ _), BitVec.add_zero]
    · rw [if_neg h, BitVec.zero_add]
      have : x ∈ insert a T ↔ x ∈ T := by rw [Finset.mem_insert]; exact or_iff_right (Ne.symm h)
      by_cases hx : x ∈ T
      · rw [if_pos hx, if_pos (this.mpr hx)]
      · rw [if_neg hx, if_neg fun h' => hx (this.mp h')]

theorem ofNat_inj {a b : ℕ} (ha : a < 10) (hb : b < 10) : BitVec.ofNat 32 a = BitVec.ofNat 32 b ↔ a = b := by
  constructor
  · intro h
    have := congrArg BitVec.toNat h
    rw [BitVec.toNat_ofNat, BitVec.toNat_ofNat] at this
    omega
  · rintro rfl; rfl

theorem idV_apply (a : IVec S256x10 32) (p : IVec S256x1 32) (r : Fin 256) (x : Fin 10) (hp : p (ix2 r 0) = BitVec.ofNat 32 x.val) :
    idV a p (ix2 r 0) = a (ix2 r x) := by
  have key : ∀ c : Fin 10, select (cmpi .eq colV (broadcastTo S256x10 p broadcasts_S256x1_S256x10)) a (broadcast S256x10 0#32) (ix2 r c)
      = if c = x then a (ix2 r c) else 0#32 := fun c => by
    refine (rowSelect_apply (R := 256) (W := 10) colV p _ _ _ r c).trans ?_
    rw [hp, colV_apply]
    by_cases h : c = x
    · rw [if_pos h, if_pos (by rw [h])]
    · rw [if_neg h, if_neg fun h' => h (Fin.ext ((ofNat_inj c.isLt x.isLt).mp h'))]; rfl
  refine (rowAddI_apply (R := 256) (W := 10) _ _ _ _ r).trans ?_
  refine Eq.trans ?_ ((fold_addi_single (Finset.univ : Finset (Fin 10)) x fun c => a (ix2 r c)).trans (if_pos (Finset.mem_univ x)))
  exact congrArg (fun v => (Finset.univ : Finset (Fin 10)).fold IntOp.addi 0#32 v) (funext key)

/-- **One round.** -/
theorem step (f : ℕ → EReal) (s : FVec Ideal S256x10 .f32) (r : Fin 256) (S : Finset ℕ) (hS : ∀ i ∈ S, i < 10) (hne : S.Nonempty)
    (hf : ∀ i ∈ S, f i ≠ ⊥) (hs : ∀ c : Fin 10, s (ix2 r c) = if c.val ∈ S then f c.val else ⊥) :
    ∃ x, IsBest f S x ∧ maxV s (ix2 r 0) = f x ∧ pickV s (ix2 r 0) = BitVec.ofNat 32 x
      ∧ ∀ c : Fin 10, nextV s (ix2 r c) = if c.val ∈ S.erase x then f c.val else ⊥ := by
  have hmax : maxV s (ix2 r 0) = top fun c : Fin 10 => s (ix2 r c) := rowMax_apply (R := 256) (W := 10) s _ _ _ _ r
  obtain ⟨x, hbest, _, htop, hx, hmin⟩ := round (f := f) (fun c : Fin 10 => s (ix2 r c)) (fun c => c.val) S hne
    ⟨hne.choose, hne.choose_spec, hf _ hne.choose_spec⟩
    (fun c => by
      by_cases h : c.val ∈ S
      · exact .inl ⟨h, by simp only [hs, if_pos h]⟩
      · exact .inr (by simp only [hs, if_neg h]))
    (fun i hi => ⟨⟨i, hS i hi⟩, hi, by simp only [hs, if_pos hi], .inl rfl⟩)
  have hpick : pickV s (ix2 r 0) = BitVec.ofNat 32 x :=
    rowPick_apply (R := 256) (W := 10) s (maxV s) colV _ _ _ _ r (fun c => c.val) (fun c _ => colV_apply r c)
      (fun c _ => by have := c.isLt; omega) (by rw [hmax]; exact hx) (by rw [hmax]; exact hmin)
  refine ⟨x, hbest, hmax.trans htop, hpick, fun c => ?_⟩
  refine (rowSelect_apply (R := 256) (W := 10) colV (pickV s) _ _ _ r c).trans ?_
  rw [hpick, colV_apply, hs]
  have hx10 : x < 10 := hS x hbest.1
  by_cases h : c.val = x
  · rw [if_pos (by rw [h]), if_neg (by rw [h]; exact Finset.notMem_erase _ _)]; rfl
  · rw [if_neg fun h' => h ((ofNat_inj c.isLt hx10).mp h')]
    by_cases hc : c.val ∈ S
    · rw [if_pos hc, if_pos (Finset.mem_erase.mpr ⟨h, hc⟩)]
    · rw [if_neg hc, if_neg fun h' => hc (Finset.mem_erase.mp h').2]

/-- A row's scores by column number. -/
def rowOf (s : FVec Ideal S256x10 .f32) (r : Fin 256) (i : ℕ) : EReal := if h : i < 10 then s (ix2 r ⟨i, h⟩) else ⊥

theorem rowOf_val (s : FVec Ideal S256x10 .f32) (r : Fin 256) (c : Fin 10) : rowOf s r c.val = s (ix2 r c) := dif_pos c.isLt

/-- **The three rounds** take a row's three best columns in order. -/
theorem rounds (s : FVec Ideal S256x10 .f32) (r : Fin 256) (hs : ∀ c : Fin 10, s (ix2 r c) ≠ ⊥) :
    ∃ σ : ℕ → ℕ, Chain (rowOf s r) (Finset.range 10) 3 σ
      ∧ (maxV s (ix2 r 0) = rowOf s r (σ 0) ∧ maxV (nextV s) (ix2 r 0) = rowOf s r (σ 1) ∧ maxV (nextV (nextV s)) (ix2 r 0) = rowOf s r (σ 2))
      ∧ pickV s (ix2 r 0) = BitVec.ofNat 32 (σ 0) ∧ pickV (nextV s) (ix2 r 0) = BitVec.ofNat 32 (σ 1)
      ∧ pickV (nextV (nextV s)) (ix2 r 0) = BitVec.ofNat 32 (σ 2) := by
  have hf : ∀ i ∈ Finset.range 10, rowOf s r i ≠ ⊥ := fun i hi => by
    rw [rowOf, dif_pos (Finset.mem_range.mp hi)]; exact hs _
  have hin : ∀ {S : Finset ℕ} {x : ℕ}, (∀ i ∈ S, i ∈ Finset.range 10) → ∀ i ∈ S.erase x, i ∈ Finset.range 10 :=
    fun h i hi => h i (Finset.mem_of_mem_erase hi)
  obtain ⟨x, hx, mx, px, nx⟩ := step (rowOf s r) s r (Finset.range 10) (fun i hi => Finset.mem_range.mp hi) ⟨0, by simp⟩ hf
    (fun c => by rw [if_pos (Finset.mem_range.mpr c.isLt), rowOf_val])
  have cx : ((Finset.range 10).erase x).card = 9 := by rw [Finset.card_erase_of_mem hx.1, Finset.card_range]
  obtain ⟨y, hy, my, py, ny⟩ := step (rowOf s r) (nextV s) r ((Finset.range 10).erase x)
    (fun i hi => Finset.mem_range.mp (hin (fun _ h => h) i hi)) (Finset.card_pos.mp (by omega)) (fun i hi => hf i (hin (fun _ h => h) i hi)) nx
  have cy : (((Finset.range 10).erase x).erase y).card = 8 := by rw [Finset.card_erase_of_mem hy.1, cx]
  obtain ⟨z, hz, mz, pz, _⟩ := step (rowOf s r) (nextV (nextV s)) r (((Finset.range 10).erase x).erase y)
    (fun i hi => Finset.mem_range.mp (hin (hin fun _ h => h) i hi)) (Finset.card_pos.mp (by omega))
    (fun i hi => hf i (hin (hin fun _ h => h) i hi)) ny
  refine ⟨fun n => if n = 0 then x else if n = 1 then y else z, ?_, ⟨mx, my, mz⟩, px, py, pz⟩
  have h0 : Chain (rowOf s r) (Finset.range 10) 0 (fun n => if n = 0 then x else if n = 1 then y else z) := fun n hn => absurd hn (by omega)
  refine ((h0.snoc ?_).snoc ?_).snoc ?_
  · rw [picks_zero, Finset.sdiff_empty]; exact hx
  · rw [picks_succ, picks_zero, Finset.sdiff_insert, Finset.sdiff_empty]; exact hy
  · rw [picks_succ, picks_succ, picks_zero, Finset.sdiff_insert, Finset.sdiff_insert, Finset.sdiff_empty]; exact hz

variable (x0 : Vec Ideal S256x128 .f32) (x1 x2 : Vec Ideal S256x10x128 .f32) (x3 : Vec Ideal S256x10 .i32)

/-- The three columns of values. -/
def valueCol (k : Fin 3) : FVec Ideal S256x1 .f32 :=
  match k with
  | 0 => maxV (scores x0 x1 x2 x3)
  | 1 => maxV (nextV (scores x0 x1 x2 x3))
  | 2 => maxV (nextV (nextV (scores x0 x1 x2 x3)))

/-- The three columns of identifiers. -/
def idCol (k : Fin 3) : IVec S256x1 32 :=
  match k with
  | 0 => idV x3 (pickV (scores x0 x1 x2 x3))
  | 1 => idV x3 (pickV (nextV (scores x0 x1 x2 x3)))
  | 2 => idV x3 (pickV (nextV (nextV (scores x0 x1 x2 x3))))

theorem values_eq : Cert.RankingIdeal.Value.G5 x0 x1 x2 x3 = concatenate S256x3 1 (List.ofFn fun k : Fin 3 =>
    (⟨S256x1, valueCol x0 x1 x2 x3 k⟩ : (s : Shape) × (s.Idx → Ideal .f32))) concatenates_S256x1_S256x1_S256x1_S256x3_d1 := rfl

theorem ids_eq : Cert.RankingIdeal.Value.G4 x0 x1 x2 x3 = concatenate S256x3 1 (List.ofFn fun k : Fin 3 =>
    (⟨S256x1, idCol x0 x1 x2 x3 k⟩ : (s : Shape) × (s.Idx → BitVec 32))) concatenates_S256x1_S256x1_S256x1_S256x3_d1 := rfl

theorem scores_ne_bot (r : Fin 256) (c : Fin 10) : scores x0 x1 x2 x3 (ix2 r c) ≠ ⊥ := by
  rw [scores_apply]; exact (isReal_score' _ _ _).ne_bot

/-- **What the ranking kernel writes**, row by row. -/
theorem kernel_row (r : Fin 256) : ∃ σ : ℕ → ℕ, ∃ h : ∀ n < 3, σ n < 10, Chain (rowOf (scores x0 x1 x2 x3) r) (Finset.range 10) 3 σ
    ∧ ∀ k : Fin 3, Cert.RankingIdeal.Value.G5 x0 x1 x2 x3 (ix2 r k) = scores x0 x1 x2 x3 (ix2 r ⟨σ k.val, h k.val k.isLt⟩)
      ∧ Cert.RankingIdeal.Value.G4 x0 x1 x2 x3 (ix2 r k) = x3 (ix2 r ⟨σ k.val, h k.val k.isLt⟩) := by
  obtain ⟨σ, hc, hv, p0, p1, p2⟩ := rounds (scores x0 x1 x2 x3) r (scores_ne_bot x0 x1 x2 x3 r)
  have h : ∀ n < 3, σ n < 10 := fun n hn => Finset.mem_range.mp (hc.mem hn)
  have side : ∀ k : Fin 3, ∀ b : Fin S256x1.rank, b.cast rfl ≠ (1 : Fin S256x3.rank) → ((ix2 r (0 : Fin 1) : S256x1.Idx) b).val
      = ((ix2 r k : S256x3.Idx) (b.cast rfl)).val := fun k b hb => by
    match b with
    | 0 => rfl
    | 1 => exact absurd rfl hb
  refine ⟨σ, h, hc, fun k => ⟨?_, ?_⟩⟩
  · refine (congrFun (values_eq x0 x1 x2 x3) (ix2 r k)).trans ((concatenate_ofFn_unit_apply (1 : Fin S256x3.rank) (valueCol x0 x1 x2 x3) _
      rfl rfl (ix2 r k) k rfl (ix2 r 0) (side k)).trans (Eq.trans ?_ (rowOf_val _ r ⟨σ k.val, h k.val k.isLt⟩)))
    match k with
    | 0 => exact hv.1
    | 1 => exact hv.2.1
    | 2 => exact hv.2.2
  · refine (congrFun (ids_eq x0 x1 x2 x3) (ix2 r k)).trans ((concatenate_ofFn_unit_apply (1 : Fin S256x3.rank) (idCol x0 x1 x2 x3) _
      rfl rfl (ix2 r k) k rfl (ix2 r 0) (side k)).trans ?_)
    match k with
    | 0 => exact idV_apply x3 _ r ⟨σ 0, h 0 (by decide)⟩ p0
    | 1 => exact idV_apply x3 _ r ⟨σ 1, h 1 (by decide)⟩ p1
    | 2 => exact idV_apply x3 _ r ⟨σ 2, h 2 (by decide)⟩ p2

end Cert.Proof.RankTop
-- ==== Proof.RankRef.lean ====
/- The ranking reference's score matrix, read entry by entry. -/
module

public import proofs.«01_k».proof.Proof.Gen.RankingReferenceIdeal.Run
public import proofs.«01_k».proof.Proof.RankTop
public import proofs.«01_k».proof.Proof.TopRow

@[expose] public section

noncomputable section

namespace Cert.Proof.RankRef

open Idealize.ShloMosaic Idealize.ShloMosaic.ValueIdx Cert.RankingReferenceIdeal Cert.RankingReferenceIdeal.Gen Cert.Proof.Best
  Cert.Proof.Normalize Cert.Proof.RankScore

/-- The word of the lower bound of a length. -/
theorem eps_eq : FloatOps.ofBits (F := Ideal) .f32 0x2B8CBCCC#32 = ((eps : ℝ) : EReal) := by
  show Ideal.ofBits .f32 0x2B8CBCCC#32 = _
  unfold eps
  simp [Ideal.ofBits, Ideal.ieee, -EReal.coe_mul]
  norm_num

theorem zero_eq : FloatOps.ofBits (F := Ideal) .f32 0x00000000#32 = (0 : EReal) := by
  show Ideal.ofBits .f32 0x00000000#32 = _
  simp [Ideal.ofBits, Ideal.ieee]

theorem two_eq : FloatOps.ofBits (F := Ideal) .f32 0x40000000#32 = ((2 : ℝ) : EReal) := by
  show Ideal.ofBits .f32 0x40000000#32 = _
  simp [Ideal.ofBits, Ideal.ieee, -EReal.coe_mul]
  norm_num

theorem bot_eq : FloatOps.ofBits (F := Ideal) .f32 0xFF800000#32 = (⊥ : EReal) := Reads.negInf_eq

theorem reduces3 : S256x10x128.Reduces [2] S256x10 := by decide
theorem reduces2 : S256x128.Reduces [1] S256 := by decide
theorem reduces1 : S256x10x128.Reduces [1] S256x128 := by decide

theorem lift3 (r : Fin 256) (k : Fin 10) (d : Fin 128) : reduces3.lift (ix2 r k) d = ix3 r k d := by
  funext a
  match a with
  | 0 => rfl
  | 1 => rfl
  | 2 => rfl

theorem lift2 (r : Fin 256) (d : Fin 128) : reduces2.lift (ix1 r) d = ix2 r d := by
  funext a
  match a with
  | 0 => rfl
  | 1 => rfl

theorem lift1 (r : Fin 256) (d : Fin 128) (k : Fin 10) : reduces1.lift (ix2 r d) k = ix3 r k d := by
  funext a
  match a with
  | 0 => rfl
  | 1 => rfl
  | 2 => rfl

/-- Every row of a block of rows by its length. -/
def unit3 (w : FVec Ideal S256x10x128 .f32) : FVec Ideal S256x10x128 .f32 :=
  Host.divf w (broadcastInDim S256x10x128 ![0, 1, 2] bcast_S256x10x1_S256x10x128_0_1_2 (maximumf (Host.sqrt (broadcastInDim S256x10x1 ![0, 1]
    bcast_S256x10_S256x10x1_0_1 (Host.reduceAdd (mulf w w) (constant S_ .f32 0x00000000#32) reducesTo_S256x10x128_S256x10_d2 h_S_)))
      (broadcastInDim S256x10x1 ![] bcast_S_S256x10x1 (constant S_ .f32 0x2B8CBCCC#32))))

/-- Every row by its length. -/
def unit2 (w : FVec Ideal S256x128 .f32) : FVec Ideal S256x128 .f32 :=
  Host.divf w (broadcastInDim S256x128 ![0, 1] bcast_S256x1_S256x128_0_1 (maximumf (Host.sqrt (broadcastInDim S256x1 ![0]
    bcast_S256_S256x1_0 (Host.reduceAdd (mulf w w) (constant S_ .f32 0x00000000#32) reducesTo_S256x128_S256_d1 h_S_)))
      (broadcastInDim S256x1 ![] bcast_S_S256x1 (constant S_ .f32 0x2B8CBCCC#32))))

theorem unit3_apply (w : FVec Ideal S256x10x128 .f32) (r : Fin 256) (k : Fin 10) (d : Fin 128) :
    unit3 w (ix3 r k d) = Normalize.unit ((eps ^ 2 : ℝ) : EReal) (fun e => w (ix3 r k e)) d := by
  rw [unit_eq_div eps_pos]
  refine congrArg (Ideal.div (w (ix3 r k d))) ?_
  refine (broadcastInDim_apply _ _ _ (ix3 r k d) (ix3 r k (0 : Fin 1)) fun a => by
    match a with
    | 0 => rfl
    | 1 => rfl
    | 2 => rfl).trans ?_
  refine congrArg₂ max (congrArg Ideal.sqrt ?_) eps_eq
  refine (broadcastInDim_apply _ _ _ (ix3 r k (0 : Fin 1)) (ix2 r k) fun a => by
    match a with
    | 0 => rfl
    | 1 => rfl).trans ?_
  refine (Ideal.hostReduceAdd_single reducesTo_S256x10x128_S256x10_d2 reduces3 (mulf w w) _ (ix2 r k)).trans ?_
  refine (congrArg (· + _) zero_eq).trans ((zero_add _).trans ?_)
  exact Finset.sum_congr rfl fun e _ => congrArg (mulf w w) (lift3 r k e)

theorem unit2_apply (w : FVec Ideal S256x128 .f32) (r : Fin 256) (d : Fin 128) :
    unit2 w (ix2 r d) = Normalize.unit ((eps ^ 2 : ℝ) : EReal) (fun e => w (ix2 r e)) d := by
  rw [unit_eq_div eps_pos]
  refine congrArg (Ideal.div (w (ix2 r d))) ?_
  refine (broadcastInDim_apply _ _ _ (ix2 r d) (ix2 r (0 : Fin 1)) fun a => by
    match a with
    | 0 => rfl
    | 1 => rfl).trans ?_
  refine congrArg₂ max (congrArg Ideal.sqrt ?_) eps_eq
  refine (broadcastInDim_apply _ _ _ (ix2 r (0 : Fin 1)) (ix1 r) fun a => by
    match a with
    | 0 => rfl).trans ?_
  refine (Ideal.hostReduceAdd_single reducesTo_S256x128_S256_d1 reduces2 (mulf w w) _ (ix1 r)).trans ?_
  refine (congrArg (· + _) zero_eq).trans ((zero_add _).trans ?_)
  exact Finset.sum_congr rfl fun e _ => congrArg (mulf w w) (lift2 r e)

variable (a0 : FVec Ideal S256x128 .f32) (a1 a2 : FVec Ideal S256x10x128 .f32)

/-- The query row added to each of its aggregated rows. -/
def refined : FVec Ideal S256x10x128 .f32 :=
  addf (broadcastInDim S256x10x128 ![0, 1, 2] bcast_S256x1x128_S256x10x128_0_1_2
    (broadcastInDim S256x1x128 ![0, 2] bcast_S256x128_S256x1x128_0_2 a0)) a2

theorem refined_apply (r : Fin 256) (k : Fin 10) (d : Fin 128) : refined a0 a2 (ix3 r k d) = a0 (ix2 r d) + a2 (ix3 r k d) := by
  refine congrArg (· + a2 (ix3 r k d)) ?_
  refine (broadcastInDim_apply _ _ _ (ix3 r k d) (ix3 r (0 : Fin 1) d) fun a => by
    match a with
    | 0 => rfl
    | 1 => rfl
    | 2 => rfl).trans ?_
  exact broadcastInDim_apply _ _ a0 (ix3 r (0 : Fin 1) d) (ix2 r d) fun a => by
    match a with
    | 0 => rfl
    | 1 => rfl

/-- The query row over its first nine rows. -/
def stacked : FVec Ideal S256x10x128 .f32 :=
  concatenate S256x10x128 1 [⟨S256x1x128, broadcastInDim S256x1x128 ![0, 2] bcast_S256x128_S256x1x128_0_2 a0⟩,
    ⟨S256x9x128, extractStridedSlice S256x9x128 ![0, 0, 0] a1 slices_S256x10x128_S256x9x128_0_0_0⟩]
    concatenates_S256x1x128_S256x9x128_S256x10x128_d1

theorem stacked_zero (r : Fin 256) (d : Fin 128) : stacked a0 a1 (ix3 r 0 d) = a0 (ix2 r d) := by
  refine (concatenate_pair_apply_left (t := S256x10x128) (s₁ := S256x1x128) (s₂ := S256x9x128) (1 : Fin 3) _ _ concatenates_S256x1x128_S256x9x128_S256x10x128_d1 (ix3 r 0 d) rfl
    (ix3 r (0 : Fin 1) d : S256x1x128.Idx) fun b => by
      match b with
      | 0 => rfl
      | 1 => rfl
      | 2 => rfl).trans ?_
  exact broadcastInDim_apply _ _ a0 (ix3 r (0 : Fin 1) d) (ix2 r d) fun a => by
    match a with
    | 0 => rfl
    | 1 => rfl

theorem stacked_succ (r : Fin 256) (k : Fin 9) (d : Fin 128) :
    stacked a0 a1 (ix3 r k.succ d) = a1 (ix3 r (k.castLE (by decide)) d) := by
  refine (concatenate_pair_apply_right (t := S256x10x128) (s₁ := S256x1x128) (s₂ := S256x9x128) (1 : Fin 3) _ _ concatenates_S256x1x128_S256x9x128_S256x10x128_d1 (ix3 r k.succ d) rfl rfl
    (ix3 r k d : S256x9x128.Idx) (fun b hb => by
      match b with
      | 0 => rfl
      | 1 => exact absurd rfl hb
      | 2 => rfl) rfl).trans ?_
  exact extractStridedSlice_apply _ a1 _ (ix3 r k d : S256x9x128.Idx) (ix3 r (k.castLE (by decide)) d : S256x10x128.Idx) fun a => by
    match a with
    | 0 => exact (Nat.zero_add _).symm
    | 1 => exact (Nat.zero_add _).symm
    | 2 => exact (Nat.zero_add _).symm

/-- The merged row. -/
def merged : FVec Ideal S256x128 .f32 :=
  Host.reduce FloatOps.maximumf (stacked a0 a1) (constant S_ .f32 0xFF800000#32) reducesTo_S256x10x128_S256x128_d1 h_S_

theorem merged_apply (r : Fin 256) (d : Fin 128) : merged a0 a1 (ix2 r d)
    = Finset.univ.sup (Fin.cons (a0 (ix2 r d)) fun k : Fin 9 => a1 (ix3 r (k.castLE (by decide)) d) : Fin 10 → EReal) := by
  refine (Host.reduce_eq_fold_single (FloatOps.maximumf (F := Ideal) (φ := .f32)) _ _ reducesTo_S256x10x128_S256x128_d1 reduces1 h_S_ (ix2 r d)).trans ?_
  refine (congrArg₂ (fun i v => (Finset.univ : Finset (Fin 10)).fold max i v) bot_eq (funext fun k : Fin 10 => ?_)).trans
    (Reads.fold_max_eq_top _)
  refine (congrArg (stacked a0 a1) (lift1 r d k)).trans ?_
  refine Fin.cases ?_ (fun k => ?_) k
  · rw [Fin.cons_zero]; exact stacked_zero a0 a1 r d
  · rw [Fin.cons_succ]; exact stacked_succ a0 a1 r k d

/-- The score matrix. -/
def scores : FVec Ideal S256x10 .f32 :=
  Host.divf (addf (Host.dotGeneral dot_S256x10x128_S256x128_S256x10_2_1_1_n_0_0 none (unit3 (refined a0 a2)) a0)
    (Host.dotGeneral dot_S256x10x128_S256x128_S256x10_2_1_1_n_0_0 none (unit3 (refined a0 a2)) (unit2 (merged a0 a1))))
    (broadcastInDim S256x10 ![] bcast_S_S256x10 (constant S_ .f32 0x40000000#32))

theorem dot_apply (x : FVec Ideal S256x10x128 .f32) (y : FVec Ideal S256x128 .f32) (r : Fin 256) (k : Fin 10) :
    Host.dotGeneral dot_S256x10x128_S256x128_S256x10_2_1_1_n_0_0 none x y (ix2 r k) = ∑ d : Fin 128, x (ix3 r k d) * y (ix2 r d) := by
  refine (Ideal.dotGeneral_apply dot_S256x10x128_S256x128_S256x10_2_1_1_n_0_0 none _ x y (ix2 r k)).trans ?_
  refine (Equiv.sum_comp (contrEquiv1 dot_S256x10x128_S256x128_S256x10_2_1_1_n_0_0 128 rfl rfl).symm _).symm.trans ?_
  refine Finset.sum_congr rfl fun d _ => congrArg₂ (· * ·) (congrArg x (funext fun a => ?_)) (congrArg y (funext fun a => ?_))
  · match a with
    | 0 => rfl
    | 1 => rfl
    | 2 => rfl
  · match a with
    | 0 => rfl
    | 1 => rfl

/-- Half a real number is the number over two. -/
theorem div_two (x : EReal) : Ideal.div x ((2 : ℝ) : EReal) = ((1 / 2 : ℝ) : EReal) * x := by
  rw [Ideal.div_coe (by norm_num), mul_comm]

theorem scores_apply (r : Fin 256) (k : Fin 10) : scores a0 a1 a2 (ix2 r k)
    = score (fun e => a0 (ix2 r e)) (fun e => a2 (ix3 r k e)) (fun e => merged a0 a1 (ix2 r e)) := by
  have hu : ∀ d, unit3 (refined a0 a2) (ix3 r k d)
      = Normalize.unit ((eps ^ 2 : ℝ) : EReal) (fun e => a0 (ix2 r e) + a2 (ix3 r k e)) d := fun d => by
    rw [unit3_apply]; congr 1; funext e; exact refined_apply a0 a2 r k e
  have h2 : broadcastInDim S256x10 ![] bcast_S_S256x10 (constant (F := Ideal) S_ .f32 0x40000000#32) (ix2 r k) = ((2 : ℝ) : EReal) :=
    (broadcastInDim_scalar_apply _ _ _).trans two_eq
  have h : scores a0 a1 a2 (ix2 r k) = Ideal.div
      (Host.dotGeneral dot_S256x10x128_S256x128_S256x10_2_1_1_n_0_0 none (unit3 (refined a0 a2)) a0 (ix2 r k)
        + Host.dotGeneral dot_S256x10x128_S256x128_S256x10_2_1_1_n_0_0 none (unit3 (refined a0 a2)) (unit2 (merged a0 a1)) (ix2 r k))
      (broadcastInDim S256x10 ![] bcast_S_S256x10 (constant (F := Ideal) S_ .f32 0x40000000#32) (ix2 r k)) := rfl
  rw [h, h2, div_two, dot_apply, dot_apply]
  unfold score
  refine congrArg (((1 / 2 : ℝ) : EReal) * ·) (congrArg₂ (· + ·) ?_ ?_)
  · exact Finset.sum_congr rfl fun d _ => by rw [hu]
  · exact Finset.sum_congr rfl fun d _ => by rw [hu, unit2_apply]

/-- The reference's scores are the kernel's. -/
theorem scores_eq (x3 : Vec Ideal S256x10 .i32) : scores a0 a1 a2 = RankScore.scores a0 a1 a2 x3 := by
  funext j
  obtain ⟨r, k, rfl⟩ : ∃ (r : Fin 256) (k : Fin 10), j = ix2 r k := ⟨j 0, j 1, eq_ix2 j⟩
  rw [scores_apply, RankScore.scores_apply]
  exact congrArg (score _ _) (funext fun e => (merged_apply a0 a1 r e).trans (RankScore.merged_apply a0 a1 a2 x3 r e).symm)

variable (a3 : IVec S256x10 32)

/-- The positions of the three greatest scores of each row. -/
def places : IVec S256x3 32 := (Host.topK S256x3 1 (FloatOps.cmpfTotal .gt) (scores a0 a1 a2) sliceFits_S256x10_S256x3).2

/-- Positions as start indices: a negative one counts from the end. -/
def starts (p : IVec S256x3 32) : IVec S256x3x1 32 :=
  shapeCast S256x3x1 (select (cmpi .slt p (broadcastInDim S256x3 ![] bcast_S_S256x3 (constantI S_ 32 0#32)))
    (addi p (broadcastInDim S256x3 ![] bcast_S_S256x3 (constantI S_ 32 10#32))) p) shapeCasts_S256x3_S256x3x1

/-- The entries of the rows of `a3` at those positions, a fixed word at a position out of range. -/
def taken (p : IVec S256x3 32) : IVec S256x3 32 :=
  select (Host.reduce IntOp.andi (andi (cmpi .sge (starts p) (broadcastInDim S256x3x1 ![] bcast_S_S256x3x1 (constantI S_ 32 0#32)))
      (cmpi .sle (starts p) (broadcastInDim S256x3x1 ![0, 1, 2] bcast_S1x1x1_S256x3x1_0_1_2
        (broadcastInDim S1x1x1 ![2] bcast_S1_S1x1x1_2 (constantI S1 32 9#32)))))
      (constantI S_ 1 1#1) reducesTo_S256x3x1_S256x3_d2 h_S_)
    (Host.gather gather_S256x10_S256x3x1_S256x3_n_1_0_0_1_2_11 a3 (starts p))
    (broadcastInDim S256x3 ![] bcast_S_S256x3 (constantI S_ 32 2147483648#32))

theorem fold_one (v : Fin 1 → BitVec 1) : (Finset.univ : Finset (Fin 1)).fold IntOp.andi 1#1 v = IntOp.andi (v 0) 1#1 := by
  rw [Finset.univ_unique, Finset.fold_singleton]
  rfl

theorem reducesT : S256x3x1.Reduces [2] S256x3 := by decide

theorem starts_apply (p : IVec S256x3 32) (r : Fin 256) (k : Fin 3) (c : Fin 10) (hp : p (ix2 r k) = BitVec.ofNat 32 c.val) :
    starts p (ix3 r k 0) = BitVec.ofNat 32 c.val := by
  refine (shapeCast_apply _ shapeCasts_S256x3_S256x3x1 (ix3 r k 0) (ix2 r k) ?_).trans ?_
  · rw [Shape.rowMajor_val_two, Shape.rowMajor_val_three]
    show r.val * 3 + k.val = (r.val * 3 + k.val) * 1 + 0
    omega
  · show Scalar.select (IntOp.cmpi .slt (p (ix2 r k)) 0#32) (IntOp.addi (p (ix2 r k)) 10#32) (p (ix2 r k)) = _
    have hc : ∀ c : Fin 10, Scalar.select (IntOp.cmpi .slt (BitVec.ofNat 32 c.val) 0#32) (IntOp.addi (BitVec.ofNat 32 c.val) 10#32)
        (BitVec.ofNat 32 c.val) = BitVec.ofNat 32 c.val := by decide
    rw [hp, hc]

/-- A position in range takes the entry there. -/
theorem taken_apply (p : IVec S256x3 32) (r : Fin 256) (k : Fin 3) (c : Fin 10) (hp : p (ix2 r k) = BitVec.ofNat 32 c.val) :
    taken a3 p (ix2 r k) = a3 (ix2 r c) := by
  have hs := starts_apply p r k c hp
  have hm : Host.reduce IntOp.andi (andi (cmpi .sge (starts p) (broadcastInDim S256x3x1 ![] bcast_S_S256x3x1 (constantI S_ 32 0#32)))
      (cmpi .sle (starts p) (broadcastInDim S256x3x1 ![0, 1, 2] bcast_S1x1x1_S256x3x1_0_1_2
        (broadcastInDim S1x1x1 ![2] bcast_S1_S1x1x1_2 (constantI S1 32 9#32)))))
      (constantI S_ 1 1#1) reducesTo_S256x3x1_S256x3_d2 h_S_ (ix2 r k) = 1#1 := by
    refine (Host.reduce_eq_fold_single IntOp.andi _ _ reducesTo_S256x3x1_S256x3_d2 reducesT h_S_ (ix2 r k)).trans ?_
    have hl : reducesT.lift (ix2 r k) (0 : Fin 1) = ix3 r k 0 := by
      funext a
      match a with
      | 0 => rfl
      | 1 => rfl
      | 2 => rfl
    refine (fold_one _).trans ?_
    show IntOp.andi (IntOp.andi (IntOp.cmpi .sge (starts p (reducesT.lift (ix2 r k) (0 : Fin 1))) 0#32)
      (IntOp.cmpi .sle (starts p (reducesT.lift (ix2 r k) (0 : Fin 1))) 9#32)) 1#1 = 1#1
    have hc : ∀ c : Fin 10, IntOp.andi (IntOp.andi (IntOp.cmpi .sge (BitVec.ofNat 32 c.val) 0#32)
        (IntOp.cmpi .sle (BitVec.ofNat 32 c.val) 9#32)) 1#1 = 1#1 := by decide
    rw [hl, hs, hc]
  show Scalar.select (Host.reduce IntOp.andi _ (constantI S_ 1 1#1) reducesTo_S256x3x1_S256x3_d2 h_S_ (ix2 r k)) _ _ = _
  rw [hm]
  show Host.gather gather_S256x10_S256x3x1_S256x3_n_1_0_0_1_2_11 a3 (starts p) (ix2 r k) = _
  refine congrArg a3 (funext fun a => Fin.ext ?_)
  let d := gather_S256x10_S256x3x1_S256x3_n_1_0_0_1_2_11
  show d.start (ix2 r k) (starts p) a + d.batchCoord (ix2 r k) a + d.offCoord (ix2 r k) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    exact dif_pos (show (0 : Fin 2) ∈ d.operandBatchingDims from List.mem_singleton.mpr rfl)
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    rw [Nat.add_zero]
    unfold GatherDims.start
    refine (dif_pos (show (1 : Fin 2) ∈ d.startIndexMap from List.mem_singleton.mpr rfl)).trans ?_
    have hi : ∀ c : Fin 10, min (BitVec.ofNat 32 c.val).toInt.toNat 9 = c.val := by decide
    refine Eq.trans ?_ ((congrArg (fun w : BitVec 32 => min w.toInt.toNat 9) hs).trans (hi c))
    refine congrArg (fun i => min (starts p i).toInt.toNat 9) (funext fun b => ?_)
    match b with
    | 0 => rfl
    | 1 => rfl
    | 2 => rfl

/-- **The ranking kernel and its reference write the same values and the same identifiers.** -/
theorem agree : Cert.RankingIdeal.Value.G5 (F := Ideal) a0 a1 a2 a3
      = (Host.topK S256x3 1 (FloatOps.cmpfTotal .gt) (scores a0 a1 a2) sliceFits_S256x10_S256x3).1
    ∧ Cert.RankingIdeal.Value.G4 (F := Ideal) a0 a1 a2 a3 = taken a3 (places a0 a1 a2) := by
  have row : ∀ r k, Cert.RankingIdeal.Value.G5 (F := Ideal) a0 a1 a2 a3 (ix2 r k)
        = (Host.topK S256x3 1 (FloatOps.cmpfTotal .gt) (scores a0 a1 a2) sliceFits_S256x10_S256x3).1 (ix2 r k)
      ∧ Cert.RankingIdeal.Value.G4 (F := Ideal) a0 a1 a2 a3 (ix2 r k) = taken a3 (places a0 a1 a2) (ix2 r k) := fun r k => by
    obtain ⟨σ, h10, hσ, hk⟩ := RankTop.kernel_row a0 a1 a2 a3 r
    have top := TopRow.topK_apply (R := 256) (n := 10) (k := 3) (by decide) (scores a0 a1 a2) sliceFits_S256x10_S256x3 r
      (RankTop.rowOf (RankScore.scores a0 a1 a2 a3) r) (fun c => by rw [RankTop.rowOf_val, scores_eq a0 a1 a2 a3]) hσ k
    refine ⟨(hk k).1.trans (Eq.trans ?_ top.1.symm), (hk k).2.trans ?_⟩
    · exact (RankTop.rowOf_val _ r ⟨σ k.val, h10 k.val k.isLt⟩).symm
    · exact (taken_apply a3 (places a0 a1 a2) r k ⟨σ k.val, h10 k.val k.isLt⟩ top.2).symm
  refine ⟨funext fun j => ?_, funext fun j => ?_⟩
  · obtain ⟨r, k, rfl⟩ : ∃ (r : Fin 256) (k : Fin 3), j = ix2 r k := ⟨j 0, j 1, eq_ix2 j⟩
    exact (row r k).1
  · obtain ⟨r, k, rfl⟩ : ∃ (r : Fin 256) (k : Fin 3), j = ix2 r k := ⟨j 0, j 1, eq_ix2 j⟩
    exact (row r k).2

section Terms

variable (m : (ℓ : Loc nD τ sig) → Buf (Elt Ideal) ℓ) (c : Dev nD)

theorem out_values : Cert.RankingReferenceIdeal.Value.res_out1 m c
    = (Host.topK S256x3 1 (FloatOps.cmpfTotal .gt) (scores (m ((c.tc : Thread nD τ).loc main_arg0)) (m ((c.tc : Thread nD τ).loc main_arg1))
        (m ((c.tc : Thread nD τ).loc main_arg2))) sliceFits_S256x10_S256x3).1 := rfl

theorem out_ids : Cert.RankingReferenceIdeal.Value.res_out0 m c
    = taken (m ((c.tc : Thread nD τ).loc main_arg3)) (places (m ((c.tc : Thread nD τ).loc main_arg0)) (m ((c.tc : Thread nD τ).loc main_arg1))
        (m ((c.tc : Thread nD τ).loc main_arg2))) := rfl

end Terms

end Cert.Proof.RankRef
-- ==== Proof.Ranked.lean ====
/- The claims about the final ranking call: its frames (generated legs), what its idealization rewrote, and that it writes the
   values and the identifiers of its reference (Proof/RankRef.lean). -/
module

public import proofs.«01_k».proof.Defs
public import proofs.«01_k».proof.Proof.Gen.Ranking
public import proofs.«01_k».proof.Proof.Gen.Ranking.Frame
public import proofs.«01_k».proof.Proof.Gen.RankingIdeal
public import proofs.«01_k».proof.Proof.Gen.RankingIdeal.Frame
public import proofs.«01_k».proof.Proof.Gen.RankingIdeal.Value
public import proofs.«01_k».proof.Proof.Gen.RankingReferenceIdeal
public import proofs.«01_k».proof.Proof.Gen.RankingReferenceIdeal.Run
public import proofs.«01_k».proof.Proof.RankRef
public import Idealize.ShloMosaic.Adequacy
public import Idealize.ShloMosaic.Init
public import Idealize.ShloMosaic.Lib.Quiescent

@[expose] public section

noncomputable section

namespace Cert.Proof.Ranked

open Idealize.ShloMosaic

theorem frame_kernel : Cert.quiescent_Ranking := fun m ρ _ => Cert.Ranking.Gen.frame m ρ

theorem frame_ideal : Cert.quiescent_RankingIdeal := fun m ρ _ => Cert.RankingIdeal.Gen.frame m ρ

theorem frame_reference : Cert.quiescent_RankingReferenceIdeal := fun m ρ _ =>
  (θ_run _ _ _).mono (fun r h => ⟨fun c => (h c).2.2, sem_eq_zero_of_no_sems (by decide) r.2⟩)
    (Cert.RankingReferenceIdeal.Value.run m ρ)

theorem rewrites : Cert.preserves_Ranking_RankingIdeal :=
  ⟨IdealRules.named_const.statement Cert.RankingIdeal.κ "eps_sq" .f32 0x179ABE15#32 _ rfl,
    IdealRules.named_const.statement Cert.RankingIdeal.κ "lowest" .f32 0xFF61B1E6#32 _ rfl⟩

section Agree

variable (m : (ℓ : Loc Cert.RankingIdeal.nD Cert.RankingIdeal.τ Cert.RankingIdeal.sig) → Buf (Elt Ideal) ℓ) (c : Dev Cert.RankingIdeal.nD)

/-- The query features, as launched. -/
abbrev queries : Vec Ideal Cert.RankingIdeal.S256x128 .f32 := m ((c.tc : Thread Cert.RankingIdeal.nD Cert.RankingIdeal.τ).loc Cert.RankingIdeal.main_arg0)
/-- The candidates' rows, as launched. -/
abbrev rows : Vec Ideal Cert.RankingIdeal.S256x10x128 .f32 := m ((c.tc : Thread Cert.RankingIdeal.nD Cert.RankingIdeal.τ).loc Cert.RankingIdeal.main_arg1)
/-- The aggregated neighbours, as launched. -/
abbrev sums : Vec Ideal Cert.RankingIdeal.S256x10x128 .f32 := m ((c.tc : Thread Cert.RankingIdeal.nD Cert.RankingIdeal.τ).loc Cert.RankingIdeal.main_arg2)
/-- The candidates' identifiers, as launched. -/
abbrev names : Vec Ideal Cert.RankingIdeal.S256x10 .i32 := m ((c.tc : Thread Cert.RankingIdeal.nD Cert.RankingIdeal.τ).loc Cert.RankingIdeal.main_arg3)

end Agree

/-- The kernel and the reference leave the same identifiers and the same values. -/
theorem agree : Cert.algebraic_RankingIdeal_RankingReferenceIdeal := fun m ρ m' ρ' _ hargs =>
  ⟨fun c => Cert.RankingIdeal.Value.G4 (F := Ideal) (queries m c) (rows m c) (sums m c) (names m c),
    fun c => Cert.RankingIdeal.Value.G5 (F := Ideal) (queries m c) (rows m c) (sums m c) (names m c),
    Cert.RankingIdeal.Value.run (F := Ideal) m ρ,
    (θ_run _ _ _).mono (fun _ h c => ⟨(h c).1.trans ((RankRef.out_ids m' c).trans (by
        rw [(hargs c).1, (hargs c).2.1, (hargs c).2.2.1, (hargs c).2.2.2]
        exact (RankRef.agree (queries m c) (rows m c) (sums m c) (names m c)).2.symm)),
      (h c).2.1.trans ((RankRef.out_values m' c).trans (by
        rw [(hargs c).1, (hargs c).2.1, (hargs c).2.2.1]
        exact (RankRef.agree (queries m c) (rows m c) (sums m c) (names m c)).1.symm)), (h c).2.2⟩)
      (Cert.RankingReferenceIdeal.Value.run m' ρ')⟩

end Cert.Proof.Ranked

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_ids_in_rows
public import proofs.«01_k».proof.Proof.Gen.Candidates
public import proofs.«01_k».proof.Proof.Gen.Candidates.Skeleton
public import proofs.«01_k».proof.Proof.Gen.Candidates.Launch
public import proofs.«01_k».proof.Proof.Gen.Candidates.Points
public import proofs.«01_k».proof.Proof.Gen.Candidates.Frame
public import proofs.«01_k».proof.Proof.Gen.CandidatesIdeal
public import proofs.«01_k».proof.Proof.Gen.CandidatesIdeal.Skeleton
public import proofs.«01_k».proof.Proof.Gen.CandidatesIdeal.Launch
public import proofs.«01_k».proof.Proof.Gen.CandidatesIdeal.Points
public import proofs.«01_k».proof.Proof.Gen.CandidatesIdeal.Frame
public import proofs.«01_k».proof.Proof.Gen.CandidatesIdeal.Value
public import proofs.«01_k».proof.Proof.Gen.CandidatesReferenceIdeal
public import proofs.«01_k».proof.Proof.Gen.CandidatesReferenceIdeal.Run
public import proofs.«01_k».proof.Proof.Gen.Pre_finite
public import proofs.«01_k».proof.Proof.Gen.Threshold
public import proofs.«01_k».proof.Proof.Gen.Threshold.Skeleton
public import proofs.«01_k».proof.Proof.Gen.Threshold.Launch
public import proofs.«01_k».proof.Proof.Gen.Threshold.Points
public import proofs.«01_k».proof.Proof.Gen.Threshold.Frame
public import proofs.«01_k».proof.Proof.Gen.ThresholdIdeal
public import proofs.«01_k».proof.Proof.Gen.ThresholdIdeal.Skeleton
public import proofs.«01_k».proof.Proof.Gen.ThresholdIdeal.Launch
public import proofs.«01_k».proof.Proof.Gen.ThresholdIdeal.Points
public import proofs.«01_k».proof.Proof.Gen.ThresholdIdeal.Frame
public import proofs.«01_k».proof.Proof.Gen.ThresholdIdeal.Value
public import proofs.«01_k».proof.Proof.Gen.ThresholdReferenceIdeal
public import proofs.«01_k».proof.Proof.Gen.ThresholdReferenceIdeal.Run
public import proofs.«01_k».proof.Proof.Gen.Pre_distinct
public import proofs.«01_k».proof.Proof.Gen.Aggregate
public import proofs.«01_k».proof.Proof.Gen.Aggregate.Skeleton
public import proofs.«01_k».proof.Proof.Gen.Aggregate.Launch
public import proofs.«01_k».proof.Proof.Gen.Aggregate.Points
public import proofs.«01_k».proof.Proof.Gen.Aggregate.Frame
public import proofs.«01_k».proof.Proof.Gen.AggregateIdeal
public import proofs.«01_k».proof.Proof.Gen.AggregateIdeal.Skeleton
public import proofs.«01_k».proof.Proof.Gen.AggregateIdeal.Launch
public import proofs.«01_k».proof.Proof.Gen.AggregateIdeal.Points
public import proofs.«01_k».proof.Proof.Gen.AggregateIdeal.Frame
public import proofs.«01_k».proof.Proof.Gen.AggregateIdeal.Value
public import proofs.«01_k».proof.Proof.Gen.AggregateReferenceIdeal
public import proofs.«01_k».proof.Proof.Gen.AggregateReferenceIdeal.Run
public import proofs.«01_k».proof.Proof.Gen.Ranking
public import proofs.«01_k».proof.Proof.Gen.Ranking.Skeleton
public import proofs.«01_k».proof.Proof.Gen.Ranking.Launch
public import proofs.«01_k».proof.Proof.Gen.Ranking.Points
public import proofs.«01_k».proof.Proof.Gen.Ranking.Frame
public import proofs.«01_k».proof.Proof.Gen.RankingIdeal
public import proofs.«01_k».proof.Proof.Gen.RankingIdeal.Skeleton
public import proofs.«01_k».proof.Proof.Gen.RankingIdeal.Launch
public import proofs.«01_k».proof.Proof.Gen.RankingIdeal.Points
public import proofs.«01_k».proof.Proof.Gen.RankingIdeal.Frame
public import proofs.«01_k».proof.Proof.Gen.RankingIdeal.Value
public import proofs.«01_k».proof.Proof.Gen.RankingReferenceIdeal
public import proofs.«01_k».proof.Proof.Gen.RankingReferenceIdeal.Run
public import proofs.«01_k».proof.Proof.Rows
public import proofs.«01_k».proof.Proof.RowsIdeal
public import proofs.«01_k».proof.Proof.Rowwise
public import proofs.«01_k».proof.Proof.Chosen
public import proofs.«01_k».proof.Proof.Bounded
public import proofs.«01_k».proof.Proof.Aggregated
public import proofs.«01_k».proof.Proof.Ranked
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The program as printed runs and ends at rest, its arguments unchanged. -/
theorem frame_kernel : Cert.quiescent_Kernel := fun m ρ hpre =>
  (θ_run _ _ _).mono (fun _ h => ⟨fun c => (h.1 c).2, h.2⟩) (Rows.program_run m ρ (Rows.flat_in_rows m hpre))

/-- The idealization runs and ends at rest, its arguments unchanged. -/
theorem frame_ideal : Cert.quiescent_KernelIdeal := fun m ρ hpre =>
  (θ_run _ _ _).mono (fun _ h => ⟨fun c => (h.1 c).2, h.2⟩) (RowsIdeal.program_run m ρ (RowsIdeal.flat_in_rows m hpre))

/-- The reference runs and ends at rest, its arguments unchanged: it declares no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

/-- The idealized gather and the reference end with the same rows. -/
theorem rows_agree : Cert.algebraic_KernelIdeal_ReferenceIdeal := fun m ρ m' ρ' hpre hagree =>
  ⟨fun c => RowsIdeal.goal m (RowsIdeal.flat m) c,
    (θ_run _ _ _).mono (fun _ h c => h.1 c) (RowsIdeal.program_run m ρ (RowsIdeal.flat_in_rows m hpre)),
    (θ_run _ _ _).mono (fun _ h c => ⟨(h c).1.trans (by
      rw [(hagree c).1, (hagree c).2]
      exact Rowwise.rows_eq (F := Ideal) _ (m (RowsIdeal.dbLoc c)) (RowsIdeal.id_in_rows _ _ (hpre c))), (h c).2⟩) (Cert.ReferenceIdeal.Value.run m' ρ')⟩

theorem claim : Cert.Claim :=
  ⟨Cert.Kernel.Gen.facts, Cert.KernelIdeal.Gen.facts, Cert.ReferenceIdeal.Gen.facts, Cert.Candidates.Gen.facts,
    Cert.CandidatesIdeal.Gen.facts, Cert.CandidatesReferenceIdeal.Gen.facts, Cert.Threshold.Gen.facts,
    Cert.ThresholdIdeal.Gen.facts, Cert.ThresholdReferenceIdeal.Gen.facts, Cert.Aggregate.Gen.facts, Cert.AggregateIdeal.Gen.facts,
    Cert.AggregateReferenceIdeal.Gen.facts, Cert.Ranking.Gen.facts, Cert.RankingIdeal.Gen.facts, Cert.RankingReferenceIdeal.Gen.facts,
    Cert.Pre_ids_in_rows.Gen.facts, Cert.Pre_finite.Gen.facts, Cert.Pre_distinct.Gen.facts,
    frame_kernel, frame_ideal, frame_reference, fun m ρ _ => frame_reference m ρ trivial,
    Chosen.frame_kernel, Chosen.frame_ideal, fun m ρ _ => Chosen.frame_ideal m ρ trivial, Chosen.frame_reference,
    fun m ρ _ => Chosen.frame_reference m ρ trivial,
    Bounded.frame_kernel, Bounded.frame_ideal, fun m ρ _ => Bounded.frame_ideal m ρ trivial, Bounded.frame_reference,
    fun m ρ _ => Bounded.frame_reference m ρ trivial,
    Aggregated.frame_kernel, Aggregated.frame_ideal, Aggregated.frame_reference,
    Ranked.frame_kernel, Ranked.frame_ideal, Ranked.frame_reference,
    trivial, rows_agree, Chosen.rewrites, Chosen.agree, Bounded.rewrites, Bounded.agree, trivial, Aggregated.agree, Ranked.rewrites, Ranked.agree⟩

end Cert.Proof

end
